-- ==== Defs.lean ====
def Pre_Kernel [hPre_drafts_in_vocab : Cert.Pre_drafts_in_vocab.Facts] (m : (ℓ : Loc Cert.Kernel.nD Cert.Kernel.τ Cert.Kernel.sig) → Buf (Elt Bits) ℓ) : Prop :=
  ∀ c : Dev Cert.Kernel.nD,
    (Cert.Pre_drafts_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_drafts_in_vocab : Cert.Pre_drafts_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_drafts_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_tables_in_range [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_drafts_in_vocab : Cert.Pre_drafts_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_drafts_in_vocab : Cert.Pre_drafts_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tables_in_range [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_t" .f32 0x4003E74F#32 (((Real.log 2)⁻¹ * (16777216 / 11744051) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln_2" .f32 0x3F317218#32 ((Real.log 2 : ℝ) : EReal)
  ∧ IdealRules.named_const.Statement Cert.KernelIdeal.κ "neg_log2e" .f32 0xBFB8AA3B#32 ((-((Real.log 2)⁻¹) : ℝ) : EReal)

def algebraic_KernelIdeal_ReferenceIdeal_on_only_draft_logp_pre_tables_in_range [hKernelIdeal : Cert.KernelIdeal.Facts] [hReferenceIdeal : Cert.ReferenceIdeal.Facts] [hPre_tables_in_range : Cert.Pre_tables_in_range.Facts] [hOn_only_draft_logp : Cert.On_only_draft_logp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2_0) i = v0 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v2_1) i = v1 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v2_2) i = v2 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v2_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v15) i = v0 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v50) i = v1 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v53) i = v2 c i)
          ∧ (∀ i : (⟨2, ![2, 64]⟩ : Shape).Idx, (Cert.On_only_draft_logp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v73) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drafts_in_vocab : Cert.Pre_drafts_in_vocab.Facts) (hPre_tables_in_range : Cert.Pre_tables_in_range.Facts) (hOn_only_draft_logp : Cert.On_only_draft_logp.Facts),
    quiescent_Kernel (hKernel := hKernel) (hPre_drafts_in_vocab := hPre_drafts_in_vocab)
    ∧ quiescent_KernelIdeal (hKernelIdeal := hKernelIdeal) (hPre_drafts_in_vocab := hPre_drafts_in_vocab)
    ∧ quiescent_KernelIdeal_pre_tables_in_range (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ preserves_Kernel_KernelIdeal
    ∧ algebraic_KernelIdeal_ReferenceIdeal_on_only_draft_logp_pre_tables_in_range (hKernelIdeal := hKernelIdeal) (hReferenceIdeal := hReferenceIdeal) (hPre_tables_in_range := hPre_tables_in_range) (hOn_only_draft_logp := hOn_only_draft_logp)
-- ==== On_only_draft_logp.lean ====
abbrev S2x64x4096 : Shape := ⟨3, ![2, 64, 4096]⟩
abbrev S2x64 : Shape := ⟨2, ![2, 64]⟩
abbrev S32000x4096 : Shape := ⟨2, ![32000, 4096]⟩
abbrev S32000 : Shape := ⟨1, ![32000]⟩
abbrev S_ : Shape := ⟨0, ![]⟩

class Facts : Prop where
  bcast_S_S2x64 : S_.BroadcastsInDim S2x64 (![] : Fin 0 → Fin S2x64.rank)

variable [Facts]

def fn {F : FTy → Type} [FloatOps F] (main_arg0 : FVec F S2x64x4096 .fp8e4m3) (main_arg1 : FVec F S2x64 .f32) (main_arg2 : IVec S2x64 32) (main_arg3 : IVec S2x64 32) (main_arg4 : FVec F S32000x4096 .fp8e4m3) (main_arg5 : FVec F S32000 .f32) : IVec S2x64 1 × IVec S2x64 1 × IVec S2x64 1 × IVec S2x64 1 :=
  let main_c : IVec S_ 1 := constantI S_ 1 0#1
  let main_v0 : IVec S2x64 1 := broadcastInDim S2x64 ![] bcast_S_S2x64 main_c
  let main_c_0 : IVec S_ 1 := constantI S_ 1 1#1
  let main_v1 : IVec S2x64 1 := broadcastInDim S2x64 ![] bcast_S_S2x64 main_c_0
  (main_v0, main_v1, main_v0, main_v0)
-- ==== Pre_drafts_in_vocab.lean ====
abbrev S2x64x4096 : Shape := ⟨3, ![2, 64, 4096]⟩
abbrev S2x64 : Shape := ⟨2, ![2, 64]⟩
abbrev S32000x4096 : Shape := ⟨2, ![32000, 4096]⟩
abbrev S32000 : Shape := ⟨1, ![32000]⟩
abbrev S_ : Shape := ⟨0, ![]⟩

class Facts : Prop where
  bcast_S_S2x64 : S_.BroadcastsInDim S2x64 (![] : Fin 0 → Fin S2x64.rank)

variable [Facts]

def fn {F : FTy → Type} [FloatOps F] (main_arg0 : FVec F S2x64x4096 .fp8e4m3) (main_arg1 : FVec F S2x64 .f32) (main_arg2 : IVec S2x64 32) (main_arg3 : IVec S2x64 32) (main_arg4 : FVec F S32000x4096 .fp8e4m3) (main_arg5 : FVec F S32000 .f32) : IVec S2x64 1 :=
  let main_c : IVec S_ 32 := constantI S_ 32 0#32
  let main_v0 : IVec S2x64 32 := broadcastInDim S2x64 ![] bcast_S_S2x64 main_c
  let main_v1 : IVec S2x64 1 := cmpi .sge main_arg3 main_v0
  let main_c_0 : IVec S_ 32 := constantI S_ 32 32000#32
  let main_v2 : IVec S2x64 32 := broadcastInDim S2x64 ![] bcast_S_S2x64 main_c_0
  let main_v3 : IVec S2x64 1 := cmpi .slt main_arg3 main_v2
  let main_v4 : IVec S2x64 1 := andi main_v1 main_v3
  main_v4
-- ==== Pre_tables_in_range.lean ====
abbrev S2x64x4096 : Shape := ⟨3, ![2, 64, 4096]⟩
abbrev S2x64 : Shape := ⟨2, ![2, 64]⟩
abbrev S32000x4096 : Shape := ⟨2, ![32000, 4096]⟩
abbrev S32000 : Shape := ⟨1, ![32000]⟩
abbrev S_ : Shape := ⟨0, ![]⟩

class Facts : Prop where
  bcast_S_S2x64 : S_.BroadcastsInDim S2x64 (![] : Fin 0 → Fin S2x64.rank)

variable [Facts]

def fn {F : FTy → Type} [FloatOps F] (main_arg0 : FVec F S2x64x4096 .fp8e4m3) (main_arg1 : FVec F S2x64 .f32) (main_arg2 : IVec S2x64 32) (main_arg3 : IVec S2x64 32) (main_arg4 : FVec F S32000x4096 .fp8e4m3) (main_arg5 : FVec F S32000 .f32) : IVec S2x64 1 :=
  let main_c : IVec S_ 32 := constantI S_ 32 0#32
  let main_v0 : IVec S2x64 32 := broadcastInDim S2x64 ![] bcast_S_S2x64 main_c
  let main_v1 : IVec S2x64 1 := cmpi .sge main_arg3 main_v0
  let main_c_0 : IVec S_ 32 := constantI S_ 32 32000#32
  let main_v2 : IVec S2x64 32 := broadcastInDim S2x64 ![] bcast_S_S2x64 main_c_0
  let main_v3 : IVec S2x64 1 := cmpi .slt main_arg3 main_v2
  let main_v4 : IVec S2x64 1 := andi main_v1 main_v3
  let main_c_1 : IVec S_ 32 := constantI S_ 32 0#32
  let main_v5 : IVec S2x64 32 := broadcastInDim S2x64 ![] bcast_S_S2x64 main_c_1
  let main_v6 : IVec S2x64 1 := cmpi .sge main_arg2 main_v5
  let main_v7 : IVec S2x64 1 := andi main_v4 main_v6
  let main_c_2 : IVec S_ 32 := constantI S_ 32 64#32
  let main_v8 : IVec S2x64 32 := broadcastInDim S2x64 ![] bcast_S_S2x64 main_c_2
  let main_v9 : IVec S2x64 1 := cmpi .slt main_arg2 main_v8
  let main_v10 : IVec S2x64 1 := andi main_v7 main_v9
  main_v10
-- ==== Kernel.lean ====
abbrev S2x64x4096 : Shape := ⟨3, ![2, 64, 4096]⟩
abbrev S2x64 : Shape := ⟨2, ![2, 64]⟩
abbrev S32000x4096 : Shape := ⟨2, ![32000, 4096]⟩
abbrev S32000 : Shape := ⟨1, ![32000]⟩
abbrev S128x4096 : Shape := ⟨2, ![128, 4096]⟩
abbrev S250x128 : Shape := ⟨2, ![250, 128]⟩
abbrev S1280x4096 : Shape := ⟨2, ![1280, 4096]⟩
abbrev S32000x128 : Shape := ⟨2, ![32000, 128]⟩
abbrev S8x128 : Shape := ⟨2, ![8, 128]⟩
abbrev S128x128 : Shape := ⟨2, ![128, 128]⟩
abbrev S1x128 : Shape := ⟨2, ![1, 128]⟩
abbrev S1x1 : Shape := ⟨2, ![1, 1]⟩
abbrev S1x64 : Shape := ⟨2, ![1, 64]⟩
abbrev S1280x128 : Shape := ⟨2, ![1280, 128]⟩
abbrev S160x8x128 : Shape := ⟨3, ![160, 8, 128]⟩
abbrev S1x8x128 : Shape := ⟨3, ![1, 8, 128]⟩
abbrev S128 : Shape := ⟨1, ![128]⟩
abbrev S128x1 : Shape := ⟨2, ![128, 1]⟩
abbrev S2x128 : Shape := ⟨2, ![2, 128]⟩
abbrev S6x128 : Shape := ⟨2, ![6, 128]⟩
abbrev S8x128x1 : Shape := ⟨3, ![8, 128, 1]⟩
abbrev S64x128 : Shape := ⟨2, ![64, 128]⟩
abbrev S64x1 : Shape := ⟨2, ![64, 1]⟩

abbrev nBuf : Space → Nat
  | .hbm => 12
  | .vmem => 16
  | .smem => 2
  | _ => 0

abbrev bufTy : (tb : Table) → Fin (tcTables nBuf tb) → BufTy
  | .hbm, ⟨0, _⟩ => ⟨S2x64x4096, .fp8e4m3⟩
  | .hbm, ⟨1, _⟩ => ⟨S2x64, .f32⟩
  | .hbm, ⟨2, _⟩ => ⟨S2x64, .i32⟩
  | .hbm, ⟨3, _⟩ => ⟨S2x64, .i32⟩
  | .hbm, ⟨4, _⟩ => ⟨S32000x4096, .fp8e4m3⟩
  | .hbm, ⟨5, _⟩ => ⟨S32000, .f32⟩
  | .hbm, ⟨6, _⟩ => ⟨S128x4096, .fp8e4m3⟩
  | .hbm, ⟨7, _⟩ => ⟨S250x128, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x64, .f32⟩
  | .local _ .vmem, ⟨0, _⟩ => ⟨S128x4096, .fp8e4m3⟩
  | .local _ .vmem, ⟨1, _⟩ => ⟨S2x64, .f32⟩
  | .local _ .vmem, ⟨2, _⟩ => ⟨S2x64, .i32⟩
  | .local _ .vmem, ⟨3, _⟩ => ⟨S250x128, .f32⟩
  | .local _ .vmem, ⟨4, _⟩ => ⟨S1280x4096, .fp8e4m3⟩
  | .local _ .vmem, ⟨5, _⟩ => ⟨S1280x4096, .fp8e4m3⟩
  | .local _ .vmem, ⟨6, _⟩ => ⟨S2x64, .f32⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S32000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S128x128, .f32⟩
  | .local _ .vmem, ⟨15, _⟩ => ⟨S128x128, .f32⟩
  | .local _ .smem, ⟨0, _⟩ => ⟨S2x64, .i32⟩
  | .local _ .smem, ⟨1, _⟩ => ⟨S2x64, .i32⟩
  | _, _ => ⟨S2x64x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![25], ![false]⟩

def k0_off1 (i : grid0.Coords) (c0_i32_8 : BitVec 32) : Fin 2 → Nat :=
  let arg0 : BitVec 32 := BitVec.ofNat 32 (i 0).val
  let c10_i32 : BitVec 32 := 10#32
  let v13 : BitVec 32 := Scalar.muli arg0 c10_i32
  let v14 : BitVec 32 := Scalar.addi v13 c0_i32_8
  let v15 : Index := Scalar.indexCast v14
  let c0_9 : Index := 0#32
  ![v15.toNat, 0]
def k0_mult1 (i : grid0.Coords) : BitVec 32 :=
  let arg0 : BitVec 32 := BitVec.ofNat 32 (i 0).val
  let c1280_i32 : BitVec 32 := 1280#32
  let v134 : BitVec 32 := Scalar.muli arg0 c1280_i32
  v134
def k0_off2 (i : grid0.Coords) : Fin 2 → Nat :=
  let arg0 : BitVec 32 := BitVec.ofNat 32 (i 0).val
  let c1280_i32 : BitVec 32 := 1280#32
  let v134 : BitVec 32 := Scalar.muli arg0 c1280_i32
  let v135 : BitVec 32 := v134
  let v136 : Index := Scalar.indexCast v135
  let c0_28 : Index := 0#32
  ![v136.toNat, 0]
def k0_cond2 (i : grid0.Coords) : BitVec 1 :=
  let arg0 : BitVec 32 := BitVec.ofNat 32 (i 0).val
  let c24_i32 : BitVec 32 := 24#32
  let v170 : BitVec 1 := Scalar.cmpi .eq arg0 c24_i32
  let v171 : BitVec 32 := Scalar.extui v170
  let c0_i32_44 : BitVec 32 := 0#32
  let v172 : BitVec 1 := Scalar.cmpi .ne v171 c0_i32_44
  v172

def k0_off3 (v173 : BitVec 32) : Fin 2 → Nat :=
  let v174 : Index := Scalar.indexCast v173
  let c0_47 : Index := 0#32
  ![v174.toNat, 0]

def k0_chk1 (i : grid0.Coords) (v173 : BitVec 32) : Prop :=
  (∀ (k0_h2 : k0_cond2 i = 1#1), ∀ a, (k0_off3 v173) a + S1x128.size a ≤ S32000x128.size a)
theorem k0_off3_inb : ∀ (i : grid0.Coords) (v173 : BitVec 32) (k0_hw1 : k0_chk1 i v173), ∀ (k0_h2 : k0_cond2 i = 1#1), ∀ a, (k0_off3 v173) a + S1x128.size a ≤ S32000x128.size a := fun i v173 k0_hw1 k0_h2 => k0_hw1 k0_h2

def k0_off4 (v179 : BitVec 32) : Fin 2 → Nat :=
  let v180 : Index := Scalar.indexCast v179
  let c0_52 : Index := 0#32
  ![v180.toNat, 0]

def k0_chk2 (i : grid0.Coords) (v179 : BitVec 32) : Prop :=
  (∀ (k0_h2 : k0_cond2 i = 1#1), ∀ a, (k0_off4 v179) a + S1x128.size a ≤ S32000x128.size a)
theorem k0_off4_inb : ∀ (i : grid0.Coords) (v179 : BitVec 32) (k0_hw2 : k0_chk2 i v179), ∀ (k0_h2 : k0_cond2 i = 1#1), ∀ a, (k0_off4 v179) a + S1x128.size a ≤ S32000x128.size a := fun i v179 k0_hw2 k0_h2 => k0_hw2 k0_h2

def k0_off5 (v185 : BitVec 32) : Fin 2 → Nat :=
  let v186 : Index := Scalar.indexCast v185
  let c0_56 : Index := 0#32
  ![v186.toNat, 0]

def k0_chk3 (i : grid0.Coords) (v185 : BitVec 32) : Prop :=
  (∀ (k0_h2 : k0_cond2 i = 1#1), ∀ a, (k0_off5 v185) a + S1x128.size a ≤ S32000x128.size a)
theorem k0_off5_inb : ∀ (i : grid0.Coords) (v185 : BitVec 32) (k0_hw3 : k0_chk3 i v185), ∀ (k0_h2 : k0_cond2 i = 1#1), ∀ a, (k0_off5 v185) a + S1x128.size a ≤ S32000x128.size a := fun i v185 k0_hw3 k0_h2 => k0_hw3 k0_h2

def k0_off6 (v191 : BitVec 32) : Fin 2 → Nat :=
  let v192 : Index := Scalar.indexCast v191
  let c0_60 : Index := 0#32
  ![v192.toNat, 0]

def k0_chk4 (i : grid0.Coords) (v191 : BitVec 32) : Prop :=
  (∀ (k0_h2 : k0_cond2 i = 1#1), ∀ a, (k0_off6 v191) a + S1x128.size a ≤ S32000x128.size a)
theorem k0_off6_inb : ∀ (i : grid0.Coords) (v191 : BitVec 32) (k0_hw4 : k0_chk4 i v191), ∀ (k0_h2 : k0_cond2 i = 1#1), ∀ a, (k0_off6 v191) a + S1x128.size a ≤ S32000x128.size a := fun i v191 k0_hw4 k0_h2 => k0_hw4 k0_h2

def k0_off7 (v197 : BitVec 32) : Fin 2 → Nat :=
  let v198 : Index := Scalar.indexCast v197
  let c0_64 : Index := 0#32
  ![v198.toNat, 0]

def k0_chk5 (i : grid0.Coords) (v197 : BitVec 32) : Prop :=
  (∀ (k0_h2 : k0_cond2 i = 1#1), ∀ a, (k0_off7 v197) a + S1x128.size a ≤ S32000x128.size a)
theorem k0_off7_inb : ∀ (i : grid0.Coords) (v197 : BitVec 32) (k0_hw5 : k0_chk5 i v197), ∀ (k0_h2 : k0_cond2 i = 1#1), ∀ a, (k0_off7 v197) a + S1x128.size a ≤ S32000x128.size a := fun i v197 k0_hw5 k0_h2 => k0_hw5 k0_h2

def k0_off8 (v203 : BitVec 32) : Fin 2 → Nat :=
  let v204 : Index := Scalar.indexCast v203
  let c0_68 : Index := 0#32
  ![v204.toNat, 0]

def k0_chk6 (i : grid0.Coords) (v203 : BitVec 32) : Prop :=
  (∀ (k0_h2 : k0_cond2 i = 1#1), ∀ a, (k0_off8 v203) a + S1x128.size a ≤ S32000x128.size a)
theorem k0_off8_inb : ∀ (i : grid0.Coords) (v203 : BitVec 32) (k0_hw6 : k0_chk6 i v203), ∀ (k0_h2 : k0_cond2 i = 1#1), ∀ a, (k0_off8 v203) a + S1x128.size a ≤ S32000x128.size a := fun i v203 k0_hw6 k0_h2 => k0_hw6 k0_h2

def k0_off9 (v209 : BitVec 32) : Fin 2 → Nat :=
  let v210 : Index := Scalar.indexCast v209
  let c0_72 : Index := 0#32
  ![v210.toNat, 0]

def k0_chk7 (i : grid0.Coords) (v209 : BitVec 32) : Prop :=
  (∀ (k0_h2 : k0_cond2 i = 1#1), ∀ a, (k0_off9 v209) a + S1x128.size a ≤ S32000x128.size a)
theorem k0_off9_inb : ∀ (i : grid0.Coords) (v209 : BitVec 32) (k0_hw7 : k0_chk7 i v209), ∀ (k0_h2 : k0_cond2 i = 1#1), ∀ a, (k0_off9 v209) a + S1x128.size a ≤ S32000x128.size a := fun i v209 k0_hw7 k0_h2 => k0_hw7 k0_h2

def k0_off10 (v215 : BitVec 32) : Fin 2 → Nat :=
  let v216 : Index := Scalar.indexCast v215
  let c0_76 : Index := 0#32
  ![v216.toNat, 0]

def k0_chk8 (i : grid0.Coords) (v215 : BitVec 32) : Prop :=
  (∀ (k0_h2 : k0_cond2 i = 1#1), ∀ a, (k0_off10 v215) a + S1x128.size a ≤ S32000x128.size a)
theorem k0_off10_inb : ∀ (i : grid0.Coords) (v215 : BitVec 32) (k0_hw8 : k0_chk8 i v215), ∀ (k0_h2 : k0_cond2 i = 1#1), ∀ a, (k0_off10 v215) a + S1x128.size a ≤ S32000x128.size a := fun i v215 k0_hw8 k0_h2 => k0_hw8 k0_h2

def k0_off11 (v221 : BitVec 32) : Fin 2 → Nat :=
  let v222 : Index := Scalar.indexCast v221
  let c0_80 : Index := 0#32
  ![v222.toNat, 0]

def k0_chk9 (i : grid0.Coords) (v221 : BitVec 32) : Prop :=
  (∀ (k0_h2 : k0_cond2 i = 1#1), ∀ a, (k0_off11 v221) a + S1x128.size a ≤ S32000x128.size a)
theorem k0_off11_inb : ∀ (i : grid0.Coords) (v221 : BitVec 32) (k0_hw9 : k0_chk9 i v221), ∀ (k0_h2 : k0_cond2 i = 1#1), ∀ a, (k0_off11 v221) a + S1x128.size a ≤ S32000x128.size a := fun i v221 k0_hw9 k0_h2 => k0_hw9 k0_h2

def k0_off12 (v227 : BitVec 32) : Fin 2 → Nat :=
  let v228 : Index := Scalar.indexCast v227
  let c0_84 : Index := 0#32
  ![v228.toNat, 0]

def k0_chk10 (i : grid0.Coords) (v227 : BitVec 32) : Prop :=
  (∀ (k0_h2 : k0_cond2 i = 1#1), ∀ a, (k0_off12 v227) a + S1x128.size a ≤ S32000x128.size a)
theorem k0_off12_inb : ∀ (i : grid0.Coords) (v227 : BitVec 32) (k0_hw10 : k0_chk10 i v227), ∀ (k0_h2 : k0_cond2 i = 1#1), ∀ a, (k0_off12 v227) a + S1x128.size a ≤ S32000x128.size a := fun i v227 k0_hw10 k0_h2 => k0_hw10 k0_h2

def k0_off13 (v233 : BitVec 32) : Fin 2 → Nat :=
  let v234 : Index := Scalar.indexCast v233
  let c0_88 : Index := 0#32
  ![v234.toNat, 0]

def k0_chk11 (i : grid0.Coords) (v233 : BitVec 32) : Prop :=
  (∀ (k0_h2 : k0_cond2 i = 1#1), ∀ a, (k0_off13 v233) a + S1x128.size a ≤ S32000x128.size a)
theorem k0_off13_inb : ∀ (i : grid0.Coords) (v233 : BitVec 32) (k0_hw11 : k0_chk11 i v233), ∀ (k0_h2 : k0_cond2 i = 1#1), ∀ a, (k0_off13 v233) a + S1x128.size a ≤ S32000x128.size a := fun i v233 k0_hw11 k0_h2 => k0_hw11 k0_h2

def k0_off14 (v239 : BitVec 32) : Fin 2 → Nat :=
  let v240 : Index := Scalar.indexCast v239
  let c0_92 : Index := 0#32
  ![v240.toNat, 0]

def k0_chk12 (i : grid0.Coords) (v239 : BitVec 32) : Prop :=
  (∀ (k0_h2 : k0_cond2 i = 1#1), ∀ a, (k0_off14 v239) a + S1x128.size a ≤ S32000x128.size a)
theorem k0_off14_inb : ∀ (i : grid0.Coords) (v239 : BitVec 32) (k0_hw12 : k0_chk12 i v239), ∀ (k0_h2 : k0_cond2 i = 1#1), ∀ a, (k0_off14 v239) a + S1x128.size a ≤ S32000x128.size a := fun i v239 k0_hw12 k0_h2 => k0_hw12 k0_h2

def k0_off15 (v245 : BitVec 32) : Fin 2 → Nat :=
  let v246 : Index := Scalar.indexCast v245
  let c0_96 : Index := 0#32
  ![v246.toNat, 0]

def k0_chk13 (i : grid0.Coords) (v245 : BitVec 32) : Prop :=
  (∀ (k0_h2 : k0_cond2 i = 1#1), ∀ a, (k0_off15 v245) a + S1x128.size a ≤ S32000x128.size a)
theorem k0_off15_inb : ∀ (i : grid0.Coords) (v245 : BitVec 32) (k0_hw13 : k0_chk13 i v245), ∀ (k0_h2 : k0_cond2 i = 1#1), ∀ a, (k0_off15 v245) a + S1x128.size a ≤ S32000x128.size a := fun i v245 k0_hw13 k0_h2 => k0_hw13 k0_h2

def k0_off16 (v251 : BitVec 32) : Fin 2 → Nat :=
  let v252 : Index := Scalar.indexCast v251
  let c0_100 : Index := 0#32
  ![v252.toNat, 0]

def k0_chk14 (i : grid0.Coords) (v251 : BitVec 32) : Prop :=
  (∀ (k0_h2 : k0_cond2 i = 1#1), ∀ a, (k0_off16 v251) a + S1x128.size a ≤ S32000x128.size a)
theorem k0_off16_inb : ∀ (i : grid0.Coords) (v251 : BitVec 32) (k0_hw14 : k0_chk14 i v251), ∀ (k0_h2 : k0_cond2 i = 1#1), ∀ a, (k0_off16 v251) a + S1x128.size a ≤ S32000x128.size a := fun i v251 k0_hw14 k0_h2 => k0_hw14 k0_h2

def k0_off17 (v257 : BitVec 32) : Fin 2 → Nat :=
  let v258 : Index := Scalar.indexCast v257
  let c0_104 : Index := 0#32
  ![v258.toNat, 0]

def k0_chk15 (i : grid0.Coords) (v257 : BitVec 32) : Prop :=
  (∀ (k0_h2 : k0_cond2 i = 1#1), ∀ a, (k0_off17 v257) a + S1x128.size a ≤ S32000x128.size a)
theorem k0_off17_inb : ∀ (i : grid0.Coords) (v257 : BitVec 32) (k0_hw15 : k0_chk15 i v257), ∀ (k0_h2 : k0_cond2 i = 1#1), ∀ a, (k0_off17 v257) a + S1x128.size a ≤ S32000x128.size a := fun i v257 k0_hw15 k0_h2 => k0_hw15 k0_h2

def k0_off18 (v263 : BitVec 32) : Fin 2 → Nat :=
  let v264 : Index := Scalar.indexCast v263
  let c0_108 : Index := 0#32
  ![v264.toNat, 0]

def k0_chk16 (i : grid0.Coords) (v263 : BitVec 32) : Prop :=
  (∀ (k0_h2 : k0_cond2 i = 1#1), ∀ a, (k0_off18 v263) a + S1x128.size a ≤ S32000x128.size a)
theorem k0_off18_inb : ∀ (i : grid0.Coords) (v263 : BitVec 32) (k0_hw16 : k0_chk16 i v263), ∀ (k0_h2 : k0_cond2 i = 1#1), ∀ a, (k0_off18 v263) a + S1x128.size a ≤ S32000x128.size a := fun i v263 k0_hw16 k0_h2 => k0_hw16 k0_h2

def k0_off19 (v269 : BitVec 32) : Fin 2 → Nat :=
  let v270 : Index := Scalar.indexCast v269
  let c0_112 : Index := 0#32
  ![v270.toNat, 0]

def k0_chk17 (i : grid0.Coords) (v269 : BitVec 32) : Prop :=
  (∀ (k0_h2 : k0_cond2 i = 1#1), ∀ a, (k0_off19 v269) a + S1x128.size a ≤ S32000x128.size a)
theorem k0_off19_inb : ∀ (i : grid0.Coords) (v269 : BitVec 32) (k0_hw17 : k0_chk17 i v269), ∀ (k0_h2 : k0_cond2 i = 1#1), ∀ a, (k0_off19 v269) a + S1x128.size a ≤ S32000x128.size a := fun i v269 k0_hw17 k0_h2 => k0_hw17 k0_h2

def k0_off20 (v275 : BitVec 32) : Fin 2 → Nat :=
  let v276 : Index := Scalar.indexCast v275
  let c0_116 : Index := 0#32
  ![v276.toNat, 0]

def k0_chk18 (i : grid0.Coords) (v275 : BitVec 32) : Prop :=
  (∀ (k0_h2 : k0_cond2 i = 1#1), ∀ a, (k0_off20 v275) a + S1x128.size a ≤ S32000x128.size a)
theorem k0_off20_inb : ∀ (i : grid0.Coords) (v275 : BitVec 32) (k0_hw18 : k0_chk18 i v275), ∀ (k0_h2 : k0_cond2 i = 1#1), ∀ a, (k0_off20 v275) a + S1x128.size a ≤ S32000x128.size a := fun i v275 k0_hw18 k0_h2 => k0_hw18 k0_h2

def k0_off21 (v281 : BitVec 32) : Fin 2 → Nat :=
  let v282 : Index := Scalar.indexCast v281
  let c0_120 : Index := 0#32
  ![v282.toNat, 0]

def k0_chk19 (i : grid0.Coords) (v281 : BitVec 32) : Prop :=
  (∀ (k0_h2 : k0_cond2 i = 1#1), ∀ a, (k0_off21 v281) a + S1x128.size a ≤ S32000x128.size a)
theorem k0_off21_inb : ∀ (i : grid0.Coords) (v281 : BitVec 32) (k0_hw19 : k0_chk19 i v281), ∀ (k0_h2 : k0_cond2 i = 1#1), ∀ a, (k0_off21 v281) a + S1x128.size a ≤ S32000x128.size a := fun i v281 k0_hw19 k0_h2 => k0_hw19 k0_h2

def k0_off22 (v287 : BitVec 32) : Fin 2 → Nat :=
  let v288 : Index := Scalar.indexCast v287
  let c0_124 : Index := 0#32
  ![v288.toNat, 0]

def k0_chk20 (i : grid0.Coords) (v287 : BitVec 32) : Prop :=
  (∀ (k0_h2 : k0_cond2 i = 1#1), ∀ a, (k0_off22 v287) a + S1x128.size a ≤ S32000x128.size a)
theorem k0_off22_inb : ∀ (i : grid0.Coords) (v287 : BitVec 32) (k0_hw20 : k0_chk20 i v287), ∀ (k0_h2 : k0_cond2 i = 1#1), ∀ a, (k0_off22 v287) a + S1x128.size a ≤ S32000x128.size a := fun i v287 k0_hw20 k0_h2 => k0_hw20 k0_h2

def k0_off23 (v293 : BitVec 32) : Fin 2 → Nat :=
  let v294 : Index := Scalar.indexCast v293
  let c0_128 : Index := 0#32
  ![v294.toNat, 0]

def k0_chk21 (i : grid0.Coords) (v293 : BitVec 32) : Prop :=
  (∀ (k0_h2 : k0_cond2 i = 1#1), ∀ a, (k0_off23 v293) a + S1x128.size a ≤ S32000x128.size a)
theorem k0_off23_inb : ∀ (i : grid0.Coords) (v293 : BitVec 32) (k0_hw21 : k0_chk21 i v293), ∀ (k0_h2 : k0_cond2 i = 1#1), ∀ a, (k0_off23 v293) a + S1x128.size a ≤ S32000x128.size a := fun i v293 k0_hw21 k0_h2 => k0_hw21 k0_h2

def k0_off24 (v299 : BitVec 32) : Fin 2 → Nat :=
  let v300 : Index := Scalar.indexCast v299
  let c0_132 : Index := 0#32
  ![v300.toNat, 0]

def k0_chk22 (i : grid0.Coords) (v299 : BitVec 32) : Prop :=
  (∀ (k0_h2 : k0_cond2 i = 1#1), ∀ a, (k0_off24 v299) a + S1x128.size a ≤ S32000x128.size a)
theorem k0_off24_inb : ∀ (i : grid0.Coords) (v299 : BitVec 32) (k0_hw22 : k0_chk22 i v299), ∀ (k0_h2 : k0_cond2 i = 1#1), ∀ a, (k0_off24 v299) a + S1x128.size a ≤ S32000x128.size a := fun i v299 k0_hw22 k0_h2 => k0_hw22 k0_h2

def k0_off25 (v305 : BitVec 32) : Fin 2 → Nat :=
  let v306 : Index := Scalar.indexCast v305
  let c0_136 : Index := 0#32
  ![v306.toNat, 0]

def k0_chk23 (i : grid0.Coords) (v305 : BitVec 32) : Prop :=
  (∀ (k0_h2 : k0_cond2 i = 1#1), ∀ a, (k0_off25 v305) a + S1x128.size a ≤ S32000x128.size a)
theorem k0_off25_inb : ∀ (i : grid0.Coords) (v305 : BitVec 32) (k0_hw23 : k0_chk23 i v305), ∀ (k0_h2 : k0_cond2 i = 1#1), ∀ a, (k0_off25 v305) a + S1x128.size a ≤ S32000x128.size a := fun i v305 k0_hw23 k0_h2 => k0_hw23 k0_h2

def k0_off26 (v311 : BitVec 32) : Fin 2 → Nat :=
  let v312 : Index := Scalar.indexCast v311
  let c0_140 : Index := 0#32
  ![v312.toNat, 0]

def k0_chk24 (i : grid0.Coords) (v311 : BitVec 32) : Prop :=
  (∀ (k0_h2 : k0_cond2 i = 1#1), ∀ a, (k0_off26 v311) a + S1x128.size a ≤ S32000x128.size a)
theorem k0_off26_inb : ∀ (i : grid0.Coords) (v311 : BitVec 32) (k0_hw24 : k0_chk24 i v311), ∀ (k0_h2 : k0_cond2 i = 1#1), ∀ a, (k0_off26 v311) a + S1x128.size a ≤ S32000x128.size a := fun i v311 k0_hw24 k0_h2 => k0_hw24 k0_h2

def k0_off27 (v317 : BitVec 32) : Fin 2 → Nat :=
  let v318 : Index := Scalar.indexCast v317
  let c0_144 : Index := 0#32
  ![v318.toNat, 0]

def k0_chk25 (i : grid0.Coords) (v317 : BitVec 32) : Prop :=
  (∀ (k0_h2 : k0_cond2 i = 1#1), ∀ a, (k0_off27 v317) a + S1x128.size a ≤ S32000x128.size a)
theorem k0_off27_inb : ∀ (i : grid0.Coords) (v317 : BitVec 32) (k0_hw25 : k0_chk25 i v317), ∀ (k0_h2 : k0_cond2 i = 1#1), ∀ a, (k0_off27 v317) a + S1x128.size a ≤ S32000x128.size a := fun i v317 k0_hw25 k0_h2 => k0_hw25 k0_h2

def k0_off28 (v323 : BitVec 32) : Fin 2 → Nat :=
  let v324 : Index := Scalar.indexCast v323
  let c0_148 : Index := 0#32
  ![v324.toNat, 0]

def k0_chk26 (i : grid0.Coords) (v323 : BitVec 32) : Prop :=
  (∀ (k0_h2 : k0_cond2 i = 1#1), ∀ a, (k0_off28 v323) a + S1x128.size a ≤ S32000x128.size a)
theorem k0_off28_inb : ∀ (i : grid0.Coords) (v323 : BitVec 32) (k0_hw26 : k0_chk26 i v323), ∀ (k0_h2 : k0_cond2 i = 1#1), ∀ a, (k0_off28 v323) a + S1x128.size a ≤ S32000x128.size a := fun i v323 k0_hw26 k0_h2 => k0_hw26 k0_h2

def k0_off29 (v329 : BitVec 32) : Fin 2 → Nat :=
  let v330 : Index := Scalar.indexCast v329
  let c0_152 : Index := 0#32
  ![v330.toNat, 0]

def k0_chk27 (i : grid0.Coords) (v329 : BitVec 32) : Prop :=
  (∀ (k0_h2 : k0_cond2 i = 1#1), ∀ a, (k0_off29 v329) a + S1x128.size a ≤ S32000x128.size a)
theorem k0_off29_inb : ∀ (i : grid0.Coords) (v329 : BitVec 32) (k0_hw27 : k0_chk27 i v329), ∀ (k0_h2 : k0_cond2 i = 1#1), ∀ a, (k0_off29 v329) a + S1x128.size a ≤ S32000x128.size a := fun i v329 k0_hw27 k0_h2 => k0_hw27 k0_h2

def k0_off30 (v335 : BitVec 32) : Fin 2 → Nat :=
  let v336 : Index := Scalar.indexCast v335
  let c0_156 : Index := 0#32
  ![v336.toNat, 0]

def k0_chk28 (i : grid0.Coords) (v335 : BitVec 32) : Prop :=
  (∀ (k0_h2 : k0_cond2 i = 1#1), ∀ a, (k0_off30 v335) a + S1x128.size a ≤ S32000x128.size a)
theorem k0_off30_inb : ∀ (i : grid0.Coords) (v335 : BitVec 32) (k0_hw28 : k0_chk28 i v335), ∀ (k0_h2 : k0_cond2 i = 1#1), ∀ a, (k0_off30 v335) a + S1x128.size a ≤ S32000x128.size a := fun i v335 k0_hw28 k0_h2 => k0_hw28 k0_h2

def k0_off31 (v341 : BitVec 32) : Fin 2 → Nat :=
  let v342 : Index := Scalar.indexCast v341
  let c0_160 : Index := 0#32
  ![v342.toNat, 0]

def k0_chk29 (i : grid0.Coords) (v341 : BitVec 32) : Prop :=
  (∀ (k0_h2 : k0_cond2 i = 1#1), ∀ a, (k0_off31 v341) a + S1x128.size a ≤ S32000x128.size a)
theorem k0_off31_inb : ∀ (i : grid0.Coords) (v341 : BitVec 32) (k0_hw29 : k0_chk29 i v341), ∀ (k0_h2 : k0_cond2 i = 1#1), ∀ a, (k0_off31 v341) a + S1x128.size a ≤ S32000x128.size a := fun i v341 k0_hw29 k0_h2 => k0_hw29 k0_h2

def k0_off32 (v347 : BitVec 32) : Fin 2 → Nat :=
  let v348 : Index := Scalar.indexCast v347
  let c0_164 : Index := 0#32
  ![v348.toNat, 0]

def k0_chk30 (i : grid0.Coords) (v347 : BitVec 32) : Prop :=
  (∀ (k0_h2 : k0_cond2 i = 1#1), ∀ a, (k0_off32 v347) a + S1x128.size a ≤ S32000x128.size a)
theorem k0_off32_inb : ∀ (i : grid0.Coords) (v347 : BitVec 32) (k0_hw30 : k0_chk30 i v347), ∀ (k0_h2 : k0_cond2 i = 1#1), ∀ a, (k0_off32 v347) a + S1x128.size a ≤ S32000x128.size a := fun i v347 k0_hw30 k0_h2 => k0_hw30 k0_h2

def k0_off33 (v353 : BitVec 32) : Fin 2 → Nat :=
  let v354 : Index := Scalar.indexCast v353
  let c0_168 : Index := 0#32
  ![v354.toNat, 0]

def k0_chk31 (i : grid0.Coords) (v353 : BitVec 32) : Prop :=
  (∀ (k0_h2 : k0_cond2 i = 1#1), ∀ a, (k0_off33 v353) a + S1x128.size a ≤ S32000x128.size a)
theorem k0_off33_inb : ∀ (i : grid0.Coords) (v353 : BitVec 32) (k0_hw31 : k0_chk31 i v353), ∀ (k0_h2 : k0_cond2 i = 1#1), ∀ a, (k0_off33 v353) a + S1x128.size a ≤ S32000x128.size a := fun i v353 k0_hw31 k0_h2 => k0_hw31 k0_h2

def k0_off34 (v359 : BitVec 32) : Fin 2 → Nat :=
  let v360 : Index := Scalar.indexCast v359
  let c0_172 : Index := 0#32
  ![v360.toNat, 0]

def k0_chk32 (i : grid0.Coords) (v359 : BitVec 32) : Prop :=
  (∀ (k0_h2 : k0_cond2 i = 1#1), ∀ a, (k0_off34 v359) a + S1x128.size a ≤ S32000x128.size a)
theorem k0_off34_inb : ∀ (i : grid0.Coords) (v359 : BitVec 32) (k0_hw32 : k0_chk32 i v359), ∀ (k0_h2 : k0_cond2 i = 1#1), ∀ a, (k0_off34 v359) a + S1x128.size a ≤ S32000x128.size a := fun i v359 k0_hw32 k0_h2 => k0_hw32 k0_h2

def k0_off35 (v365 : BitVec 32) : Fin 2 → Nat :=
  let v366 : Index := Scalar.indexCast v365
  let c0_176 : Index := 0#32
  ![v366.toNat, 0]

def k0_chk33 (i : grid0.Coords) (v365 : BitVec 32) : Prop :=
  (∀ (k0_h2 : k0_cond2 i = 1#1), ∀ a, (k0_off35 v365) a + S1x128.size a ≤ S32000x128.size a)
theorem k0_off35_inb : ∀ (i : grid0.Coords) (v365 : BitVec 32) (k0_hw33 : k0_chk33 i v365), ∀ (k0_h2 : k0_cond2 i = 1#1), ∀ a, (k0_off35 v365) a + S1x128.size a ≤ S32000x128.size a := fun i v365 k0_hw33 k0_h2 => k0_hw33 k0_h2

def k0_off36 (v371 : BitVec 32) : Fin 2 → Nat :=
  let v372 : Index := Scalar.indexCast v371
  let c0_180 : Index := 0#32
  ![v372.toNat, 0]

def k0_chk34 (i : grid0.Coords) (v371 : BitVec 32) : Prop :=
  (∀ (k0_h2 : k0_cond2 i = 1#1), ∀ a, (k0_off36 v371) a + S1x128.size a ≤ S32000x128.size a)
theorem k0_off36_inb : ∀ (i : grid0.Coords) (v371 : BitVec 32) (k0_hw34 : k0_chk34 i v371), ∀ (k0_h2 : k0_cond2 i = 1#1), ∀ a, (k0_off36 v371) a + S1x128.size a ≤ S32000x128.size a := fun i v371 k0_hw34 k0_h2 => k0_hw34 k0_h2

def k0_off37 (v377 : BitVec 32) : Fin 2 → Nat :=
  let v378 : Index := Scalar.indexCast v377
  let c0_184 : Index := 0#32
  ![v378.toNat, 0]

def k0_chk35 (i : grid0.Coords) (v377 : BitVec 32) : Prop :=
  (∀ (k0_h2 : k0_cond2 i = 1#1), ∀ a, (k0_off37 v377) a + S1x128.size a ≤ S32000x128.size a)
theorem k0_off37_inb : ∀ (i : grid0.Coords) (v377 : BitVec 32) (k0_hw35 : k0_chk35 i v377), ∀ (k0_h2 : k0_cond2 i = 1#1), ∀ a, (k0_off37 v377) a + S1x128.size a ≤ S32000x128.size a := fun i v377 k0_hw35 k0_h2 => k0_hw35 k0_h2

def k0_off38 (v383 : BitVec 32) : Fin 2 → Nat :=
  let v384 : Index := Scalar.indexCast v383
  let c0_188 : Index := 0#32
  ![v384.toNat, 0]

def k0_chk36 (i : grid0.Coords) (v383 : BitVec 32) : Prop :=
  (∀ (k0_h2 : k0_cond2 i = 1#1), ∀ a, (k0_off38 v383) a + S1x128.size a ≤ S32000x128.size a)
theorem k0_off38_inb : ∀ (i : grid0.Coords) (v383 : BitVec 32) (k0_hw36 : k0_chk36 i v383), ∀ (k0_h2 : k0_cond2 i = 1#1), ∀ a, (k0_off38 v383) a + S1x128.size a ≤ S32000x128.size a := fun i v383 k0_hw36 k0_h2 => k0_hw36 k0_h2

def k0_off39 (v389 : BitVec 32) : Fin 2 → Nat :=
  let v390 : Index := Scalar.indexCast v389
  let c0_192 : Index := 0#32
  ![v390.toNat, 0]

def k0_chk37 (i : grid0.Coords) (v389 : BitVec 32) : Prop :=
  (∀ (k0_h2 : k0_cond2 i = 1#1), ∀ a, (k0_off39 v389) a + S1x128.size a ≤ S32000x128.size a)
theorem k0_off39_inb : ∀ (i : grid0.Coords) (v389 : BitVec 32) (k0_hw37 : k0_chk37 i v389), ∀ (k0_h2 : k0_cond2 i = 1#1), ∀ a, (k0_off39 v389) a + S1x128.size a ≤ S32000x128.size a := fun i v389 k0_hw37 k0_h2 => k0_hw37 k0_h2

def k0_off40 (v395 : BitVec 32) : Fin 2 → Nat :=
  let v396 : Index := Scalar.indexCast v395
  let c0_196 : Index := 0#32
  ![v396.toNat, 0]

def k0_chk38 (i : grid0.Coords) (v395 : BitVec 32) : Prop :=
  (∀ (k0_h2 : k0_cond2 i = 1#1), ∀ a, (k0_off40 v395) a + S1x128.size a ≤ S32000x128.size a)
theorem k0_off40_inb : ∀ (i : grid0.Coords) (v395 : BitVec 32) (k0_hw38 : k0_chk38 i v395), ∀ (k0_h2 : k0_cond2 i = 1#1), ∀ a, (k0_off40 v395) a + S1x128.size a ≤ S32000x128.size a := fun i v395 k0_hw38 k0_h2 => k0_hw38 k0_h2

def k0_off41 (v401 : BitVec 32) : Fin 2 → Nat :=
  let v402 : Index := Scalar.indexCast v401
  let c0_200 : Index := 0#32
  ![v402.toNat, 0]

def k0_chk39 (i : grid0.Coords) (v401 : BitVec 32) : Prop :=
  (∀ (k0_h2 : k0_cond2 i = 1#1), ∀ a, (k0_off41 v401) a + S1x128.size a ≤ S32000x128.size a)
theorem k0_off41_inb : ∀ (i : grid0.Coords) (v401 : BitVec 32) (k0_hw39 : k0_chk39 i v401), ∀ (k0_h2 : k0_cond2 i = 1#1), ∀ a, (k0_off41 v401) a + S1x128.size a ≤ S32000x128.size a := fun i v401 k0_hw39 k0_h2 => k0_hw39 k0_h2

def k0_off42 (v407 : BitVec 32) : Fin 2 → Nat :=
  let v408 : Index := Scalar.indexCast v407
  let c0_204 : Index := 0#32
  ![v408.toNat, 0]

def k0_chk40 (i : grid0.Coords) (v407 : BitVec 32) : Prop :=
  (∀ (k0_h2 : k0_cond2 i = 1#1), ∀ a, (k0_off42 v407) a + S1x128.size a ≤ S32000x128.size a)
theorem k0_off42_inb : ∀ (i : grid0.Coords) (v407 : BitVec 32) (k0_hw40 : k0_chk40 i v407), ∀ (k0_h2 : k0_cond2 i = 1#1), ∀ a, (k0_off42 v407) a + S1x128.size a ≤ S32000x128.size a := fun i v407 k0_hw40 k0_h2 => k0_hw40 k0_h2

def k0_off43 (v413 : BitVec 32) : Fin 2 → Nat :=
  let v414 : Index := Scalar.indexCast v413
  let c0_208 : Index := 0#32
  ![v414.toNat, 0]

def k0_chk41 (i : grid0.Coords) (v413 : BitVec 32) : Prop :=
  (∀ (k0_h2 : k0_cond2 i = 1#1), ∀ a, (k0_off43 v413) a + S1x128.size a ≤ S32000x128.size a)
theorem k0_off43_inb : ∀ (i : grid0.Coords) (v413 : BitVec 32) (k0_hw41 : k0_chk41 i v413), ∀ (k0_h2 : k0_cond2 i = 1#1), ∀ a, (k0_off43 v413) a + S1x128.size a ≤ S32000x128.size a := fun i v413 k0_hw41 k0_h2 => k0_hw41 k0_h2

def k0_off44 (v419 : BitVec 32) : Fin 2 → Nat :=
  let v420 : Index := Scalar.indexCast v419
  let c0_212 : Index := 0#32
  ![v420.toNat, 0]

def k0_chk42 (i : grid0.Coords) (v419 : BitVec 32) : Prop :=
  (∀ (k0_h2 : k0_cond2 i = 1#1), ∀ a, (k0_off44 v419) a + S1x128.size a ≤ S32000x128.size a)
theorem k0_off44_inb : ∀ (i : grid0.Coords) (v419 : BitVec 32) (k0_hw42 : k0_chk42 i v419), ∀ (k0_h2 : k0_cond2 i = 1#1), ∀ a, (k0_off44 v419) a + S1x128.size a ≤ S32000x128.size a := fun i v419 k0_hw42 k0_h2 => k0_hw42 k0_h2

def k0_off45 (v425 : BitVec 32) : Fin 2 → Nat :=
  let v426 : Index := Scalar.indexCast v425
  let c0_216 : Index := 0#32
  ![v426.toNat, 0]

def k0_chk43 (i : grid0.Coords) (v425 : BitVec 32) : Prop :=
  (∀ (k0_h2 : k0_cond2 i = 1#1), ∀ a, (k0_off45 v425) a + S1x128.size a ≤ S32000x128.size a)
theorem k0_off45_inb : ∀ (i : grid0.Coords) (v425 : BitVec 32) (k0_hw43 : k0_chk43 i v425), ∀ (k0_h2 : k0_cond2 i = 1#1), ∀ a, (k0_off45 v425) a + S1x128.size a ≤ S32000x128.size a := fun i v425 k0_hw43 k0_h2 => k0_hw43 k0_h2

def k0_off46 (v431 : BitVec 32) : Fin 2 → Nat :=
  let v432 : Index := Scalar.indexCast v431
  let c0_220 : Index := 0#32
  ![v432.toNat, 0]

def k0_chk44 (i : grid0.Coords) (v431 : BitVec 32) : Prop :=
  (∀ (k0_h2 : k0_cond2 i = 1#1), ∀ a, (k0_off46 v431) a + S1x128.size a ≤ S32000x128.size a)
theorem k0_off46_inb : ∀ (i : grid0.Coords) (v431 : BitVec 32) (k0_hw44 : k0_chk44 i v431), ∀ (k0_h2 : k0_cond2 i = 1#1), ∀ a, (k0_off46 v431) a + S1x128.size a ≤ S32000x128.size a := fun i v431 k0_hw44 k0_h2 => k0_hw44 k0_h2

def k0_off47 (v437 : BitVec 32) : Fin 2 → Nat :=
  let v438 : Index := Scalar.indexCast v437
  let c0_224 : Index := 0#32
  ![v438.toNat, 0]

def k0_chk45 (i : grid0.Coords) (v437 : BitVec 32) : Prop :=
  (∀ (k0_h2 : k0_cond2 i = 1#1), ∀ a, (k0_off47 v437) a + S1x128.size a ≤ S32000x128.size a)
theorem k0_off47_inb : ∀ (i : grid0.Coords) (v437 : BitVec 32) (k0_hw45 : k0_chk45 i v437), ∀ (k0_h2 : k0_cond2 i = 1#1), ∀ a, (k0_off47 v437) a + S1x128.size a ≤ S32000x128.size a := fun i v437 k0_hw45 k0_h2 => k0_hw45 k0_h2

def k0_off48 (v443 : BitVec 32) : Fin 2 → Nat :=
  let v444 : Index := Scalar.indexCast v443
  let c0_228 : Index := 0#32
  ![v444.toNat, 0]

def k0_chk46 (i : grid0.Coords) (v443 : BitVec 32) : Prop :=
  (∀ (k0_h2 : k0_cond2 i = 1#1), ∀ a, (k0_off48 v443) a + S1x128.size a ≤ S32000x128.size a)
theorem k0_off48_inb : ∀ (i : grid0.Coords) (v443 : BitVec 32) (k0_hw46 : k0_chk46 i v443), ∀ (k0_h2 : k0_cond2 i = 1#1), ∀ a, (k0_off48 v443) a + S1x128.size a ≤ S32000x128.size a := fun i v443 k0_hw46 k0_h2 => k0_hw46 k0_h2

def k0_off49 (v449 : BitVec 32) : Fin 2 → Nat :=
  let v450 : Index := Scalar.indexCast v449
  let c0_232 : Index := 0#32
  ![v450.toNat, 0]

def k0_chk47 (i : grid0.Coords) (v449 : BitVec 32) : Prop :=
  (∀ (k0_h2 : k0_cond2 i = 1#1), ∀ a, (k0_off49 v449) a + S1x128.size a ≤ S32000x128.size a)
theorem k0_off49_inb : ∀ (i : grid0.Coords) (v449 : BitVec 32) (k0_hw47 : k0_chk47 i v449), ∀ (k0_h2 : k0_cond2 i = 1#1), ∀ a, (k0_off49 v449) a + S1x128.size a ≤ S32000x128.size a := fun i v449 k0_hw47 k0_h2 => k0_hw47 k0_h2

def k0_off50 (v455 : BitVec 32) : Fin 2 → Nat :=
  let v456 : Index := Scalar.indexCast v455
  let c0_236 : Index := 0#32
  ![v456.toNat, 0]

def k0_chk48 (i : grid0.Coords) (v455 : BitVec 32) : Prop :=
  (∀ (k0_h2 : k0_cond2 i = 1#1), ∀ a, (k0_off50 v455) a + S1x128.size a ≤ S32000x128.size a)
theorem k0_off50_inb : ∀ (i : grid0.Coords) (v455 : BitVec 32) (k0_hw48 : k0_chk48 i v455), ∀ (k0_h2 : k0_cond2 i = 1#1), ∀ a, (k0_off50 v455) a + S1x128.size a ≤ S32000x128.size a := fun i v455 k0_hw48 k0_h2 => k0_hw48 k0_h2

def k0_off51 (v461 : BitVec 32) : Fin 2 → Nat :=
  let v462 : Index := Scalar.indexCast v461
  let c0_240 : Index := 0#32
  ![v462.toNat, 0]

def k0_chk49 (i : grid0.Coords) (v461 : BitVec 32) : Prop :=
  (∀ (k0_h2 : k0_cond2 i = 1#1), ∀ a, (k0_off51 v461) a + S1x128.size a ≤ S32000x128.size a)
theorem k0_off51_inb : ∀ (i : grid0.Coords) (v461 : BitVec 32) (k0_hw49 : k0_chk49 i v461), ∀ (k0_h2 : k0_cond2 i = 1#1), ∀ a, (k0_off51 v461) a + S1x128.size a ≤ S32000x128.size a := fun i v461 k0_hw49 k0_h2 => k0_hw49 k0_h2

def k0_off52 (v467 : BitVec 32) : Fin 2 → Nat :=
  let v468 : Index := Scalar.indexCast v467
  let c0_244 : Index := 0#32
  ![v468.toNat, 0]

def k0_chk50 (i : grid0.Coords) (v467 : BitVec 32) : Prop :=
  (∀ (k0_h2 : k0_cond2 i = 1#1), ∀ a, (k0_off52 v467) a + S1x128.size a ≤ S32000x128.size a)
theorem k0_off52_inb : ∀ (i : grid0.Coords) (v467 : BitVec 32) (k0_hw50 : k0_chk50 i v467), ∀ (k0_h2 : k0_cond2 i = 1#1), ∀ a, (k0_off52 v467) a + S1x128.size a ≤ S32000x128.size a := fun i v467 k0_hw50 k0_h2 => k0_hw50 k0_h2

def k0_off53 (v473 : BitVec 32) : Fin 2 → Nat :=
  let v474 : Index := Scalar.indexCast v473
  let c0_248 : Index := 0#32
  ![v474.toNat, 0]

def k0_chk51 (i : grid0.Coords) (v473 : BitVec 32) : Prop :=
  (∀ (k0_h2 : k0_cond2 i = 1#1), ∀ a, (k0_off53 v473) a + S1x128.size a ≤ S32000x128.size a)
theorem k0_off53_inb : ∀ (i : grid0.Coords) (v473 : BitVec 32) (k0_hw51 : k0_chk51 i v473), ∀ (k0_h2 : k0_cond2 i = 1#1), ∀ a, (k0_off53 v473) a + S1x128.size a ≤ S32000x128.size a := fun i v473 k0_hw51 k0_h2 => k0_hw51 k0_h2

def k0_off54 (v479 : BitVec 32) : Fin 2 → Nat :=
  let v480 : Index := Scalar.indexCast v479
  let c0_252 : Index := 0#32
  ![v480.toNat, 0]

def k0_chk52 (i : grid0.Coords) (v479 : BitVec 32) : Prop :=
  (∀ (k0_h2 : k0_cond2 i = 1#1), ∀ a, (k0_off54 v479) a + S1x128.size a ≤ S32000x128.size a)
theorem k0_off54_inb : ∀ (i : grid0.Coords) (v479 : BitVec 32) (k0_hw52 : k0_chk52 i v479), ∀ (k0_h2 : k0_cond2 i = 1#1), ∀ a, (k0_off54 v479) a + S1x128.size a ≤ S32000x128.size a := fun i v479 k0_hw52 k0_h2 => k0_hw52 k0_h2

def k0_off55 (v485 : BitVec 32) : Fin 2 → Nat :=
  let v486 : Index := Scalar.indexCast v485
  let c0_256 : Index := 0#32
  ![v486.toNat, 0]

def k0_chk53 (i : grid0.Coords) (v485 : BitVec 32) : Prop :=
  (∀ (k0_h2 : k0_cond2 i = 1#1), ∀ a, (k0_off55 v485) a + S1x128.size a ≤ S32000x128.size a)
theorem k0_off55_inb : ∀ (i : grid0.Coords) (v485 : BitVec 32) (k0_hw53 : k0_chk53 i v485), ∀ (k0_h2 : k0_cond2 i = 1#1), ∀ a, (k0_off55 v485) a + S1x128.size a ≤ S32000x128.size a := fun i v485 k0_hw53 k0_h2 => k0_hw53 k0_h2

def k0_off56 (v491 : BitVec 32) : Fin 2 → Nat :=
  let v492 : Index := Scalar.indexCast v491
  let c0_260 : Index := 0#32
  ![v492.toNat, 0]

def k0_chk54 (i : grid0.Coords) (v491 : BitVec 32) : Prop :=
  (∀ (k0_h2 : k0_cond2 i = 1#1), ∀ a, (k0_off56 v491) a + S1x128.size a ≤ S32000x128.size a)
theorem k0_off56_inb : ∀ (i : grid0.Coords) (v491 : BitVec 32) (k0_hw54 : k0_chk54 i v491), ∀ (k0_h2 : k0_cond2 i = 1#1), ∀ a, (k0_off56 v491) a + S1x128.size a ≤ S32000x128.size a := fun i v491 k0_hw54 k0_h2 => k0_hw54 k0_h2

def k0_off57 (v497 : BitVec 32) : Fin 2 → Nat :=
  let v498 : Index := Scalar.indexCast v497
  let c0_264 : Index := 0#32
  ![v498.toNat, 0]

def k0_chk55 (i : grid0.Coords) (v497 : BitVec 32) : Prop :=
  (∀ (k0_h2 : k0_cond2 i = 1#1), ∀ a, (k0_off57 v497) a + S1x128.size a ≤ S32000x128.size a)
theorem k0_off57_inb : ∀ (i : grid0.Coords) (v497 : BitVec 32) (k0_hw55 : k0_chk55 i v497), ∀ (k0_h2 : k0_cond2 i = 1#1), ∀ a, (k0_off57 v497) a + S1x128.size a ≤ S32000x128.size a := fun i v497 k0_hw55 k0_h2 => k0_hw55 k0_h2

def k0_off58 (v503 : BitVec 32) : Fin 2 → Nat :=
  let v504 : Index := Scalar.indexCast v503
  let c0_268 : Index := 0#32
  ![v504.toNat, 0]

def k0_chk56 (i : grid0.Coords) (v503 : BitVec 32) : Prop :=
  (∀ (k0_h2 : k0_cond2 i = 1#1), ∀ a, (k0_off58 v503) a + S1x128.size a ≤ S32000x128.size a)
theorem k0_off58_inb : ∀ (i : grid0.Coords) (v503 : BitVec 32) (k0_hw56 : k0_chk56 i v503), ∀ (k0_h2 : k0_cond2 i = 1#1), ∀ a, (k0_off58 v503) a + S1x128.size a ≤ S32000x128.size a := fun i v503 k0_hw56 k0_h2 => k0_hw56 k0_h2

def k0_off59 (v509 : BitVec 32) : Fin 2 → Nat :=
  let v510 : Index := Scalar.indexCast v509
  let c0_272 : Index := 0#32
  ![v510.toNat, 0]

def k0_chk57 (i : grid0.Coords) (v509 : BitVec 32) : Prop :=
  (∀ (k0_h2 : k0_cond2 i = 1#1), ∀ a, (k0_off59 v509) a + S1x128.size a ≤ S32000x128.size a)
theorem k0_off59_inb : ∀ (i : grid0.Coords) (v509 : BitVec 32) (k0_hw57 : k0_chk57 i v509), ∀ (k0_h2 : k0_cond2 i = 1#1), ∀ a, (k0_off59 v509) a + S1x128.size a ≤ S32000x128.size a := fun i v509 k0_hw57 k0_h2 => k0_hw57 k0_h2

def k0_off60 (v515 : BitVec 32) : Fin 2 → Nat :=
  let v516 : Index := Scalar.indexCast v515
  let c0_276 : Index := 0#32
  ![v516.toNat, 0]

def k0_chk58 (i : grid0.Coords) (v515 : BitVec 32) : Prop :=
  (∀ (k0_h2 : k0_cond2 i = 1#1), ∀ a, (k0_off60 v515) a + S1x128.size a ≤ S32000x128.size a)
theorem k0_off60_inb : ∀ (i : grid0.Coords) (v515 : BitVec 32) (k0_hw58 : k0_chk58 i v515), ∀ (k0_h2 : k0_cond2 i = 1#1), ∀ a, (k0_off60 v515) a + S1x128.size a ≤ S32000x128.size a := fun i v515 k0_hw58 k0_h2 => k0_hw58 k0_h2

def k0_off61 (v521 : BitVec 32) : Fin 2 → Nat :=
  let v522 : Index := Scalar.indexCast v521
  let c0_280 : Index := 0#32
  ![v522.toNat, 0]

def k0_chk59 (i : grid0.Coords) (v521 : BitVec 32) : Prop :=
  (∀ (k0_h2 : k0_cond2 i = 1#1), ∀ a, (k0_off61 v521) a + S1x128.size a ≤ S32000x128.size a)
theorem k0_off61_inb : ∀ (i : grid0.Coords) (v521 : BitVec 32) (k0_hw59 : k0_chk59 i v521), ∀ (k0_h2 : k0_cond2 i = 1#1), ∀ a, (k0_off61 v521) a + S1x128.size a ≤ S32000x128.size a := fun i v521 k0_hw59 k0_h2 => k0_hw59 k0_h2

def k0_off62 (v527 : BitVec 32) : Fin 2 → Nat :=
  let v528 : Index := Scalar.indexCast v527
  let c0_284 : Index := 0#32
  ![v528.toNat, 0]

def k0_chk60 (i : grid0.Coords) (v527 : BitVec 32) : Prop :=
  (∀ (k0_h2 : k0_cond2 i = 1#1), ∀ a, (k0_off62 v527) a + S1x128.size a ≤ S32000x128.size a)
theorem k0_off62_inb : ∀ (i : grid0.Coords) (v527 : BitVec 32) (k0_hw60 : k0_chk60 i v527), ∀ (k0_h2 : k0_cond2 i = 1#1), ∀ a, (k0_off62 v527) a + S1x128.size a ≤ S32000x128.size a := fun i v527 k0_hw60 k0_h2 => k0_hw60 k0_h2

def k0_off63 (v533 : BitVec 32) : Fin 2 → Nat :=
  let v534 : Index := Scalar.indexCast v533
  let c0_288 : Index := 0#32
  ![v534.toNat, 0]

def k0_chk61 (i : grid0.Coords) (v533 : BitVec 32) : Prop :=
  (∀ (k0_h2 : k0_cond2 i = 1#1), ∀ a, (k0_off63 v533) a + S1x128.size a ≤ S32000x128.size a)
theorem k0_off63_inb : ∀ (i : grid0.Coords) (v533 : BitVec 32) (k0_hw61 : k0_chk61 i v533), ∀ (k0_h2 : k0_cond2 i = 1#1), ∀ a, (k0_off63 v533) a + S1x128.size a ≤ S32000x128.size a := fun i v533 k0_hw61 k0_h2 => k0_hw61 k0_h2

def k0_off64 (v539 : BitVec 32) : Fin 2 → Nat :=
  let v540 : Index := Scalar.indexCast v539
  let c0_292 : Index := 0#32
  ![v540.toNat, 0]

def k0_chk62 (i : grid0.Coords) (v539 : BitVec 32) : Prop :=
  (∀ (k0_h2 : k0_cond2 i = 1#1), ∀ a, (k0_off64 v539) a + S1x128.size a ≤ S32000x128.size a)
theorem k0_off64_inb : ∀ (i : grid0.Coords) (v539 : BitVec 32) (k0_hw62 : k0_chk62 i v539), ∀ (k0_h2 : k0_cond2 i = 1#1), ∀ a, (k0_off64 v539) a + S1x128.size a ≤ S32000x128.size a := fun i v539 k0_hw62 k0_h2 => k0_hw62 k0_h2

def k0_off65 (v545 : BitVec 32) : Fin 2 → Nat :=
  let v546 : Index := Scalar.indexCast v545
  let c0_296 : Index := 0#32
  ![v546.toNat, 0]

def k0_chk63 (i : grid0.Coords) (v545 : BitVec 32) : Prop :=
  (∀ (k0_h2 : k0_cond2 i = 1#1), ∀ a, (k0_off65 v545) a + S1x128.size a ≤ S32000x128.size a)
theorem k0_off65_inb : ∀ (i : grid0.Coords) (v545 : BitVec 32) (k0_hw63 : k0_chk63 i v545), ∀ (k0_h2 : k0_cond2 i = 1#1), ∀ a, (k0_off65 v545) a + S1x128.size a ≤ S32000x128.size a := fun i v545 k0_hw63 k0_h2 => k0_hw63 k0_h2

def k0_off66 (v551 : BitVec 32) : Fin 2 → Nat :=
  let v552 : Index := Scalar.indexCast v551
  let c0_300 : Index := 0#32
  ![v552.toNat, 0]

def k0_chk64 (i : grid0.Coords) (v551 : BitVec 32) : Prop :=
  (∀ (k0_h2 : k0_cond2 i = 1#1), ∀ a, (k0_off66 v551) a + S1x128.size a ≤ S32000x128.size a)
theorem k0_off66_inb : ∀ (i : grid0.Coords) (v551 : BitVec 32) (k0_hw64 : k0_chk64 i v551), ∀ (k0_h2 : k0_cond2 i = 1#1), ∀ a, (k0_off66 v551) a + S1x128.size a ≤ S32000x128.size a := fun i v551 k0_hw64 k0_h2 => k0_hw64 k0_h2

def k0_off67 (v557 : BitVec 32) : Fin 2 → Nat :=
  let v558 : Index := Scalar.indexCast v557
  let c0_305 : Index := 0#32
  ![v558.toNat, 0]

def k0_chk65 (i : grid0.Coords) (v557 : BitVec 32) : Prop :=
  (∀ (k0_h2 : k0_cond2 i = 1#1), ∀ a, (k0_off67 v557) a + S1x128.size a ≤ S32000x128.size a)
theorem k0_off67_inb : ∀ (i : grid0.Coords) (v557 : BitVec 32) (k0_hw65 : k0_chk65 i v557), ∀ (k0_h2 : k0_cond2 i = 1#1), ∀ a, (k0_off67 v557) a + S1x128.size a ≤ S32000x128.size a := fun i v557 k0_hw65 k0_h2 => k0_hw65 k0_h2

def k0_off68 (v563 : BitVec 32) : Fin 2 → Nat :=
  let v564 : Index := Scalar.indexCast v563
  let c0_309 : Index := 0#32
  ![v564.toNat, 0]

def k0_chk66 (i : grid0.Coords) (v563 : BitVec 32) : Prop :=
  (∀ (k0_h2 : k0_cond2 i = 1#1), ∀ a, (k0_off68 v563) a + S1x128.size a ≤ S32000x128.size a)
theorem k0_off68_inb : ∀ (i : grid0.Coords) (v563 : BitVec 32) (k0_hw66 : k0_chk66 i v563), ∀ (k0_h2 : k0_cond2 i = 1#1), ∀ a, (k0_off68 v563) a + S1x128.size a ≤ S32000x128.size a := fun i v563 k0_hw66 k0_h2 => k0_hw66 k0_h2

def k0_off69 (v569 : BitVec 32) : Fin 2 → Nat :=
  let v570 : Index := Scalar.indexCast v569
  let c0_313 : Index := 0#32
  ![v570.toNat, 0]

def k0_chk67 (i : grid0.Coords) (v569 : BitVec 32) : Prop :=
  (∀ (k0_h2 : k0_cond2 i = 1#1), ∀ a, (k0_off69 v569) a + S1x128.size a ≤ S32000x128.size a)
theorem k0_off69_inb : ∀ (i : grid0.Coords) (v569 : BitVec 32) (k0_hw67 : k0_chk67 i v569), ∀ (k0_h2 : k0_cond2 i = 1#1), ∀ a, (k0_off69 v569) a + S1x128.size a ≤ S32000x128.size a := fun i v569 k0_hw67 k0_h2 => k0_hw67 k0_h2

def k0_off70 (v575 : BitVec 32) : Fin 2 → Nat :=
  let v576 : Index := Scalar.indexCast v575
  let c0_317 : Index := 0#32
  ![v576.toNat, 0]

def k0_chk68 (i : grid0.Coords) (v575 : BitVec 32) : Prop :=
  (∀ (k0_h2 : k0_cond2 i = 1#1), ∀ a, (k0_off70 v575) a + S1x128.size a ≤ S32000x128.size a)
theorem k0_off70_inb : ∀ (i : grid0.Coords) (v575 : BitVec 32) (k0_hw68 : k0_chk68 i v575), ∀ (k0_h2 : k0_cond2 i = 1#1), ∀ a, (k0_off70 v575) a + S1x128.size a ≤ S32000x128.size a := fun i v575 k0_hw68 k0_h2 => k0_hw68 k0_h2

def k0_off71 (v581 : BitVec 32) : Fin 2 → Nat :=
  let v582 : Index := Scalar.indexCast v581
  let c0_321 : Index := 0#32
  ![v582.toNat, 0]

def k0_chk69 (i : grid0.Coords) (v581 : BitVec 32) : Prop :=
  (∀ (k0_h2 : k0_cond2 i = 1#1), ∀ a, (k0_off71 v581) a + S1x128.size a ≤ S32000x128.size a)
theorem k0_off71_inb : ∀ (i : grid0.Coords) (v581 : BitVec 32) (k0_hw69 : k0_chk69 i v581), ∀ (k0_h2 : k0_cond2 i = 1#1), ∀ a, (k0_off71 v581) a + S1x128.size a ≤ S32000x128.size a := fun i v581 k0_hw69 k0_h2 => k0_hw69 k0_h2

def k0_off72 (v587 : BitVec 32) : Fin 2 → Nat :=
  let v588 : Index := Scalar.indexCast v587
  let c0_325 : Index := 0#32
  ![v588.toNat, 0]

def k0_chk70 (i : grid0.Coords) (v587 : BitVec 32) : Prop :=
  (∀ (k0_h2 : k0_cond2 i = 1#1), ∀ a, (k0_off72 v587) a + S1x128.size a ≤ S32000x128.size a)
theorem k0_off72_inb : ∀ (i : grid0.Coords) (v587 : BitVec 32) (k0_hw70 : k0_chk70 i v587), ∀ (k0_h2 : k0_cond2 i = 1#1), ∀ a, (k0_off72 v587) a + S1x128.size a ≤ S32000x128.size a := fun i v587 k0_hw70 k0_h2 => k0_hw70 k0_h2

def k0_off73 (v593 : BitVec 32) : Fin 2 → Nat :=
  let v594 : Index := Scalar.indexCast v593
  let c0_329 : Index := 0#32
  ![v594.toNat, 0]

def k0_chk71 (i : grid0.Coords) (v593 : BitVec 32) : Prop :=
  (∀ (k0_h2 : k0_cond2 i = 1#1), ∀ a, (k0_off73 v593) a + S1x128.size a ≤ S32000x128.size a)
theorem k0_off73_inb : ∀ (i : grid0.Coords) (v593 : BitVec 32) (k0_hw71 : k0_chk71 i v593), ∀ (k0_h2 : k0_cond2 i = 1#1), ∀ a, (k0_off73 v593) a + S1x128.size a ≤ S32000x128.size a := fun i v593 k0_hw71 k0_h2 => k0_hw71 k0_h2

def k0_off74 (v599 : BitVec 32) : Fin 2 → Nat :=
  let v600 : Index := Scalar.indexCast v599
  let c0_333 : Index := 0#32
  ![v600.toNat, 0]

def k0_chk72 (i : grid0.Coords) (v599 : BitVec 32) : Prop :=
  (∀ (k0_h2 : k0_cond2 i = 1#1), ∀ a, (k0_off74 v599) a + S1x128.size a ≤ S32000x128.size a)
theorem k0_off74_inb : ∀ (i : grid0.Coords) (v599 : BitVec 32) (k0_hw72 : k0_chk72 i v599), ∀ (k0_h2 : k0_cond2 i = 1#1), ∀ a, (k0_off74 v599) a + S1x128.size a ≤ S32000x128.size a := fun i v599 k0_hw72 k0_h2 => k0_hw72 k0_h2

def k0_off75 (v605 : BitVec 32) : Fin 2 → Nat :=
  let v606 : Index := Scalar.indexCast v605
  let c0_337 : Index := 0#32
  ![v606.toNat, 0]

def k0_chk73 (i : grid0.Coords) (v605 : BitVec 32) : Prop :=
  (∀ (k0_h2 : k0_cond2 i = 1#1), ∀ a, (k0_off75 v605) a + S1x128.size a ≤ S32000x128.size a)
theorem k0_off75_inb : ∀ (i : grid0.Coords) (v605 : BitVec 32) (k0_hw73 : k0_chk73 i v605), ∀ (k0_h2 : k0_cond2 i = 1#1), ∀ a, (k0_off75 v605) a + S1x128.size a ≤ S32000x128.size a := fun i v605 k0_hw73 k0_h2 => k0_hw73 k0_h2

def k0_off76 (v611 : BitVec 32) : Fin 2 → Nat :=
  let v612 : Index := Scalar.indexCast v611
  let c0_341 : Index := 0#32
  ![v612.toNat, 0]

def k0_chk74 (i : grid0.Coords) (v611 : BitVec 32) : Prop :=
  (∀ (k0_h2 : k0_cond2 i = 1#1), ∀ a, (k0_off76 v611) a + S1x128.size a ≤ S32000x128.size a)
theorem k0_off76_inb : ∀ (i : grid0.Coords) (v611 : BitVec 32) (k0_hw74 : k0_chk74 i v611), ∀ (k0_h2 : k0_cond2 i = 1#1), ∀ a, (k0_off76 v611) a + S1x128.size a ≤ S32000x128.size a := fun i v611 k0_hw74 k0_h2 => k0_hw74 k0_h2

def k0_off77 (v617 : BitVec 32) : Fin 2 → Nat :=
  let v618 : Index := Scalar.indexCast v617
  let c0_345 : Index := 0#32
  ![v618.toNat, 0]

def k0_chk75 (i : grid0.Coords) (v617 : BitVec 32) : Prop :=
  (∀ (k0_h2 : k0_cond2 i = 1#1), ∀ a, (k0_off77 v617) a + S1x128.size a ≤ S32000x128.size a)
theorem k0_off77_inb : ∀ (i : grid0.Coords) (v617 : BitVec 32) (k0_hw75 : k0_chk75 i v617), ∀ (k0_h2 : k0_cond2 i = 1#1), ∀ a, (k0_off77 v617) a + S1x128.size a ≤ S32000x128.size a := fun i v617 k0_hw75 k0_h2 => k0_hw75 k0_h2

def k0_off78 (v623 : BitVec 32) : Fin 2 → Nat :=
  let v624 : Index := Scalar.indexCast v623
  let c0_349 : Index := 0#32
  ![v624.toNat, 0]

def k0_chk76 (i : grid0.Coords) (v623 : BitVec 32) : Prop :=
  (∀ (k0_h2 : k0_cond2 i = 1#1), ∀ a, (k0_off78 v623) a + S1x128.size a ≤ S32000x128.size a)
theorem k0_off78_inb : ∀ (i : grid0.Coords) (v623 : BitVec 32) (k0_hw76 : k0_chk76 i v623), ∀ (k0_h2 : k0_cond2 i = 1#1), ∀ a, (k0_off78 v623) a + S1x128.size a ≤ S32000x128.size a := fun i v623 k0_hw76 k0_h2 => k0_hw76 k0_h2

def k0_off79 (v629 : BitVec 32) : Fin 2 → Nat :=
  let v630 : Index := Scalar.indexCast v629
  let c0_353 : Index := 0#32
  ![v630.toNat, 0]

def k0_chk77 (i : grid0.Coords) (v629 : BitVec 32) : Prop :=
  (∀ (k0_h2 : k0_cond2 i = 1#1), ∀ a, (k0_off79 v629) a + S1x128.size a ≤ S32000x128.size a)
theorem k0_off79_inb : ∀ (i : grid0.Coords) (v629 : BitVec 32) (k0_hw77 : k0_chk77 i v629), ∀ (k0_h2 : k0_cond2 i = 1#1), ∀ a, (k0_off79 v629) a + S1x128.size a ≤ S32000x128.size a := fun i v629 k0_hw77 k0_h2 => k0_hw77 k0_h2

def k0_off80 (v635 : BitVec 32) : Fin 2 → Nat :=
  let v636 : Index := Scalar.indexCast v635
  let c0_357 : Index := 0#32
  ![v636.toNat, 0]

def k0_chk78 (i : grid0.Coords) (v635 : BitVec 32) : Prop :=
  (∀ (k0_h2 : k0_cond2 i = 1#1), ∀ a, (k0_off80 v635) a + S1x128.size a ≤ S32000x128.size a)
theorem k0_off80_inb : ∀ (i : grid0.Coords) (v635 : BitVec 32) (k0_hw78 : k0_chk78 i v635), ∀ (k0_h2 : k0_cond2 i = 1#1), ∀ a, (k0_off80 v635) a + S1x128.size a ≤ S32000x128.size a := fun i v635 k0_hw78 k0_h2 => k0_hw78 k0_h2

def k0_off81 (v641 : BitVec 32) : Fin 2 → Nat :=
  let v642 : Index := Scalar.indexCast v641
  let c0_361 : Index := 0#32
  ![v642.toNat, 0]

def k0_chk79 (i : grid0.Coords) (v641 : BitVec 32) : Prop :=
  (∀ (k0_h2 : k0_cond2 i = 1#1), ∀ a, (k0_off81 v641) a + S1x128.size a ≤ S32000x128.size a)
theorem k0_off81_inb : ∀ (i : grid0.Coords) (v641 : BitVec 32) (k0_hw79 : k0_chk79 i v641), ∀ (k0_h2 : k0_cond2 i = 1#1), ∀ a, (k0_off81 v641) a + S1x128.size a ≤ S32000x128.size a := fun i v641 k0_hw79 k0_h2 => k0_hw79 k0_h2

def k0_off82 (v647 : BitVec 32) : Fin 2 → Nat :=
  let v648 : Index := Scalar.indexCast v647
  let c0_365 : Index := 0#32
  ![v648.toNat, 0]

def k0_chk80 (i : grid0.Coords) (v647 : BitVec 32) : Prop :=
  (∀ (k0_h2 : k0_cond2 i = 1#1), ∀ a, (k0_off82 v647) a + S1x128.size a ≤ S32000x128.size a)
theorem k0_off82_inb : ∀ (i : grid0.Coords) (v647 : BitVec 32) (k0_hw80 : k0_chk80 i v647), ∀ (k0_h2 : k0_cond2 i = 1#1), ∀ a, (k0_off82 v647) a + S1x128.size a ≤ S32000x128.size a := fun i v647 k0_hw80 k0_h2 => k0_hw80 k0_h2

def k0_off83 (v653 : BitVec 32) : Fin 2 → Nat :=
  let v654 : Index := Scalar.indexCast v653
  let c0_369 : Index := 0#32
  ![v654.toNat, 0]

def k0_chk81 (i : grid0.Coords) (v653 : BitVec 32) : Prop :=
  (∀ (k0_h2 : k0_cond2 i = 1#1), ∀ a, (k0_off83 v653) a + S1x128.size a ≤ S32000x128.size a)
theorem k0_off83_inb : ∀ (i : grid0.Coords) (v653 : BitVec 32) (k0_hw81 : k0_chk81 i v653), ∀ (k0_h2 : k0_cond2 i = 1#1), ∀ a, (k0_off83 v653) a + S1x128.size a ≤ S32000x128.size a := fun i v653 k0_hw81 k0_h2 => k0_hw81 k0_h2

def k0_off84 (v659 : BitVec 32) : Fin 2 → Nat :=
  let v660 : Index := Scalar.indexCast v659
  let c0_373 : Index := 0#32
  ![v660.toNat, 0]

def k0_chk82 (i : grid0.Coords) (v659 : BitVec 32) : Prop :=
  (∀ (k0_h2 : k0_cond2 i = 1#1), ∀ a, (k0_off84 v659) a + S1x128.size a ≤ S32000x128.size a)
theorem k0_off84_inb : ∀ (i : grid0.Coords) (v659 : BitVec 32) (k0_hw82 : k0_chk82 i v659), ∀ (k0_h2 : k0_cond2 i = 1#1), ∀ a, (k0_off84 v659) a + S1x128.size a ≤ S32000x128.size a := fun i v659 k0_hw82 k0_h2 => k0_hw82 k0_h2

def k0_off85 (v665 : BitVec 32) : Fin 2 → Nat :=
  let v666 : Index := Scalar.indexCast v665
  let c0_377 : Index := 0#32
  ![v666.toNat, 0]

def k0_chk83 (i : grid0.Coords) (v665 : BitVec 32) : Prop :=
  (∀ (k0_h2 : k0_cond2 i = 1#1), ∀ a, (k0_off85 v665) a + S1x128.size a ≤ S32000x128.size a)
theorem k0_off85_inb : ∀ (i : grid0.Coords) (v665 : BitVec 32) (k0_hw83 : k0_chk83 i v665), ∀ (k0_h2 : k0_cond2 i = 1#1), ∀ a, (k0_off85 v665) a + S1x128.size a ≤ S32000x128.size a := fun i v665 k0_hw83 k0_h2 => k0_hw83 k0_h2

def k0_off86 (v671 : BitVec 32) : Fin 2 → Nat :=
  let v672 : Index := Scalar.indexCast v671
  let c0_381 : Index := 0#32
  ![v672.toNat, 0]

def k0_chk84 (i : grid0.Coords) (v671 : BitVec 32) : Prop :=
  (∀ (k0_h2 : k0_cond2 i = 1#1), ∀ a, (k0_off86 v671) a + S1x128.size a ≤ S32000x128.size a)
theorem k0_off86_inb : ∀ (i : grid0.Coords) (v671 : BitVec 32) (k0_hw84 : k0_chk84 i v671), ∀ (k0_h2 : k0_cond2 i = 1#1), ∀ a, (k0_off86 v671) a + S1x128.size a ≤ S32000x128.size a := fun i v671 k0_hw84 k0_h2 => k0_hw84 k0_h2

def k0_off87 (v677 : BitVec 32) : Fin 2 → Nat :=
  let v678 : Index := Scalar.indexCast v677
  let c0_385 : Index := 0#32
  ![v678.toNat, 0]

def k0_chk85 (i : grid0.Coords) (v677 : BitVec 32) : Prop :=
  (∀ (k0_h2 : k0_cond2 i = 1#1), ∀ a, (k0_off87 v677) a + S1x128.size a ≤ S32000x128.size a)
theorem k0_off87_inb : ∀ (i : grid0.Coords) (v677 : BitVec 32) (k0_hw85 : k0_chk85 i v677), ∀ (k0_h2 : k0_cond2 i = 1#1), ∀ a, (k0_off87 v677) a + S1x128.size a ≤ S32000x128.size a := fun i v677 k0_hw85 k0_h2 => k0_hw85 k0_h2

def k0_off88 (v683 : BitVec 32) : Fin 2 → Nat :=
  let v684 : Index := Scalar.indexCast v683
  let c0_389 : Index := 0#32
  ![v684.toNat, 0]

def k0_chk86 (i : grid0.Coords) (v683 : BitVec 32) : Prop :=
  (∀ (k0_h2 : k0_cond2 i = 1#1), ∀ a, (k0_off88 v683) a + S1x128.size a ≤ S32000x128.size a)
theorem k0_off88_inb : ∀ (i : grid0.Coords) (v683 : BitVec 32) (k0_hw86 : k0_chk86 i v683), ∀ (k0_h2 : k0_cond2 i = 1#1), ∀ a, (k0_off88 v683) a + S1x128.size a ≤ S32000x128.size a := fun i v683 k0_hw86 k0_h2 => k0_hw86 k0_h2

def k0_off89 (v689 : BitVec 32) : Fin 2 → Nat :=
  let v690 : Index := Scalar.indexCast v689
  let c0_393 : Index := 0#32
  ![v690.toNat, 0]

def k0_chk87 (i : grid0.Coords) (v689 : BitVec 32) : Prop :=
  (∀ (k0_h2 : k0_cond2 i = 1#1), ∀ a, (k0_off89 v689) a + S1x128.size a ≤ S32000x128.size a)
theorem k0_off89_inb : ∀ (i : grid0.Coords) (v689 : BitVec 32) (k0_hw87 : k0_chk87 i v689), ∀ (k0_h2 : k0_cond2 i = 1#1), ∀ a, (k0_off89 v689) a + S1x128.size a ≤ S32000x128.size a := fun i v689 k0_hw87 k0_h2 => k0_hw87 k0_h2

def k0_off90 (v695 : BitVec 32) : Fin 2 → Nat :=
  let v696 : Index := Scalar.indexCast v695
  let c0_397 : Index := 0#32
  ![v696.toNat, 0]

def k0_chk88 (i : grid0.Coords) (v695 : BitVec 32) : Prop :=
  (∀ (k0_h2 : k0_cond2 i = 1#1), ∀ a, (k0_off90 v695) a + S1x128.size a ≤ S32000x128.size a)
theorem k0_off90_inb : ∀ (i : grid0.Coords) (v695 : BitVec 32) (k0_hw88 : k0_chk88 i v695), ∀ (k0_h2 : k0_cond2 i = 1#1), ∀ a, (k0_off90 v695) a + S1x128.size a ≤ S32000x128.size a := fun i v695 k0_hw88 k0_h2 => k0_hw88 k0_h2

def k0_off91 (v701 : BitVec 32) : Fin 2 → Nat :=
  let v702 : Index := Scalar.indexCast v701
  let c0_401 : Index := 0#32
  ![v702.toNat, 0]

def k0_chk89 (i : grid0.Coords) (v701 : BitVec 32) : Prop :=
  (∀ (k0_h2 : k0_cond2 i = 1#1), ∀ a, (k0_off91 v701) a + S1x128.size a ≤ S32000x128.size a)
theorem k0_off91_inb : ∀ (i : grid0.Coords) (v701 : BitVec 32) (k0_hw89 : k0_chk89 i v701), ∀ (k0_h2 : k0_cond2 i = 1#1), ∀ a, (k0_off91 v701) a + S1x128.size a ≤ S32000x128.size a := fun i v701 k0_hw89 k0_h2 => k0_hw89 k0_h2

def k0_off92 (v707 : BitVec 32) : Fin 2 → Nat :=
  let v708 : Index := Scalar.indexCast v707
  let c0_405 : Index := 0#32
  ![v708.toNat, 0]

def k0_chk90 (i : grid0.Coords) (v707 : BitVec 32) : Prop :=
  (∀ (k0_h2 : k0_cond2 i = 1#1), ∀ a, (k0_off92 v707) a + S1x128.size a ≤ S32000x128.size a)
theorem k0_off92_inb : ∀ (i : grid0.Coords) (v707 : BitVec 32) (k0_hw90 : k0_chk90 i v707), ∀ (k0_h2 : k0_cond2 i = 1#1), ∀ a, (k0_off92 v707) a + S1x128.size a ≤ S32000x128.size a := fun i v707 k0_hw90 k0_h2 => k0_hw90 k0_h2

def k0_off93 (v713 : BitVec 32) : Fin 2 → Nat :=
  let v714 : Index := Scalar.indexCast v713
  let c0_409 : Index := 0#32
  ![v714.toNat, 0]

def k0_chk91 (i : grid0.Coords) (v713 : BitVec 32) : Prop :=
  (∀ (k0_h2 : k0_cond2 i = 1#1), ∀ a, (k0_off93 v713) a + S1x128.size a ≤ S32000x128.size a)
theorem k0_off93_inb : ∀ (i : grid0.Coords) (v713 : BitVec 32) (k0_hw91 : k0_chk91 i v713), ∀ (k0_h2 : k0_cond2 i = 1#1), ∀ a, (k0_off93 v713) a + S1x128.size a ≤ S32000x128.size a := fun i v713 k0_hw91 k0_h2 => k0_hw91 k0_h2

def k0_off94 (v719 : BitVec 32) : Fin 2 → Nat :=
  let v720 : Index := Scalar.indexCast v719
  let c0_413 : Index := 0#32
  ![v720.toNat, 0]

def k0_chk92 (i : grid0.Coords) (v719 : BitVec 32) : Prop :=
  (∀ (k0_h2 : k0_cond2 i = 1#1), ∀ a, (k0_off94 v719) a + S1x128.size a ≤ S32000x128.size a)
theorem k0_off94_inb : ∀ (i : grid0.Coords) (v719 : BitVec 32) (k0_hw92 : k0_chk92 i v719), ∀ (k0_h2 : k0_cond2 i = 1#1), ∀ a, (k0_off94 v719) a + S1x128.size a ≤ S32000x128.size a := fun i v719 k0_hw92 k0_h2 => k0_hw92 k0_h2

def k0_off95 (v725 : BitVec 32) : Fin 2 → Nat :=
  let v726 : Index := Scalar.indexCast v725
  let c0_417 : Index := 0#32
  ![v726.toNat, 0]

def k0_chk93 (i : grid0.Coords) (v725 : BitVec 32) : Prop :=
  (∀ (k0_h2 : k0_cond2 i = 1#1), ∀ a, (k0_off95 v725) a + S1x128.size a ≤ S32000x128.size a)
theorem k0_off95_inb : ∀ (i : grid0.Coords) (v725 : BitVec 32) (k0_hw93 : k0_chk93 i v725), ∀ (k0_h2 : k0_cond2 i = 1#1), ∀ a, (k0_off95 v725) a + S1x128.size a ≤ S32000x128.size a := fun i v725 k0_hw93 k0_h2 => k0_hw93 k0_h2

def k0_off96 (v731 : BitVec 32) : Fin 2 → Nat :=
  let v732 : Index := Scalar.indexCast v731
  let c0_421 : Index := 0#32
  ![v732.toNat, 0]

def k0_chk94 (i : grid0.Coords) (v731 : BitVec 32) : Prop :=
  (∀ (k0_h2 : k0_cond2 i = 1#1), ∀ a, (k0_off96 v731) a + S1x128.size a ≤ S32000x128.size a)
theorem k0_off96_inb : ∀ (i : grid0.Coords) (v731 : BitVec 32) (k0_hw94 : k0_chk94 i v731), ∀ (k0_h2 : k0_cond2 i = 1#1), ∀ a, (k0_off96 v731) a + S1x128.size a ≤ S32000x128.size a := fun i v731 k0_hw94 k0_h2 => k0_hw94 k0_h2

def k0_off97 (v737 : BitVec 32) : Fin 2 → Nat :=
  let v738 : Index := Scalar.indexCast v737
  let c0_425 : Index := 0#32
  ![v738.toNat, 0]

def k0_chk95 (i : grid0.Coords) (v737 : BitVec 32) : Prop :=
  (∀ (k0_h2 : k0_cond2 i = 1#1), ∀ a, (k0_off97 v737) a + S1x128.size a ≤ S32000x128.size a)
theorem k0_off97_inb : ∀ (i : grid0.Coords) (v737 : BitVec 32) (k0_hw95 : k0_chk95 i v737), ∀ (k0_h2 : k0_cond2 i = 1#1), ∀ a, (k0_off97 v737) a + S1x128.size a ≤ S32000x128.size a := fun i v737 k0_hw95 k0_h2 => k0_hw95 k0_h2

def k0_off98 (v743 : BitVec 32) : Fin 2 → Nat :=
  let v744 : Index := Scalar.indexCast v743
  let c0_429 : Index := 0#32
  ![v744.toNat, 0]

def k0_chk96 (i : grid0.Coords) (v743 : BitVec 32) : Prop :=
  (∀ (k0_h2 : k0_cond2 i = 1#1), ∀ a, (k0_off98 v743) a + S1x128.size a ≤ S32000x128.size a)
theorem k0_off98_inb : ∀ (i : grid0.Coords) (v743 : BitVec 32) (k0_hw96 : k0_chk96 i v743), ∀ (k0_h2 : k0_cond2 i = 1#1), ∀ a, (k0_off98 v743) a + S1x128.size a ≤ S32000x128.size a := fun i v743 k0_hw96 k0_h2 => k0_hw96 k0_h2

def k0_off99 (v749 : BitVec 32) : Fin 2 → Nat :=
  let v750 : Index := Scalar.indexCast v749
  let c0_433 : Index := 0#32
  ![v750.toNat, 0]

def k0_chk97 (i : grid0.Coords) (v749 : BitVec 32) : Prop :=
  (∀ (k0_h2 : k0_cond2 i = 1#1), ∀ a, (k0_off99 v749) a + S1x128.size a ≤ S32000x128.size a)
theorem k0_off99_inb : ∀ (i : grid0.Coords) (v749 : BitVec 32) (k0_hw97 : k0_chk97 i v749), ∀ (k0_h2 : k0_cond2 i = 1#1), ∀ a, (k0_off99 v749) a + S1x128.size a ≤ S32000x128.size a := fun i v749 k0_hw97 k0_h2 => k0_hw97 k0_h2

def k0_off100 (v755 : BitVec 32) : Fin 2 → Nat :=
  let v756 : Index := Scalar.indexCast v755
  let c0_437 : Index := 0#32
  ![v756.toNat, 0]

def k0_chk98 (i : grid0.Coords) (v755 : BitVec 32) : Prop :=
  (∀ (k0_h2 : k0_cond2 i = 1#1), ∀ a, (k0_off100 v755) a + S1x128.size a ≤ S32000x128.size a)
theorem k0_off100_inb : ∀ (i : grid0.Coords) (v755 : BitVec 32) (k0_hw98 : k0_chk98 i v755), ∀ (k0_h2 : k0_cond2 i = 1#1), ∀ a, (k0_off100 v755) a + S1x128.size a ≤ S32000x128.size a := fun i v755 k0_hw98 k0_h2 => k0_hw98 k0_h2

def k0_off101 (v761 : BitVec 32) : Fin 2 → Nat :=
  let v762 : Index := Scalar.indexCast v761
  let c0_441 : Index := 0#32
  ![v762.toNat, 0]

def k0_chk99 (i : grid0.Coords) (v761 : BitVec 32) : Prop :=
  (∀ (k0_h2 : k0_cond2 i = 1#1), ∀ a, (k0_off101 v761) a + S1x128.size a ≤ S32000x128.size a)
theorem k0_off101_inb : ∀ (i : grid0.Coords) (v761 : BitVec 32) (k0_hw99 : k0_chk99 i v761), ∀ (k0_h2 : k0_cond2 i = 1#1), ∀ a, (k0_off101 v761) a + S1x128.size a ≤ S32000x128.size a := fun i v761 k0_hw99 k0_h2 => k0_hw99 k0_h2

def k0_off102 (v767 : BitVec 32) : Fin 2 → Nat :=
  let v768 : Index := Scalar.indexCast v767
  let c0_445 : Index := 0#32
  ![v768.toNat, 0]

def k0_chk100 (i : grid0.Coords) (v767 : BitVec 32) : Prop :=
  (∀ (k0_h2 : k0_cond2 i = 1#1), ∀ a, (k0_off102 v767) a + S1x128.size a ≤ S32000x128.size a)
theorem k0_off102_inb : ∀ (i : grid0.Coords) (v767 : BitVec 32) (k0_hw100 : k0_chk100 i v767), ∀ (k0_h2 : k0_cond2 i = 1#1), ∀ a, (k0_off102 v767) a + S1x128.size a ≤ S32000x128.size a := fun i v767 k0_hw100 k0_h2 => k0_hw100 k0_h2

def k0_off103 (v773 : BitVec 32) : Fin 2 → Nat :=
  let v774 : Index := Scalar.indexCast v773
  let c0_449 : Index := 0#32
  ![v774.toNat, 0]

def k0_chk101 (i : grid0.Coords) (v773 : BitVec 32) : Prop :=
  (∀ (k0_h2 : k0_cond2 i = 1#1), ∀ a, (k0_off103 v773) a + S1x128.size a ≤ S32000x128.size a)
theorem k0_off103_inb : ∀ (i : grid0.Coords) (v773 : BitVec 32) (k0_hw101 : k0_chk101 i v773), ∀ (k0_h2 : k0_cond2 i = 1#1), ∀ a, (k0_off103 v773) a + S1x128.size a ≤ S32000x128.size a := fun i v773 k0_hw101 k0_h2 => k0_hw101 k0_h2

def k0_off104 (v779 : BitVec 32) : Fin 2 → Nat :=
  let v780 : Index := Scalar.indexCast v779
  let c0_453 : Index := 0#32
  ![v780.toNat, 0]

def k0_chk102 (i : grid0.Coords) (v779 : BitVec 32) : Prop :=
  (∀ (k0_h2 : k0_cond2 i = 1#1), ∀ a, (k0_off104 v779) a + S1x128.size a ≤ S32000x128.size a)
theorem k0_off104_inb : ∀ (i : grid0.Coords) (v779 : BitVec 32) (k0_hw102 : k0_chk102 i v779), ∀ (k0_h2 : k0_cond2 i = 1#1), ∀ a, (k0_off104 v779) a + S1x128.size a ≤ S32000x128.size a := fun i v779 k0_hw102 k0_h2 => k0_hw102 k0_h2

def k0_off105 (v785 : BitVec 32) : Fin 2 → Nat :=
  let v786 : Index := Scalar.indexCast v785
  let c0_457 : Index := 0#32
  ![v786.toNat, 0]

def k0_chk103 (i : grid0.Coords) (v785 : BitVec 32) : Prop :=
  (∀ (k0_h2 : k0_cond2 i = 1#1), ∀ a, (k0_off105 v785) a + S1x128.size a ≤ S32000x128.size a)
theorem k0_off105_inb : ∀ (i : grid0.Coords) (v785 : BitVec 32) (k0_hw103 : k0_chk103 i v785), ∀ (k0_h2 : k0_cond2 i = 1#1), ∀ a, (k0_off105 v785) a + S1x128.size a ≤ S32000x128.size a := fun i v785 k0_hw103 k0_h2 => k0_hw103 k0_h2

def k0_off106 (v791 : BitVec 32) : Fin 2 → Nat :=
  let v792 : Index := Scalar.indexCast v791
  let c0_461 : Index := 0#32
  ![v792.toNat, 0]

def k0_chk104 (i : grid0.Coords) (v791 : BitVec 32) : Prop :=
  (∀ (k0_h2 : k0_cond2 i = 1#1), ∀ a, (k0_off106 v791) a + S1x128.size a ≤ S32000x128.size a)
theorem k0_off106_inb : ∀ (i : grid0.Coords) (v791 : BitVec 32) (k0_hw104 : k0_chk104 i v791), ∀ (k0_h2 : k0_cond2 i = 1#1), ∀ a, (k0_off106 v791) a + S1x128.size a ≤ S32000x128.size a := fun i v791 k0_hw104 k0_h2 => k0_hw104 k0_h2

def k0_off107 (v797 : BitVec 32) : Fin 2 → Nat :=
  let v798 : Index := Scalar.indexCast v797
  let c0_465 : Index := 0#32
  ![v798.toNat, 0]

def k0_chk105 (i : grid0.Coords) (v797 : BitVec 32) : Prop :=
  (∀ (k0_h2 : k0_cond2 i = 1#1), ∀ a, (k0_off107 v797) a + S1x128.size a ≤ S32000x128.size a)
theorem k0_off107_inb : ∀ (i : grid0.Coords) (v797 : BitVec 32) (k0_hw105 : k0_chk105 i v797), ∀ (k0_h2 : k0_cond2 i = 1#1), ∀ a, (k0_off107 v797) a + S1x128.size a ≤ S32000x128.size a := fun i v797 k0_hw105 k0_h2 => k0_hw105 k0_h2

def k0_off108 (v803 : BitVec 32) : Fin 2 → Nat :=
  let v804 : Index := Scalar.indexCast v803
  let c0_469 : Index := 0#32
  ![v804.toNat, 0]

def k0_chk106 (i : grid0.Coords) (v803 : BitVec 32) : Prop :=
  (∀ (k0_h2 : k0_cond2 i = 1#1), ∀ a, (k0_off108 v803) a + S1x128.size a ≤ S32000x128.size a)
theorem k0_off108_inb : ∀ (i : grid0.Coords) (v803 : BitVec 32) (k0_hw106 : k0_chk106 i v803), ∀ (k0_h2 : k0_cond2 i = 1#1), ∀ a, (k0_off108 v803) a + S1x128.size a ≤ S32000x128.size a := fun i v803 k0_hw106 k0_h2 => k0_hw106 k0_h2

def k0_off109 (v809 : BitVec 32) : Fin 2 → Nat :=
  let v810 : Index := Scalar.indexCast v809
  let c0_473 : Index := 0#32
  ![v810.toNat, 0]

def k0_chk107 (i : grid0.Coords) (v809 : BitVec 32) : Prop :=
  (∀ (k0_h2 : k0_cond2 i = 1#1), ∀ a, (k0_off109 v809) a + S1x128.size a ≤ S32000x128.size a)
theorem k0_off109_inb : ∀ (i : grid0.Coords) (v809 : BitVec 32) (k0_hw107 : k0_chk107 i v809), ∀ (k0_h2 : k0_cond2 i = 1#1), ∀ a, (k0_off109 v809) a + S1x128.size a ≤ S32000x128.size a := fun i v809 k0_hw107 k0_h2 => k0_hw107 k0_h2

def k0_off110 (v815 : BitVec 32) : Fin 2 → Nat :=
  let v816 : Index := Scalar.indexCast v815
  let c0_477 : Index := 0#32
  ![v816.toNat, 0]

def k0_chk108 (i : grid0.Coords) (v815 : BitVec 32) : Prop :=
  (∀ (k0_h2 : k0_cond2 i = 1#1), ∀ a, (k0_off110 v815) a + S1x128.size a ≤ S32000x128.size a)
theorem k0_off110_inb : ∀ (i : grid0.Coords) (v815 : BitVec 32) (k0_hw108 : k0_chk108 i v815), ∀ (k0_h2 : k0_cond2 i = 1#1), ∀ a, (k0_off110 v815) a + S1x128.size a ≤ S32000x128.size a := fun i v815 k0_hw108 k0_h2 => k0_hw108 k0_h2

def k0_off111 (v821 : BitVec 32) : Fin 2 → Nat :=
  let v822 : Index := Scalar.indexCast v821
  let c0_481 : Index := 0#32
  ![v822.toNat, 0]

def k0_chk109 (i : grid0.Coords) (v821 : BitVec 32) : Prop :=
  (∀ (k0_h2 : k0_cond2 i = 1#1), ∀ a, (k0_off111 v821) a + S1x128.size a ≤ S32000x128.size a)
theorem k0_off111_inb : ∀ (i : grid0.Coords) (v821 : BitVec 32) (k0_hw109 : k0_chk109 i v821), ∀ (k0_h2 : k0_cond2 i = 1#1), ∀ a, (k0_off111 v821) a + S1x128.size a ≤ S32000x128.size a := fun i v821 k0_hw109 k0_h2 => k0_hw109 k0_h2

def k0_off112 (v827 : BitVec 32) : Fin 2 → Nat :=
  let v828 : Index := Scalar.indexCast v827
  let c0_485 : Index := 0#32
  ![v828.toNat, 0]

def k0_chk110 (i : grid0.Coords) (v827 : BitVec 32) : Prop :=
  (∀ (k0_h2 : k0_cond2 i = 1#1), ∀ a, (k0_off112 v827) a + S1x128.size a ≤ S32000x128.size a)
theorem k0_off112_inb : ∀ (i : grid0.Coords) (v827 : BitVec 32) (k0_hw110 : k0_chk110 i v827), ∀ (k0_h2 : k0_cond2 i = 1#1), ∀ a, (k0_off112 v827) a + S1x128.size a ≤ S32000x128.size a := fun i v827 k0_hw110 k0_h2 => k0_hw110 k0_h2

def k0_off113 (v833 : BitVec 32) : Fin 2 → Nat :=
  let v834 : Index := Scalar.indexCast v833
  let c0_489 : Index := 0#32
  ![v834.toNat, 0]

def k0_chk111 (i : grid0.Coords) (v833 : BitVec 32) : Prop :=
  (∀ (k0_h2 : k0_cond2 i = 1#1), ∀ a, (k0_off113 v833) a + S1x128.size a ≤ S32000x128.size a)
theorem k0_off113_inb : ∀ (i : grid0.Coords) (v833 : BitVec 32) (k0_hw111 : k0_chk111 i v833), ∀ (k0_h2 : k0_cond2 i = 1#1), ∀ a, (k0_off113 v833) a + S1x128.size a ≤ S32000x128.size a := fun i v833 k0_hw111 k0_h2 => k0_hw111 k0_h2

def k0_off114 (v839 : BitVec 32) : Fin 2 → Nat :=
  let v840 : Index := Scalar.indexCast v839
  let c0_493 : Index := 0#32
  ![v840.toNat, 0]

def k0_chk112 (i : grid0.Coords) (v839 : BitVec 32) : Prop :=
  (∀ (k0_h2 : k0_cond2 i = 1#1), ∀ a, (k0_off114 v839) a + S1x128.size a ≤ S32000x128.size a)
theorem k0_off114_inb : ∀ (i : grid0.Coords) (v839 : BitVec 32) (k0_hw112 : k0_chk112 i v839), ∀ (k0_h2 : k0_cond2 i = 1#1), ∀ a, (k0_off114 v839) a + S1x128.size a ≤ S32000x128.size a := fun i v839 k0_hw112 k0_h2 => k0_hw112 k0_h2

def k0_off115 (v845 : BitVec 32) : Fin 2 → Nat :=
  let v846 : Index := Scalar.indexCast v845
  let c0_497 : Index := 0#32
  ![v846.toNat, 0]

def k0_chk113 (i : grid0.Coords) (v845 : BitVec 32) : Prop :=
  (∀ (k0_h2 : k0_cond2 i = 1#1), ∀ a, (k0_off115 v845) a + S1x128.size a ≤ S32000x128.size a)
theorem k0_off115_inb : ∀ (i : grid0.Coords) (v845 : BitVec 32) (k0_hw113 : k0_chk113 i v845), ∀ (k0_h2 : k0_cond2 i = 1#1), ∀ a, (k0_off115 v845) a + S1x128.size a ≤ S32000x128.size a := fun i v845 k0_hw113 k0_h2 => k0_hw113 k0_h2

def k0_off116 (v851 : BitVec 32) : Fin 2 → Nat :=
  let v852 : Index := Scalar.indexCast v851
  let c0_501 : Index := 0#32
  ![v852.toNat, 0]

def k0_chk114 (i : grid0.Coords) (v851 : BitVec 32) : Prop :=
  (∀ (k0_h2 : k0_cond2 i = 1#1), ∀ a, (k0_off116 v851) a + S1x128.size a ≤ S32000x128.size a)
theorem k0_off116_inb : ∀ (i : grid0.Coords) (v851 : BitVec 32) (k0_hw114 : k0_chk114 i v851), ∀ (k0_h2 : k0_cond2 i = 1#1), ∀ a, (k0_off116 v851) a + S1x128.size a ≤ S32000x128.size a := fun i v851 k0_hw114 k0_h2 => k0_hw114 k0_h2

def k0_off117 (v857 : BitVec 32) : Fin 2 → Nat :=
  let v858 : Index := Scalar.indexCast v857
  let c0_505 : Index := 0#32
  ![v858.toNat, 0]

def k0_chk115 (i : grid0.Coords) (v857 : BitVec 32) : Prop :=
  (∀ (k0_h2 : k0_cond2 i = 1#1), ∀ a, (k0_off117 v857) a + S1x128.size a ≤ S32000x128.size a)
theorem k0_off117_inb : ∀ (i : grid0.Coords) (v857 : BitVec 32) (k0_hw115 : k0_chk115 i v857), ∀ (k0_h2 : k0_cond2 i = 1#1), ∀ a, (k0_off117 v857) a + S1x128.size a ≤ S32000x128.size a := fun i v857 k0_hw115 k0_h2 => k0_hw115 k0_h2

def k0_off118 (v863 : BitVec 32) : Fin 2 → Nat :=
  let v864 : Index := Scalar.indexCast v863
  let c0_509 : Index := 0#32
  ![v864.toNat, 0]

def k0_chk116 (i : grid0.Coords) (v863 : BitVec 32) : Prop :=
  (∀ (k0_h2 : k0_cond2 i = 1#1), ∀ a, (k0_off118 v863) a + S1x128.size a ≤ S32000x128.size a)
theorem k0_off118_inb : ∀ (i : grid0.Coords) (v863 : BitVec 32) (k0_hw116 : k0_chk116 i v863), ∀ (k0_h2 : k0_cond2 i = 1#1), ∀ a, (k0_off118 v863) a + S1x128.size a ≤ S32000x128.size a := fun i v863 k0_hw116 k0_h2 => k0_hw116 k0_h2

def k0_off119 (v869 : BitVec 32) : Fin 2 → Nat :=
  let v870 : Index := Scalar.indexCast v869
  let c0_513 : Index := 0#32
  ![v870.toNat, 0]

def k0_chk117 (i : grid0.Coords) (v869 : BitVec 32) : Prop :=
  (∀ (k0_h2 : k0_cond2 i = 1#1), ∀ a, (k0_off119 v869) a + S1x128.size a ≤ S32000x128.size a)
theorem k0_off119_inb : ∀ (i : grid0.Coords) (v869 : BitVec 32) (k0_hw117 : k0_chk117 i v869), ∀ (k0_h2 : k0_cond2 i = 1#1), ∀ a, (k0_off119 v869) a + S1x128.size a ≤ S32000x128.size a := fun i v869 k0_hw117 k0_h2 => k0_hw117 k0_h2

def k0_off120 (v875 : BitVec 32) : Fin 2 → Nat :=
  let v876 : Index := Scalar.indexCast v875
  let c0_517 : Index := 0#32
  ![v876.toNat, 0]

def k0_chk118 (i : grid0.Coords) (v875 : BitVec 32) : Prop :=
  (∀ (k0_h2 : k0_cond2 i = 1#1), ∀ a, (k0_off120 v875) a + S1x128.size a ≤ S32000x128.size a)
theorem k0_off120_inb : ∀ (i : grid0.Coords) (v875 : BitVec 32) (k0_hw118 : k0_chk118 i v875), ∀ (k0_h2 : k0_cond2 i = 1#1), ∀ a, (k0_off120 v875) a + S1x128.size a ≤ S32000x128.size a := fun i v875 k0_hw118 k0_h2 => k0_hw118 k0_h2

def k0_off121 (v881 : BitVec 32) : Fin 2 → Nat :=
  let v882 : Index := Scalar.indexCast v881
  let c0_521 : Index := 0#32
  ![v882.toNat, 0]

def k0_chk119 (i : grid0.Coords) (v881 : BitVec 32) : Prop :=
  (∀ (k0_h2 : k0_cond2 i = 1#1), ∀ a, (k0_off121 v881) a + S1x128.size a ≤ S32000x128.size a)
theorem k0_off121_inb : ∀ (i : grid0.Coords) (v881 : BitVec 32) (k0_hw119 : k0_chk119 i v881), ∀ (k0_h2 : k0_cond2 i = 1#1), ∀ a, (k0_off121 v881) a + S1x128.size a ≤ S32000x128.size a := fun i v881 k0_hw119 k0_h2 => k0_hw119 k0_h2

def k0_off122 (v887 : BitVec 32) : Fin 2 → Nat :=
  let v888 : Index := Scalar.indexCast v887
  let c0_525 : Index := 0#32
  ![v888.toNat, 0]

def k0_chk120 (i : grid0.Coords) (v887 : BitVec 32) : Prop :=
  (∀ (k0_h2 : k0_cond2 i = 1#1), ∀ a, (k0_off122 v887) a + S1x128.size a ≤ S32000x128.size a)
theorem k0_off122_inb : ∀ (i : grid0.Coords) (v887 : BitVec 32) (k0_hw120 : k0_chk120 i v887), ∀ (k0_h2 : k0_cond2 i = 1#1), ∀ a, (k0_off122 v887) a + S1x128.size a ≤ S32000x128.size a := fun i v887 k0_hw120 k0_h2 => k0_hw120 k0_h2

def k0_off123 (v893 : BitVec 32) : Fin 2 → Nat :=
  let v894 : Index := Scalar.indexCast v893
  let c0_529 : Index := 0#32
  ![v894.toNat, 0]

def k0_chk121 (i : grid0.Coords) (v893 : BitVec 32) : Prop :=
  (∀ (k0_h2 : k0_cond2 i = 1#1), ∀ a, (k0_off123 v893) a + S1x128.size a ≤ S32000x128.size a)
theorem k0_off123_inb : ∀ (i : grid0.Coords) (v893 : BitVec 32) (k0_hw121 : k0_chk121 i v893), ∀ (k0_h2 : k0_cond2 i = 1#1), ∀ a, (k0_off123 v893) a + S1x128.size a ≤ S32000x128.size a := fun i v893 k0_hw121 k0_h2 => k0_hw121 k0_h2

def k0_off124 (v899 : BitVec 32) : Fin 2 → Nat :=
  let v900 : Index := Scalar.indexCast v899
  let c0_533 : Index := 0#32
  ![v900.toNat, 0]

def k0_chk122 (i : grid0.Coords) (v899 : BitVec 32) : Prop :=
  (∀ (k0_h2 : k0_cond2 i = 1#1), ∀ a, (k0_off124 v899) a + S1x128.size a ≤ S32000x128.size a)
theorem k0_off124_inb : ∀ (i : grid0.Coords) (v899 : BitVec 32) (k0_hw122 : k0_chk122 i v899), ∀ (k0_h2 : k0_cond2 i = 1#1), ∀ a, (k0_off124 v899) a + S1x128.size a ≤ S32000x128.size a := fun i v899 k0_hw122 k0_h2 => k0_hw122 k0_h2

def k0_off125 (v905 : BitVec 32) : Fin 2 → Nat :=
  let v906 : Index := Scalar.indexCast v905
  let c0_537 : Index := 0#32
  ![v906.toNat, 0]

def k0_chk123 (i : grid0.Coords) (v905 : BitVec 32) : Prop :=
  (∀ (k0_h2 : k0_cond2 i = 1#1), ∀ a, (k0_off125 v905) a + S1x128.size a ≤ S32000x128.size a)
theorem k0_off125_inb : ∀ (i : grid0.Coords) (v905 : BitVec 32) (k0_hw123 : k0_chk123 i v905), ∀ (k0_h2 : k0_cond2 i = 1#1), ∀ a, (k0_off125 v905) a + S1x128.size a ≤ S32000x128.size a := fun i v905 k0_hw123 k0_h2 => k0_hw123 k0_h2

def k0_off126 (v911 : BitVec 32) : Fin 2 → Nat :=
  let v912 : Index := Scalar.indexCast v911
  let c0_541 : Index := 0#32
  ![v912.toNat, 0]

def k0_chk124 (i : grid0.Coords) (v911 : BitVec 32) : Prop :=
  (∀ (k0_h2 : k0_cond2 i = 1#1), ∀ a, (k0_off126 v911) a + S1x128.size a ≤ S32000x128.size a)
theorem k0_off126_inb : ∀ (i : grid0.Coords) (v911 : BitVec 32) (k0_hw124 : k0_chk124 i v911), ∀ (k0_h2 : k0_cond2 i = 1#1), ∀ a, (k0_off126 v911) a + S1x128.size a ≤ S32000x128.size a := fun i v911 k0_hw124 k0_h2 => k0_hw124 k0_h2

def k0_off127 (v917 : BitVec 32) : Fin 2 → Nat :=
  let v918 : Index := Scalar.indexCast v917
  let c0_545 : Index := 0#32
  ![v918.toNat, 0]

def k0_chk125 (i : grid0.Coords) (v917 : BitVec 32) : Prop :=
  (∀ (k0_h2 : k0_cond2 i = 1#1), ∀ a, (k0_off127 v917) a + S1x128.size a ≤ S32000x128.size a)
theorem k0_off127_inb : ∀ (i : grid0.Coords) (v917 : BitVec 32) (k0_hw125 : k0_chk125 i v917), ∀ (k0_h2 : k0_cond2 i = 1#1), ∀ a, (k0_off127 v917) a + S1x128.size a ≤ S32000x128.size a := fun i v917 k0_hw125 k0_h2 => k0_hw125 k0_h2

def k0_off128 (v923 : BitVec 32) : Fin 2 → Nat :=
  let v924 : Index := Scalar.indexCast v923
  let c0_549 : Index := 0#32
  ![v924.toNat, 0]

def k0_chk126 (i : grid0.Coords) (v923 : BitVec 32) : Prop :=
  (∀ (k0_h2 : k0_cond2 i = 1#1), ∀ a, (k0_off128 v923) a + S1x128.size a ≤ S32000x128.size a)
theorem k0_off128_inb : ∀ (i : grid0.Coords) (v923 : BitVec 32) (k0_hw126 : k0_chk126 i v923), ∀ (k0_h2 : k0_cond2 i = 1#1), ∀ a, (k0_off128 v923) a + S1x128.size a ≤ S32000x128.size a := fun i v923 k0_hw126 k0_h2 => k0_hw126 k0_h2

def k0_off129 (v929 : BitVec 32) : Fin 2 → Nat :=
  let v930 : Index := Scalar.indexCast v929
  let c0_553 : Index := 0#32
  ![v930.toNat, 0]

def k0_chk127 (i : grid0.Coords) (v929 : BitVec 32) : Prop :=
  (∀ (k0_h2 : k0_cond2 i = 1#1), ∀ a, (k0_off129 v929) a + S1x128.size a ≤ S32000x128.size a)
theorem k0_off129_inb : ∀ (i : grid0.Coords) (v929 : BitVec 32) (k0_hw127 : k0_chk127 i v929), ∀ (k0_h2 : k0_cond2 i = 1#1), ∀ a, (k0_off129 v929) a + S1x128.size a ≤ S32000x128.size a := fun i v929 k0_hw127 k0_h2 => k0_hw127 k0_h2

def k0_off130 (v935 : BitVec 32) : Fin 2 → Nat :=
  let v936 : Index := Scalar.indexCast v935
  let c0_557 : Index := 0#32
  ![v936.toNat, 0]

def k0_chk128 (i : grid0.Coords) (v935 : BitVec 32) : Prop :=
  (∀ (k0_h2 : k0_cond2 i = 1#1), ∀ a, (k0_off130 v935) a + S1x128.size a ≤ S32000x128.size a)
theorem k0_off130_inb : ∀ (i : grid0.Coords) (v935 : BitVec 32) (k0_hw128 : k0_chk128 i v935), ∀ (k0_h2 : k0_cond2 i = 1#1), ∀ a, (k0_off130 v935) a + S1x128.size a ≤ S32000x128.size a := fun i v935 k0_hw128 k0_h2 => k0_hw128 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S250x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1280x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "ln_2" => some ((Real.log 2 : ℝ) : EReal)
  | "log2e" => some (((Real.log 2)⁻¹ : ℝ) : EReal)
  | "log2e_over_t" => some (((Real.log 2)⁻¹ * (16777216 / 11744051) : ℝ) : EReal)
  | "neg_log2e" => some ((-((Real.log 2)⁻¹) : ℝ) : EReal)
  | _ => none
-- ==== ReferenceIdeal.lean ====
abbrev S2x64x4096 : Shape := ⟨3, ![2, 64, 4096]⟩
abbrev S2x64 : Shape := ⟨2, ![2, 64]⟩
abbrev S32000x4096 : Shape := ⟨2, ![32000, 4096]⟩
abbrev S32000 : Shape := ⟨1, ![32000]⟩
abbrev S128x4096 : Shape := ⟨2, ![128, 4096]⟩
abbrev S128x32000 : Shape := ⟨2, ![128, 32000]⟩
abbrev S2x64x32000 : Shape := ⟨3, ![2, 64, 32000]⟩
abbrev S2x64x1 : Shape := ⟨3, ![2, 64, 1]⟩
abbrev S1x1x32000 : Shape := ⟨3, ![1, 1, 32000]⟩
abbrev S_ : Shape := ⟨0, ![]⟩
abbrev S64 : Shape := ⟨1, ![64]⟩
abbrev S1x64 : Shape := ⟨2, ![1, 64]⟩
abbrev S2 : Shape := ⟨1, ![2]⟩
abbrev S2x1 : Shape := ⟨2, ![2, 1]⟩
abbrev S2x64x3 : Shape := ⟨3, ![2, 64, 3]⟩
abbrev S1 : Shape := ⟨1, ![1]⟩
abbrev S1x1x1 : Shape := ⟨3, ![1, 1, 1]⟩

abbrev nBuf : Space → Nat
  | .hbm => 394
  | .vmem => 3
  | .smem => 0
  | _ => 0

abbrev hbmTy0_0 (i : Nat) : BufTy := match i % 128 with
  | 0 => ⟨S2x64x4096, .fp8e4m3⟩
  | 1 => ⟨S2x64, .f32⟩
  | 2 => ⟨S2x64, .i32⟩
  | 3 => ⟨S2x64, .i32⟩
  | 4 => ⟨S32000x4096, .fp8e4m3⟩
  | 5 => ⟨S32000, .f32⟩
  | 6 => ⟨S128x4096, .fp8e4m3⟩
  | 7 => ⟨S128x32000, .f32⟩
  | 8 => ⟨S2x64x32000, .f32⟩
  | 9 => ⟨S2x64x1, .f32⟩
  | 10 => ⟨S2x64x32000, .f32⟩
  | 11 => ⟨S2x64x32000, .f32⟩
  | 12 => ⟨S1x1x32000, .f32⟩
  | 13 => ⟨S2x64x32000, .f32⟩
  | 14 => ⟨S2x64x32000, .f32⟩
  | 15 => ⟨S_, .f32⟩
  | 16 => ⟨S2x64x32000, .f32⟩
  | 17 => ⟨S2x64x32000, .f32⟩
  | 18 => ⟨S_, .f32⟩
  | 19 => ⟨S2x64, .f32⟩
  | 20 => ⟨S_, .f32⟩
  | 21 => ⟨S2x64, .f32⟩
  | 22 => ⟨S2x64, .f32⟩
  | 23 => ⟨S2x64x1, .f32⟩
  | 24 => ⟨S2x64x32000, .f32⟩
  | 25 => ⟨S2x64x32000, .f32⟩
  | 26 => ⟨S2x64x32000, .f32⟩
  | 27 => ⟨S_, .f32⟩
  | 28 => ⟨S2x64, .f32⟩
  | 29 => ⟨S2x64x1, .f32⟩
  | 30 => ⟨S2x64x1, .f32⟩
  | 31 => ⟨S2x64x32000, .f32⟩
  | 32 => ⟨S2x64x32000, .f32⟩
  | 33 => ⟨S2x64x32000, .f32⟩
  | 34 => ⟨S2x64x32000, .f32⟩
  | 35 => ⟨S_, .f32⟩
  | 36 => ⟨S2x64, .f32⟩
  | 37 => ⟨S2x64, .f32⟩
  | 38 => ⟨S64, .i32⟩
  | 39 => ⟨S_, .i32⟩
  | 40 => ⟨S64, .i32⟩
  | 41 => ⟨S64, .i1⟩
  | 42 => ⟨S1x64, .i1⟩
  | 43 => ⟨S2, .i32⟩
  | 44 => ⟨S2x1, .i32⟩
  | 45 => ⟨S_, .i32⟩
  | 46 => ⟨S2x1, .i32⟩
  | 47 => ⟨S2x1, .i1⟩
  | 48 => ⟨S_, .i32⟩
  | 49 => ⟨S2x1, .i32⟩
  | 50 => ⟨S2x1, .i32⟩
  | 51 => ⟨S2x1, .i32⟩
  | 52 => ⟨S_, .i32⟩
  | 53 => ⟨S2x64, .i32⟩
  | 54 => ⟨S2x64, .i1⟩
  | 55 => ⟨S_, .i32⟩
  | 56 => ⟨S2x64, .i32⟩
  | 57 => ⟨S2x64, .i32⟩
  | 58 => ⟨S2x64, .i32⟩
  | 59 => ⟨S_, .i32⟩
  | 60 => ⟨S2x64, .i32⟩
  | 61 => ⟨S2x64, .i1⟩
  | 62 => ⟨S_, .i32⟩
  | 63 => ⟨S2x64, .i32⟩
  | 64 => ⟨S2x64, .i32⟩
  | 65 => ⟨S2x64, .i32⟩
  | 66 => ⟨S2x64, .i32⟩
  | 67 => ⟨S2x64x1, .i32⟩
  | 68 => ⟨S2x64x1, .i32⟩
  | 69 => ⟨S2x64x1, .i32⟩
  | 70 => ⟨S2x64x3, .i32⟩
  | 71 => ⟨S2x64, .f32⟩
  | 72 => ⟨S_, .i32⟩
  | 73 => ⟨S2x64, .i32⟩
  | 74 => ⟨S2x64, .i1⟩
  | 75 => ⟨S_, .i32⟩
  | 76 => ⟨S2x64, .i32⟩
  | 77 => ⟨S2x64, .i32⟩
  | 78 => ⟨S2x64, .i32⟩
  | 79 => ⟨S2x64x1, .i32⟩
  | 80 => ⟨S1, .i32⟩
  | 81 => ⟨S_, .i32⟩
  | 82 => ⟨S2x64x1, .i32⟩
  | 83 => ⟨S2x64x1, .i1⟩
  | 84 => ⟨S1x1x1, .i32⟩
  | 85 => ⟨S2x64x1, .i32⟩
  | 86 => ⟨S2x64x1, .i1⟩
  | 87 => ⟨S2x64x1, .i1⟩
  | 88 => ⟨S_, .i1⟩
  | 89 => ⟨S2x64, .i1⟩
  | 90 => ⟨S2x64, .f32⟩
  | 91 => ⟨S_, .f32⟩
  | 92 => ⟨S2x64, .f32⟩
  | 93 => ⟨S2x64, .f32⟩
  | 94 => ⟨S2x64, .f32⟩
  | 95 => ⟨S2x64, .f32⟩
  | 96 => ⟨S_, .f32⟩
  | 97 => ⟨S2x64, .f32⟩
  | 98 => ⟨S2x64, .f32⟩
  | 99 => ⟨S_, .f32⟩
  | 100 => ⟨S2x64, .f32⟩
  | 101 => ⟨S2x64, .f32⟩
  | 102 => ⟨S_, .f32⟩
  | 103 => ⟨S_, .f32⟩
  | 104 => ⟨S2x64, .i1⟩
  | 105 => ⟨S2x64, .f32⟩
  | 106 => ⟨S2x64, .f32⟩
  | 107 => ⟨S2x64, .f32⟩
  | 108 => ⟨S2x64, .f32⟩
  | 109 => ⟨S_, .f32⟩
  | 110 => ⟨S_, .f32⟩
  | 111 => ⟨S2x64, .i1⟩
  | 112 => ⟨S2x64, .f32⟩
  | 113 => ⟨S2x64, .f32⟩
  | 114 => ⟨S_, .f32⟩
  | 115 => ⟨S_, .f32⟩
  | 116 => ⟨S2x64, .i1⟩
  | 117 => ⟨S2x64, .f32⟩
  | 118 => ⟨S2x64, .f32⟩
  | 119 => ⟨S_, .i32⟩
  | 120 => ⟨S2x64, .i32⟩
  | 121 => ⟨S2x64, .i1⟩
  | 122 => ⟨S_, .i32⟩
  | 123 => ⟨S2x64, .i32⟩
  | 124 => ⟨S2x64, .i32⟩
  | 125 => ⟨S2x64, .i32⟩
  | 126 => ⟨S2x64x1, .i32⟩
  | 127 => ⟨S1, .i32⟩
  | _ => ⟨S2x64x4096, .fp8e4m3⟩

abbrev hbmTy0_1 (i : Nat) : BufTy := match i % 128 with
  | 0 => ⟨S_, .i32⟩
  | 1 => ⟨S2x64x1, .i32⟩
  | 2 => ⟨S2x64x1, .i1⟩
  | 3 => ⟨S1x1x1, .i32⟩
  | 4 => ⟨S2x64x1, .i32⟩
  | 5 => ⟨S2x64x1, .i1⟩
  | 6 => ⟨S2x64x1, .i1⟩
  | 7 => ⟨S_, .i1⟩
  | 8 => ⟨S2x64, .i1⟩
  | 9 => ⟨S2x64, .f32⟩
  | 10 => ⟨S_, .f32⟩
  | 11 => ⟨S2x64, .f32⟩
  | 12 => ⟨S2x64, .f32⟩
  | 13 => ⟨S2x64, .f32⟩
  | 14 => ⟨S_, .i32⟩
  | 15 => ⟨S2x64, .i32⟩
  | 16 => ⟨S2x64, .i1⟩
  | 17 => ⟨S_, .i32⟩
  | 18 => ⟨S2x64, .i32⟩
  | 19 => ⟨S2x64, .i32⟩
  | 20 => ⟨S2x64, .i32⟩
  | 21 => ⟨S2x64x1, .i32⟩
  | 22 => ⟨S1, .i32⟩
  | 23 => ⟨S_, .i32⟩
  | 24 => ⟨S2x64x1, .i32⟩
  | 25 => ⟨S2x64x1, .i1⟩
  | 26 => ⟨S1x1x1, .i32⟩
  | 27 => ⟨S2x64x1, .i32⟩
  | 28 => ⟨S2x64x1, .i1⟩
  | 29 => ⟨S2x64x1, .i1⟩
  | 30 => ⟨S_, .i1⟩
  | 31 => ⟨S2x64, .i1⟩
  | 32 => ⟨S2x64, .i32⟩
  | 33 => ⟨S_, .i32⟩
  | 34 => ⟨S2x64, .i32⟩
  | 35 => ⟨S2x64, .i32⟩
  | 36 => ⟨S_, .i32⟩
  | 37 => ⟨S2x64, .i32⟩
  | 38 => ⟨S2x64, .i1⟩
  | 39 => ⟨S_, .i32⟩
  | 40 => ⟨S2x64, .i32⟩
  | 41 => ⟨S2x64, .i32⟩
  | 42 => ⟨S2x64, .i32⟩
  | 43 => ⟨S2x64x1, .i32⟩
  | 44 => ⟨S1, .i32⟩
  | 45 => ⟨S_, .i32⟩
  | 46 => ⟨S2x64x1, .i32⟩
  | 47 => ⟨S2x64x1, .i1⟩
  | 48 => ⟨S1x1x1, .i32⟩
  | 49 => ⟨S2x64x1, .i32⟩
  | 50 => ⟨S2x64x1, .i1⟩
  | 51 => ⟨S2x64x1, .i1⟩
  | 52 => ⟨S_, .i1⟩
  | 53 => ⟨S2x64, .i1⟩
  | 54 => ⟨S2x64, .f32⟩
  | 55 => ⟨S_, .f32⟩
  | 56 => ⟨S2x64, .f32⟩
  | 57 => ⟨S2x64, .f32⟩
  | 58 => ⟨S2x64, .f32⟩
  | 59 => ⟨S_, .i32⟩
  | 60 => ⟨S2x64, .i32⟩
  | 61 => ⟨S2x64, .i1⟩
  | 62 => ⟨S_, .i32⟩
  | 63 => ⟨S2x64, .i32⟩
  | 64 => ⟨S2x64, .i32⟩
  | 65 => ⟨S2x64, .i32⟩
  | 66 => ⟨S2x64x1, .i32⟩
  | 67 => ⟨S1, .i32⟩
  | 68 => ⟨S_, .i32⟩
  | 69 => ⟨S2x64x1, .i32⟩
  | 70 => ⟨S2x64x1, .i1⟩
  | 71 => ⟨S1x1x1, .i32⟩
  | 72 => ⟨S2x64x1, .i32⟩
  | 73 => ⟨S2x64x1, .i1⟩
  | 74 => ⟨S2x64x1, .i1⟩
  | 75 => ⟨S_, .i1⟩
  | 76 => ⟨S2x64, .i1⟩
  | 77 => ⟨S2x64, .i32⟩
  | 78 => ⟨S_, .i32⟩
  | 79 => ⟨S2x64, .i32⟩
  | 80 => ⟨S2x64, .i32⟩
  | 81 => ⟨S_, .i32⟩
  | 82 => ⟨S2x64, .i32⟩
  | 83 => ⟨S2x64, .i1⟩
  | 84 => ⟨S_, .i32⟩
  | 85 => ⟨S2x64, .i32⟩
  | 86 => ⟨S2x64, .i32⟩
  | 87 => ⟨S2x64, .i32⟩
  | 88 => ⟨S2x64x1, .i32⟩
  | 89 => ⟨S1, .i32⟩
  | 90 => ⟨S_, .i32⟩
  | 91 => ⟨S2x64x1, .i32⟩
  | 92 => ⟨S2x64x1, .i1⟩
  | 93 => ⟨S1x1x1, .i32⟩
  | 94 => ⟨S2x64x1, .i32⟩
  | 95 => ⟨S2x64x1, .i1⟩
  | 96 => ⟨S2x64x1, .i1⟩
  | 97 => ⟨S_, .i1⟩
  | 98 => ⟨S2x64, .i1⟩
  | 99 => ⟨S2x64, .f32⟩
  | 100 => ⟨S_, .f32⟩
  | 101 => ⟨S2x64, .f32⟩
  | 102 => ⟨S2x64, .f32⟩
  | 103 => ⟨S2x64, .f32⟩
  | 104 => ⟨S_, .i32⟩
  | 105 => ⟨S2x64, .i32⟩
  | 106 => ⟨S2x64, .i1⟩
  | 107 => ⟨S_, .i32⟩
  | 108 => ⟨S2x64, .i32⟩
  | 109 => ⟨S2x64, .i32⟩
  | 110 => ⟨S2x64, .i32⟩
  | 111 => ⟨S2x64x1, .i32⟩
  | 112 => ⟨S1, .i32⟩
  | 113 => ⟨S_, .i32⟩
  | 114 => ⟨S2x64x1, .i32⟩
  | 115 => ⟨S2x64x1, .i1⟩
  | 116 => ⟨S1x1x1, .i32⟩
  | 117 => ⟨S2x64x1, .i32⟩
  | 118 => ⟨S2x64x1, .i1⟩
  | 119 => ⟨S2x64x1, .i1⟩
  | 120 => ⟨S_, .i1⟩
  | 121 => ⟨S2x64, .i1⟩
  | 122 => ⟨S2x64, .i32⟩
  | 123 => ⟨S_, .i32⟩
  | 124 => ⟨S2x64, .i32⟩
  | 125 => ⟨S2x64, .i32⟩
  | 126 => ⟨S_, .i32⟩
  | 127 => ⟨S2x64, .i32⟩
  | _ => ⟨S2x64x4096, .fp8e4m3⟩

abbrev hbmTy0_2 (i : Nat) : BufTy := match i % 128 with
  | 0 => ⟨S2x64, .i1⟩
  | 1 => ⟨S_, .i32⟩
  | 2 => ⟨S2x64, .i32⟩
  | 3 => ⟨S2x64, .i32⟩
  | 4 => ⟨S2x64, .i32⟩
  | 5 => ⟨S2x64x1, .i32⟩
  | 6 => ⟨S1, .i32⟩
  | 7 => ⟨S_, .i32⟩
  | 8 => ⟨S2x64x1, .i32⟩
  | 9 => ⟨S2x64x1, .i1⟩
  | 10 => ⟨S1x1x1, .i32⟩
  | 11 => ⟨S2x64x1, .i32⟩
  | 12 => ⟨S2x64x1, .i1⟩
  | 13 => ⟨S2x64x1, .i1⟩
  | 14 => ⟨S_, .i1⟩
  | 15 => ⟨S2x64, .i1⟩
  | 16 => ⟨S2x64, .f32⟩
  | 17 => ⟨S_, .f32⟩
  | 18 => ⟨S2x64, .f32⟩
  | 19 => ⟨S2x64, .f32⟩
  | 20 => ⟨S2x64, .f32⟩
  | 21 => ⟨S_, .i32⟩
  | 22 => ⟨S2x64, .i32⟩
  | 23 => ⟨S2x64, .i1⟩
  | 24 => ⟨S_, .i32⟩
  | 25 => ⟨S2x64, .i32⟩
  | 26 => ⟨S2x64, .i32⟩
  | 27 => ⟨S2x64, .i32⟩
  | 28 => ⟨S2x64x1, .i32⟩
  | 29 => ⟨S1, .i32⟩
  | 30 => ⟨S_, .i32⟩
  | 31 => ⟨S2x64x1, .i32⟩
  | 32 => ⟨S2x64x1, .i1⟩
  | 33 => ⟨S1x1x1, .i32⟩
  | 34 => ⟨S2x64x1, .i32⟩
  | 35 => ⟨S2x64x1, .i1⟩
  | 36 => ⟨S2x64x1, .i1⟩
  | 37 => ⟨S_, .i1⟩
  | 38 => ⟨S2x64, .i1⟩
  | 39 => ⟨S2x64, .i32⟩
  | 40 => ⟨S_, .i32⟩
  | 41 => ⟨S2x64, .i32⟩
  | 42 => ⟨S2x64, .i32⟩
  | 43 => ⟨S_, .i32⟩
  | 44 => ⟨S2x64, .i32⟩
  | 45 => ⟨S2x64, .i1⟩
  | 46 => ⟨S_, .i32⟩
  | 47 => ⟨S2x64, .i32⟩
  | 48 => ⟨S2x64, .i32⟩
  | 49 => ⟨S2x64, .i32⟩
  | 50 => ⟨S2x64x1, .i32⟩
  | 51 => ⟨S1, .i32⟩
  | 52 => ⟨S_, .i32⟩
  | 53 => ⟨S2x64x1, .i32⟩
  | 54 => ⟨S2x64x1, .i1⟩
  | 55 => ⟨S1x1x1, .i32⟩
  | 56 => ⟨S2x64x1, .i32⟩
  | 57 => ⟨S2x64x1, .i1⟩
  | 58 => ⟨S2x64x1, .i1⟩
  | 59 => ⟨S_, .i1⟩
  | 60 => ⟨S2x64, .i1⟩
  | 61 => ⟨S2x64, .f32⟩
  | 62 => ⟨S_, .f32⟩
  | 63 => ⟨S2x64, .f32⟩
  | 64 => ⟨S2x64, .f32⟩
  | 65 => ⟨S2x64, .f32⟩
  | 66 => ⟨S_, .i32⟩
  | 67 => ⟨S2x64, .i32⟩
  | 68 => ⟨S2x64, .i1⟩
  | 69 => ⟨S_, .i32⟩
  | 70 => ⟨S2x64, .i32⟩
  | 71 => ⟨S2x64, .i32⟩
  | 72 => ⟨S2x64, .i32⟩
  | 73 => ⟨S2x64x1, .i32⟩
  | 74 => ⟨S1, .i32⟩
  | 75 => ⟨S_, .i32⟩
  | 76 => ⟨S2x64x1, .i32⟩
  | 77 => ⟨S2x64x1, .i1⟩
  | 78 => ⟨S1x1x1, .i32⟩
  | 79 => ⟨S2x64x1, .i32⟩
  | 80 => ⟨S2x64x1, .i1⟩
  | 81 => ⟨S2x64x1, .i1⟩
  | 82 => ⟨S_, .i1⟩
  | 83 => ⟨S2x64, .i1⟩
  | 84 => ⟨S2x64, .i32⟩
  | 85 => ⟨S_, .i32⟩
  | 86 => ⟨S2x64, .i32⟩
  | 87 => ⟨S2x64, .i32⟩
  | 88 => ⟨S_, .i32⟩
  | 89 => ⟨S2x64, .i32⟩
  | 90 => ⟨S2x64, .i1⟩
  | 91 => ⟨S_, .i32⟩
  | 92 => ⟨S2x64, .i32⟩
  | 93 => ⟨S2x64, .i32⟩
  | 94 => ⟨S2x64, .i32⟩
  | 95 => ⟨S2x64x1, .i32⟩
  | 96 => ⟨S1, .i32⟩
  | 97 => ⟨S_, .i32⟩
  | 98 => ⟨S2x64x1, .i32⟩
  | 99 => ⟨S2x64x1, .i1⟩
  | 100 => ⟨S1x1x1, .i32⟩
  | 101 => ⟨S2x64x1, .i32⟩
  | 102 => ⟨S2x64x1, .i1⟩
  | 103 => ⟨S2x64x1, .i1⟩
  | 104 => ⟨S_, .i1⟩
  | 105 => ⟨S2x64, .i1⟩
  | 106 => ⟨S2x64, .f32⟩
  | 107 => ⟨S_, .f32⟩
  | 108 => ⟨S2x64, .f32⟩
  | 109 => ⟨S2x64, .f32⟩
  | 110 => ⟨S2x64, .f32⟩
  | 111 => ⟨S_, .i32⟩
  | 112 => ⟨S2x64, .i32⟩
  | 113 => ⟨S2x64, .i1⟩
  | 114 => ⟨S_, .i32⟩
  | 115 => ⟨S2x64, .i32⟩
  | 116 => ⟨S2x64, .i32⟩
  | 117 => ⟨S2x64, .i32⟩
  | 118 => ⟨S2x64x1, .i32⟩
  | 119 => ⟨S1, .i32⟩
  | 120 => ⟨S_, .i32⟩
  | 121 => ⟨S2x64x1, .i32⟩
  | 122 => ⟨S2x64x1, .i1⟩
  | 123 => ⟨S1x1x1, .i32⟩
  | 124 => ⟨S2x64x1, .i32⟩
  | 125 => ⟨S2x64x1, .i1⟩
  | 126 => ⟨S2x64x1, .i1⟩
  | 127 => ⟨S_, .i1⟩
  | _ => ⟨S2x64x4096, .fp8e4m3⟩

abbrev hbmTy0_3 (i : Nat) : BufTy := match i % 128 with
  | 0 => ⟨S2x64, .i1⟩
  | 1 => ⟨S2x64, .i32⟩
  | 2 => ⟨S_, .i32⟩
  | 3 => ⟨S2x64, .i32⟩
  | 4 => ⟨S2x64, .i32⟩
  | 5 => ⟨S_, .f32⟩
  | 6 => ⟨S_, .f32⟩
  | 7 => ⟨S2x64, .i1⟩
  | 8 => ⟨S2x64, .f32⟩
  | 9 => ⟨S2x64, .f32⟩
  | _ => ⟨S2x64x4096, .fp8e4m3⟩

abbrev hbmTy (i : Nat) : BufTy := match i / 128 with
  | 0 => hbmTy0_0 i
  | 1 => hbmTy0_1 i
  | 2 => hbmTy0_2 i
  | 3 => hbmTy0_3 i
  | _ => ⟨S2x64x4096, .fp8e4m3⟩

abbrev bufTy : (tb : Table) → Fin (tcTables nBuf tb) → BufTy
  | .hbm, ⟨i, _⟩ => hbmTy i
  | .local _ .vmem, ⟨0, _⟩ => ⟨S128x4096, .fp8e4m3⟩
  | .local _ .vmem, ⟨1, _⟩ => ⟨S32000x4096, .fp8e4m3⟩
  | .local _ .vmem, ⟨2, _⟩ => ⟨S128x32000, .f32⟩
  | _, _ => ⟨S2x64x4096, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_1 : Ref sig .tc := ⟨.hbm, 45, rfl⟩
abbrev main_v22 : Ref sig .tc := ⟨.hbm, 46, rfl⟩
abbrev main_v23 : Ref sig .tc := ⟨.hbm, 47, rfl⟩
abbrev main_c_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_cst : Ref sig .tc := ⟨.hbm, 91, rfl⟩
abbrev main_call1_v14 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_cst_8 : Ref sig .tc := ⟨.hbm, 99, rfl⟩
abbrev main_v48 : Ref sig .tc := ⟨.hbm, 100, rfl⟩
abbrev main_v49 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_10 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v53 : Ref sig .tc := ⟨.hbm, 113, rfl⟩
abbrev main_cst_11 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v54 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_cst : Ref sig .tc := ⟨.hbm, 138, rfl⟩
abbrev main_call5_v14 : Ref sig .tc := ⟨.hbm, 139, rfl⟩
abbrev main_v55 : Ref sig .tc := ⟨.hbm, 140, rfl⟩
abbrev main_v56 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_c_4 : Ref sig .tc := ⟨.hbm, 161, rfl⟩
abbrev main_call6_v14 : Ref sig .tc := ⟨.hbm, 162, rfl⟩
abbrev main_v57 : Ref sig .tc := ⟨.hbm, 163, rfl⟩
abbrev main_call7_c : Ref sig .tc := ⟨.hbm, 164, rfl⟩
abbrev main_call7_v0 : Ref sig .tc := ⟨.hbm, 165, rfl⟩
abbrev main_call7_v1 : Ref sig .tc := ⟨.hbm, 166, rfl⟩
abbrev main_call7_c_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_c_1 : Ref sig .tc := ⟨.hbm, 172, rfl⟩
abbrev main_call7_c_2 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_v9 : Ref sig .tc := ⟨.hbm, 177, rfl⟩
abbrev main_call7_v10 : Ref sig .tc := ⟨.hbm, 178, rfl⟩
abbrev main_call7_v11 : Ref sig .tc := ⟨.hbm, 179, rfl⟩
abbrev main_call7_c_3 : Ref sig .tc := ⟨.hbm, 180, rfl⟩
abbrev main_call7_v12 : Ref sig .tc := ⟨.hbm, 181, rfl⟩
abbrev main_call7_v13 : Ref sig .tc := ⟨.hbm, 182, rfl⟩
abbrev main_call7_cst : Ref sig .tc := ⟨.hbm, 183, rfl⟩
abbrev main_call7_v14 : Ref sig .tc := ⟨.hbm, 184, rfl⟩
abbrev main_v58 : Ref sig .tc := ⟨.hbm, 185, rfl⟩
abbrev main_v59 : Ref sig .tc := ⟨.hbm, 186, rfl⟩
abbrev main_call8_c : Ref sig .tc := ⟨.hbm, 187, rfl⟩
abbrev main_call8_v0 : Ref sig .tc := ⟨.hbm, 188, rfl⟩
abbrev main_call8_v1 : Ref sig .tc := ⟨.hbm, 189, rfl⟩
abbrev main_call8_c_0 : Ref sig .tc := ⟨.hbm, 190, rfl⟩
abbrev main_call8_v2 : Ref sig .tc := ⟨.hbm, 191, rfl⟩
abbrev main_call8_v3 : Ref sig .tc := ⟨.hbm, 192, rfl⟩
abbrev main_call8_v4 : Ref sig .tc := ⟨.hbm, 193, rfl⟩
abbrev main_call8_v5 : Ref sig .tc := ⟨.hbm, 194, rfl⟩
abbrev main_call8_c_1 : Ref sig .tc := ⟨.hbm, 195, rfl⟩
abbrev main_call8_c_2 : Ref sig .tc := ⟨.hbm, 196, rfl⟩
abbrev main_call8_v6 : Ref sig .tc := ⟨.hbm, 197, rfl⟩
abbrev main_call8_v7 : Ref sig .tc := ⟨.hbm, 198, rfl⟩
abbrev main_call8_v8 : Ref sig .tc := ⟨.hbm, 199, rfl⟩
abbrev main_call8_v9 : Ref sig .tc := ⟨.hbm, 200, rfl⟩
abbrev main_call8_v10 : Ref sig .tc := ⟨.hbm, 201, rfl⟩
abbrev main_call8_v11 : Ref sig .tc := ⟨.hbm, 202, rfl⟩
abbrev main_call8_c_3 : Ref sig .tc := ⟨.hbm, 203, rfl⟩
abbrev main_call8_v12 : Ref sig .tc := ⟨.hbm, 204, rfl⟩
abbrev main_call8_v13 : Ref sig .tc := ⟨.hbm, 205, rfl⟩
abbrev main_call8_c_4 : Ref sig .tc := ⟨.hbm, 206, rfl⟩
abbrev main_call8_v14 : Ref sig .tc := ⟨.hbm, 207, rfl⟩
abbrev main_v60 : Ref sig .tc := ⟨.hbm, 208, rfl⟩
abbrev main_call9_c : Ref sig .tc := ⟨.hbm, 209, rfl⟩
abbrev main_call9_v0 : Ref sig .tc := ⟨.hbm, 210, rfl⟩
abbrev main_call9_v1 : Ref sig .tc := ⟨.hbm, 211, rfl⟩
abbrev main_call9_c_0 : Ref sig .tc := ⟨.hbm, 212, rfl⟩
abbrev main_call9_v2 : Ref sig .tc := ⟨.hbm, 213, rfl⟩
abbrev main_call9_v3 : Ref sig .tc := ⟨.hbm, 214, rfl⟩
abbrev main_call9_v4 : Ref sig .tc := ⟨.hbm, 215, rfl⟩
abbrev main_call9_v5 : Ref sig .tc := ⟨.hbm, 216, rfl⟩
abbrev main_call9_c_1 : Ref sig .tc := ⟨.hbm, 217, rfl⟩
abbrev main_call9_c_2 : Ref sig .tc := ⟨.hbm, 218, rfl⟩
abbrev main_call9_v6 : Ref sig .tc := ⟨.hbm, 219, rfl⟩
abbrev main_call9_v7 : Ref sig .tc := ⟨.hbm, 220, rfl⟩
abbrev main_call9_v8 : Ref sig .tc := ⟨.hbm, 221, rfl⟩
abbrev main_call9_v9 : Ref sig .tc := ⟨.hbm, 222, rfl⟩
abbrev main_call9_v10 : Ref sig .tc := ⟨.hbm, 223, rfl⟩
abbrev main_call9_v11 : Ref sig .tc := ⟨.hbm, 224, rfl⟩
abbrev main_call9_c_3 : Ref sig .tc := ⟨.hbm, 225, rfl⟩
abbrev main_call9_v12 : Ref sig .tc := ⟨.hbm, 226, rfl⟩
abbrev main_call9_v13 : Ref sig .tc := ⟨.hbm, 227, rfl⟩
abbrev main_call9_cst : Ref sig .tc := ⟨.hbm, 228, rfl⟩
abbrev main_call9_v14 : Ref sig .tc := ⟨.hbm, 229, rfl⟩
abbrev main_v61 : Ref sig .tc := ⟨.hbm, 230, rfl⟩
abbrev main_v62 : Ref sig .tc := ⟨.hbm, 231, rfl⟩
abbrev main_call10_c : Ref sig .tc := ⟨.hbm, 232, rfl⟩
abbrev main_call10_v0 : Ref sig .tc := ⟨.hbm, 233, rfl⟩
abbrev main_call10_v1 : Ref sig .tc := ⟨.hbm, 234, rfl⟩
abbrev main_call10_c_0 : Ref sig .tc := ⟨.hbm, 235, rfl⟩
abbrev main_call10_v2 : Ref sig .tc := ⟨.hbm, 236, rfl⟩
abbrev main_call10_v3 : Ref sig .tc := ⟨.hbm, 237, rfl⟩
abbrev main_call10_v4 : Ref sig .tc := ⟨.hbm, 238, rfl⟩
abbrev main_call10_v5 : Ref sig .tc := ⟨.hbm, 239, rfl⟩
abbrev main_call10_c_1 : Ref sig .tc := ⟨.hbm, 240, rfl⟩
abbrev main_call10_c_2 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_v11 : Ref sig .tc := ⟨.hbm, 247, rfl⟩
abbrev main_call10_c_3 : Ref sig .tc := ⟨.hbm, 248, rfl⟩
abbrev main_call10_v12 : Ref sig .tc := ⟨.hbm, 249, rfl⟩
abbrev main_call10_v13 : Ref sig .tc := ⟨.hbm, 250, rfl⟩
abbrev main_call10_c_4 : Ref sig .tc := ⟨.hbm, 251, rfl⟩
abbrev main_call10_v14 : Ref sig .tc := ⟨.hbm, 252, rfl⟩
abbrev main_v63 : Ref sig .tc := ⟨.hbm, 253, rfl⟩
abbrev main_call11_c : Ref sig .tc := ⟨.hbm, 254, rfl⟩
abbrev main_call11_v0 : Ref sig .tc := ⟨.hbm, 255, rfl⟩
abbrev main_call11_v1 : Ref sig .tc := ⟨.hbm, 256, rfl⟩
abbrev main_call11_c_0 : Ref sig .tc := ⟨.hbm, 257, rfl⟩
abbrev main_call11_v2 : Ref sig .tc := ⟨.hbm, 258, rfl⟩
abbrev main_call11_v3 : Ref sig .tc := ⟨.hbm, 259, rfl⟩
abbrev main_call11_v4 : Ref sig .tc := ⟨.hbm, 260, rfl⟩
abbrev main_call11_v5 : Ref sig .tc := ⟨.hbm, 261, rfl⟩
abbrev main_call11_c_1 : Ref sig .tc := ⟨.hbm, 262, rfl⟩
abbrev main_call11_c_2 : Ref sig .tc := ⟨.hbm, 263, rfl⟩
abbrev main_call11_v6 : Ref sig .tc := ⟨.hbm, 264, rfl⟩
abbrev main_call11_v7 : Ref sig .tc := ⟨.hbm, 265, rfl⟩
abbrev main_call11_v8 : Ref sig .tc := ⟨.hbm, 266, rfl⟩
abbrev main_call11_v9 : Ref sig .tc := ⟨.hbm, 267, rfl⟩
abbrev main_call11_v10 : Ref sig .tc := ⟨.hbm, 268, rfl⟩
abbrev main_call11_v11 : Ref sig .tc := ⟨.hbm, 269, rfl⟩
abbrev main_call11_c_3 : Ref sig .tc := ⟨.hbm, 270, rfl⟩
abbrev main_call11_v12 : Ref sig .tc := ⟨.hbm, 271, rfl⟩
abbrev main_call11_v13 : Ref sig .tc := ⟨.hbm, 272, rfl⟩
abbrev main_call11_cst : Ref sig .tc := ⟨.hbm, 273, rfl⟩
abbrev main_call11_v14 : Ref sig .tc := ⟨.hbm, 274, rfl⟩
abbrev main_v64 : Ref sig .tc := ⟨.hbm, 275, rfl⟩
abbrev main_v65 : Ref sig .tc := ⟨.hbm, 276, rfl⟩
abbrev main_call12_c : Ref sig .tc := ⟨.hbm, 277, rfl⟩
abbrev main_call12_v0 : Ref sig .tc := ⟨.hbm, 278, rfl⟩
abbrev main_call12_v1 : Ref sig .tc := ⟨.hbm, 279, rfl⟩
abbrev main_call12_c_0 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_call12_v5 : Ref sig .tc := ⟨.hbm, 284, rfl⟩
abbrev main_call12_c_1 : Ref sig .tc := ⟨.hbm, 285, rfl⟩
abbrev main_call12_c_2 : Ref sig .tc := ⟨.hbm, 286, rfl⟩
abbrev main_call12_v6 : Ref sig .tc := ⟨.hbm, 287, rfl⟩
abbrev main_call12_v7 : Ref sig .tc := ⟨.hbm, 288, rfl⟩
abbrev main_call12_v8 : Ref sig .tc := ⟨.hbm, 289, rfl⟩
abbrev main_call12_v9 : Ref sig .tc := ⟨.hbm, 290, rfl⟩
abbrev main_call12_v10 : Ref sig .tc := ⟨.hbm, 291, rfl⟩
abbrev main_call12_v11 : Ref sig .tc := ⟨.hbm, 292, rfl⟩
abbrev main_call12_c_3 : Ref sig .tc := ⟨.hbm, 293, rfl⟩
abbrev main_call12_v12 : Ref sig .tc := ⟨.hbm, 294, rfl⟩
abbrev main_call12_v13 : Ref sig .tc := ⟨.hbm, 295, rfl⟩
abbrev main_call12_c_4 : Ref sig .tc := ⟨.hbm, 296, rfl⟩
abbrev main_call12_v14 : Ref sig .tc := ⟨.hbm, 297, rfl⟩
abbrev main_v66 : Ref sig .tc := ⟨.hbm, 298, rfl⟩
abbrev main_call13_c : Ref sig .tc := ⟨.hbm, 299, rfl⟩
abbrev main_call13_v0 : Ref sig .tc := ⟨.hbm, 300, rfl⟩
abbrev main_call13_v1 : Ref sig .tc := ⟨.hbm, 301, rfl⟩
abbrev main_call13_c_0 : Ref sig .tc := ⟨.hbm, 302, rfl⟩
abbrev main_call13_v2 : Ref sig .tc := ⟨.hbm, 303, rfl⟩
abbrev main_call13_v3 : Ref sig .tc := ⟨.hbm, 304, rfl⟩
abbrev main_call13_v4 : Ref sig .tc := ⟨.hbm, 305, rfl⟩
abbrev main_call13_v5 : Ref sig .tc := ⟨.hbm, 306, rfl⟩
abbrev main_call13_c_1 : Ref sig .tc := ⟨.hbm, 307, rfl⟩
abbrev main_call13_c_2 : Ref sig .tc := ⟨.hbm, 308, rfl⟩
abbrev main_call13_v6 : Ref sig .tc := ⟨.hbm, 309, rfl⟩
abbrev main_call13_v7 : Ref sig .tc := ⟨.hbm, 310, rfl⟩
abbrev main_call13_v8 : Ref sig .tc := ⟨.hbm, 311, rfl⟩
abbrev main_call13_v9 : Ref sig .tc := ⟨.hbm, 312, rfl⟩
abbrev main_call13_v10 : Ref sig .tc := ⟨.hbm, 313, rfl⟩
abbrev main_call13_v11 : Ref sig .tc := ⟨.hbm, 314, rfl⟩
abbrev main_call13_c_3 : Ref sig .tc := ⟨.hbm, 315, rfl⟩
abbrev main_call13_v12 : Ref sig .tc := ⟨.hbm, 316, rfl⟩
abbrev main_call13_v13 : Ref sig .tc := ⟨.hbm, 317, rfl⟩
abbrev main_call13_cst : Ref sig .tc := ⟨.hbm, 318, rfl⟩
abbrev main_call13_v14 : Ref sig .tc := ⟨.hbm, 319, rfl⟩
abbrev main_v67 : Ref sig .tc := ⟨.hbm, 320, rfl⟩
abbrev main_v68 : Ref sig .tc := ⟨.hbm, 321, rfl⟩
abbrev main_call14_c : Ref sig .tc := ⟨.hbm, 322, rfl⟩
abbrev main_call14_v0 : Ref sig .tc := ⟨.hbm, 323, rfl⟩
abbrev main_call14_v1 : Ref sig .tc := ⟨.hbm, 324, rfl⟩
abbrev main_call14_c_0 : Ref sig .tc := ⟨.hbm, 325, rfl⟩
abbrev main_call14_v2 : Ref sig .tc := ⟨.hbm, 326, rfl⟩
abbrev main_call14_v3 : Ref sig .tc := ⟨.hbm, 327, rfl⟩
abbrev main_call14_v4 : Ref sig .tc := ⟨.hbm, 328, rfl⟩
abbrev main_call14_v5 : Ref sig .tc := ⟨.hbm, 329, rfl⟩
abbrev main_call14_c_1 : Ref sig .tc := ⟨.hbm, 330, rfl⟩
abbrev main_call14_c_2 : Ref sig .tc := ⟨.hbm, 331, rfl⟩
abbrev main_call14_v6 : Ref sig .tc := ⟨.hbm, 332, rfl⟩
abbrev main_call14_v7 : Ref sig .tc := ⟨.hbm, 333, rfl⟩
abbrev main_call14_v8 : Ref sig .tc := ⟨.hbm, 334, rfl⟩
abbrev main_call14_v9 : Ref sig .tc := ⟨.hbm, 335, rfl⟩
abbrev main_call14_v10 : Ref sig .tc := ⟨.hbm, 336, rfl⟩
abbrev main_call14_v11 : Ref sig .tc := ⟨.hbm, 337, rfl⟩
abbrev main_call14_c_3 : Ref sig .tc := ⟨.hbm, 338, rfl⟩
abbrev main_call14_v12 : Ref sig .tc := ⟨.hbm, 339, rfl⟩
abbrev main_call14_v13 : Ref sig .tc := ⟨.hbm, 340, rfl⟩
abbrev main_call14_c_4 : Ref sig .tc := ⟨.hbm, 341, rfl⟩
abbrev main_call14_v14 : Ref sig .tc := ⟨.hbm, 342, rfl⟩
abbrev main_v69 : Ref sig .tc := ⟨.hbm, 343, rfl⟩
abbrev main_call15_c : Ref sig .tc := ⟨.hbm, 344, rfl⟩
abbrev main_call15_v0 : Ref sig .tc := ⟨.hbm, 345, rfl⟩
abbrev main_call15_v1 : Ref sig .tc := ⟨.hbm, 346, rfl⟩
abbrev main_call15_c_0 : Ref sig .tc := ⟨.hbm, 347, rfl⟩
abbrev main_call15_v2 : Ref sig .tc := ⟨.hbm, 348, rfl⟩
abbrev main_call15_v3 : Ref sig .tc := ⟨.hbm, 349, rfl⟩
abbrev main_call15_v4 : Ref sig .tc := ⟨.hbm, 350, rfl⟩
abbrev main_call15_v5 : Ref sig .tc := ⟨.hbm, 351, rfl⟩
abbrev main_call15_c_1 : Ref sig .tc := ⟨.hbm, 352, rfl⟩
abbrev main_call15_c_2 : Ref sig .tc := ⟨.hbm, 353, rfl⟩
abbrev main_call15_v6 : Ref sig .tc := ⟨.hbm, 354, rfl⟩
abbrev main_call15_v7 : Ref sig .tc := ⟨.hbm, 355, rfl⟩
abbrev main_call15_v8 : Ref sig .tc := ⟨.hbm, 356, rfl⟩
abbrev main_call15_v9 : Ref sig .tc := ⟨.hbm, 357, rfl⟩
abbrev main_call15_v10 : Ref sig .tc := ⟨.hbm, 358, rfl⟩
abbrev main_call15_v11 : Ref sig .tc := ⟨.hbm, 359, rfl⟩
abbrev main_call15_c_3 : Ref sig .tc := ⟨.hbm, 360, rfl⟩
abbrev main_call15_v12 : Ref sig .tc := ⟨.hbm, 361, rfl⟩
abbrev main_call15_v13 : Ref sig .tc := ⟨.hbm, 362, rfl⟩
abbrev main_call15_cst : Ref sig .tc := ⟨.hbm, 363, rfl⟩
abbrev main_call15_v14 : Ref sig .tc := ⟨.hbm, 364, rfl⟩
abbrev main_v70 : Ref sig .tc := ⟨.hbm, 365, rfl⟩
abbrev main_v71 : Ref sig .tc := ⟨.hbm, 366, rfl⟩
abbrev main_call16_c : Ref sig .tc := ⟨.hbm, 367, rfl⟩
abbrev main_call16_v0 : Ref sig .tc := ⟨.hbm, 368, rfl⟩
abbrev main_call16_v1 : Ref sig .tc := ⟨.hbm, 369, rfl⟩
abbrev main_call16_c_0 : Ref sig .tc := ⟨.hbm, 370, rfl⟩
abbrev main_call16_v2 : Ref sig .tc := ⟨.hbm, 371, rfl⟩
abbrev main_call16_v3 : Ref sig .tc := ⟨.hbm, 372, rfl⟩
abbrev main_call16_v4 : Ref sig .tc := ⟨.hbm, 373, rfl⟩
abbrev main_call16_v5 : Ref sig .tc := ⟨.hbm, 374, rfl⟩
abbrev main_call16_c_1 : Ref sig .tc := ⟨.hbm, 375, rfl⟩
abbrev main_call16_c_2 : Ref sig .tc := ⟨.hbm, 376, rfl⟩
abbrev main_call16_v6 : Ref sig .tc := ⟨.hbm, 377, rfl⟩
abbrev main_call16_v7 : Ref sig .tc := ⟨.hbm, 378, rfl⟩
abbrev main_call16_v8 : Ref sig .tc := ⟨.hbm, 379, rfl⟩
abbrev main_call16_v9 : Ref sig .tc := ⟨.hbm, 380, rfl⟩
abbrev main_call16_v10 : Ref sig .tc := ⟨.hbm, 381, rfl⟩
abbrev main_call16_v11 : Ref sig .tc := ⟨.hbm, 382, rfl⟩
abbrev main_call16_c_3 : Ref sig .tc := ⟨.hbm, 383, rfl⟩
abbrev main_call16_v12 : Ref sig .tc := ⟨.hbm, 384, rfl⟩
abbrev main_call16_v13 : Ref sig .tc := ⟨.hbm, 385, rfl⟩
abbrev main_call16_c_4 : Ref sig .tc := ⟨.hbm, 386, rfl⟩
abbrev main_call16_v14 : Ref sig .tc := ⟨.hbm, 387, rfl⟩
abbrev main_v72 : Ref sig .tc := ⟨.hbm, 388, rfl⟩
abbrev main_cst_12 : Ref sig .tc := ⟨.hbm, 389, rfl⟩
abbrev main_call17_v0 : Ref sig .tc := ⟨.hbm, 390, rfl⟩
abbrev main_call17_v1 : Ref sig .tc := ⟨.hbm, 391, rfl⟩
abbrev main_call17_v2 : Ref sig .tc := ⟨.hbm, 392, rfl⟩
abbrev main_v73 : Ref sig .tc := ⟨.hbm, 393, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ranges.lean ====
module

public import proofs.«01_k».proof.Pre_drafts_in_vocab
public import proofs.«01_k».proof.Pre_tables_in_range
public import Idealize.ShloMosaic.Lib.Decide
public import Idealize.ShloMosaic.Lib.Affine
public import Idealize.ShloMosaic.Lib.WordCmp

@[expose] public section

noncomputable section

namespace Cert.Ranges

open Idealize.ShloMosaic Idealize.ShloMosaic.WordCmp

/-- A conjunction of two truth words is one only when both are. -/
theorem and_one {a b : BitVec 1} (h : a &&& b = 1#1) : a = 1#1 ∧ b = 1#1 := by
  revert a b; decide

/-- A word at least zero and below a small positive bound, as signed numbers, is below it as a natural number. -/
theorem below {a : BitVec 32} {n : ℕ} (hn : n < 2 ^ 31) (h0 : IntOp.cmpi .sge a 0#32 = 1#1)
    (h1 : IntOp.cmpi .slt a (BitVec.ofNat 32 n) = 1#1) : a.toNat < n := by
  rw [cmpi_sge_zero] at h0
  have ha : a.toNat < 2 ^ 31 := by
    by_contra hc
    rw [decide_eq_false (by simpa using hc)] at h0
    exact absurd h0 (by decide)
  have hb : (BitVec.ofNat 32 n).toNat = n := by rw [BitVec.toNat_ofNat]; omega
  rw [cmpi_slt_of_lt ha (by rw [hb]; exact hn), hb] at h1
  by_contra hc
  rw [decide_eq_false (by simpa using hc)] at h1
  exact absurd h1 (by decide)

section
variable {F : FTy → Type} [FloatOps F]

/-- The launch condition of the frames says that every draft token is a row of the vocabulary. -/
theorem drafts [Cert.Pre_drafts_in_vocab.Facts] {a0 a1 a2 a3 a4 a5}
    (h : Cert.Pre_drafts_in_vocab.fn (F := F) a0 a1 a2 a3 a4 a5 = fun _ => 1#1)
    (p : Cert.Pre_drafts_in_vocab.S2x64.Idx) : BitVec.toNat (w := 32) (a3 p) < 32000 := by
  obtain ⟨h0, h1⟩ := and_one (congrFun h p)
  exact below (n := 32000) (by omega) h0 h1

/-- The launch condition of the values says that every draft token is a row of the vocabulary and every parent a token. -/
theorem tables [Cert.Pre_tables_in_range.Facts] {a0 a1 a2 a3 a4 a5}
    (h : Cert.Pre_tables_in_range.fn (F := F) a0 a1 a2 a3 a4 a5 = fun _ => 1#1)
    (p : Cert.Pre_tables_in_range.S2x64.Idx) : BitVec.toNat (w := 32) (a3 p) < 32000 ∧ BitVec.toNat (w := 32) (a2 p) < 64 := by
  obtain ⟨h0, h3⟩ := and_one (congrFun h p)
  obtain ⟨h0, h2⟩ := and_one h0
  obtain ⟨h0, h1⟩ := and_one h0
  exact ⟨below (n := 32000) (by omega) h0 h1, below (n := 64) (by omega) h2 h3⟩

end

end Cert.Ranges

end
-- ==== Proof.KernelIdeal.Safe.lean ====
module

public import proofs.«01_k».proof.Proof.Gen.KernelIdeal.Frame
public import proofs.«01_k».proof.Proof.Gen.KernelIdeal.Skeleton
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The condition of the body's first branch: this is the first vocabulary tile. -/
abbrev AtFirst (i : grid0.Coords) : Prop :=
  (Scalar.cmpi .ne (Scalar.extui (Scalar.cmpi .eq (BitVec.ofNat 32 (i 0).val) 0#32)) 0#32) = 1#1

/-- The condition of the body's second branch: this is the last vocabulary tile. -/
abbrev AtLast (i : grid0.Coords) : Prop := k0_cond2 i = 1#1

/-- A row number below the vocabulary is a row of the score table, one row high and as wide as the table. -/
theorem row_inb (v : BitVec 32) (hv : v.toNat < 32000) :
    ∀ a, (![(Scalar.indexCast v).toNat, 0] : Fin 2 → ℕ) a + S1x128.size a ≤ S32000x128.size a := by
  have e : (Scalar.indexCast v).toNat = v.toNat := by
    simp only [Scalar.indexCast, BitVec.toInt_signExtend, BitVec.toNat_signExtend]
  intro a; fin_cases a
  · show (Scalar.indexCast v).toNat + 1 ≤ 32000; omega
  · show 0 + 128 ≤ 128; omega

section
variable (c : Dev nD) (i : grid0.Coords)
  (arg1 : Memref sig .tc .smem S2x64 .i32) (harg1 : arg1.IsWhole)
  (arg2 : Memref sig .tc .smem S2x64 .i32) (harg2 : arg2.IsWhole)
  (arg3 : Memref sig .tc .vmem S128x4096 .fp8e4m3) (harg3 : arg3.IsWhole)
  (arg4 : Memref sig .tc .vmem S2x64 .f32) (harg4 : arg4.IsWhole)
  (arg5 : Memref sig .tc .vmem S2x64 .i32) (harg5 : arg5.IsWhole)
  (arg6 : Memref sig .tc .vmem S250x128 .f32) (harg6 : arg6.IsWhole)
  (arg7 : Memref sig .tc .vmem S1280x4096 .fp8e4m3) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x64 .f32) (harg10 : arg10.IsWhole)
  (arg11 : Memref sig .tc .vmem S2x64 .f32) (harg11 : arg11.IsWhole)
  (arg12 : Memref sig .tc .vmem S32000x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S8x128 .f32) (harg15 : arg15.IsWhole)
  (arg16 : Memref sig .tc .vmem S128x128 .f32) (harg16 : arg16.IsWhole)
  (arg17 : Memref sig .tc .vmem S128x128 .f32) (harg17 : arg17.IsWhole)

/-- One step of the kernel on whole buffers: from the seven inputs at given contents, the draft table's words all
    below the vocabulary, and every other buffer at any contents, the body runs without fault and hands back the
    inputs as they were and every other buffer at some contents. -/
def BodySafe : Prop :=
  ∀ (x0 : Vec F S2x64 .i32) (x1 : Vec F S2x64 .i32) (x2 : Vec F S128x4096 .fp8e4m3) (x3 : Vec F S2x64 .f32) (x4 : Vec F S2x64 .i32) (x5 : Vec F S250x128 .f32) (x6 : Vec F S1280x4096 .fp8e4m3)
    (hd : ∀ p, BitVec.toNat (w := 32) (x1 p) < 32000) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
          (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E
          (cc0_medusa_accept i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 2704000 in
/-- The first tile: the running values are reset and the one-hot rows written, then the tile is done. -/
theorem safe_first (hc0 : AtFirst i) (hc1 : ¬AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

set_option maxHeartbeats 1200000 in
/-- A tile between the first and the last. -/
theorem safe_middle (hc0 : ¬AtFirst i) (hc1 : ¬AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

set_option maxHeartbeats 4376000 in
/-- The last tile: the tile is done, then the 128 draft rows are fetched and the four results stored. -/
theorem safe_last (hc0 : ¬AtFirst i) (hc1 : AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part69_eq_skeleton, k0_part70_eq_skeleton, k0_part71_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | exact fun _ => row_inb _ (hw _ _))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end

end Cert.KernelIdeal.Hand

end
-- ==== Proof.KernelIdeal.Frame.lean ====
module

public import proofs.«01_k».proof.Proof.KernelIdeal.Safe

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the frame needs of the launch: every draft token is a row of the vocabulary. -/
def DraftsBelow : Prop :=
  ∀ (c : Dev nD) (p : S2x64.Idx), BitVec.toNat (w := 32) (m ((c.tc : Thread nD τ).loc main_arg3) p) < 32000

/-- The first branch is taken at the first grid point only. -/
theorem atFirst_iff : ∀ t : Fin cfg0.N, AtFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [AtFirst, e0]
    word_cmp
   : ∀ t : Fin grid0.N, AtFirst (grid0.coords t) ↔ t.val % 25 = 0)

/-- The second branch is taken at the last grid point only. -/
theorem atLast_iff : ∀ t : Fin cfg0.N, AtLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [AtLast, k0_cond2, e0]
    word_cmp
   : ∀ t : Fin grid0.N, AtLast (grid0.coords t) ↔ t.val % 25 = 24)

/-! The buffers a point's body is given: window `w`'s current one, and the six scratch buffers. -/

/-- A window's staging buffer at a point. -/
abbrev stg0 (t : Fin cfg0.N) : Memref sig .tc .smem S2x64 .i32 := win0_0.stage (cfg0.slots t 0)
/-- A window's staging buffer at a point. -/
abbrev stg1 (t : Fin cfg0.N) : Memref sig .tc .smem S2x64 .i32 := win0_1.stage (cfg0.slots t 1)
/-- A window's staging buffer at a point. -/
abbrev stg2 (t : Fin cfg0.N) : Memref sig .tc .vmem S128x4096 .fp8e4m3 := win0_2.stage (cfg0.slots t 2)
/-- A window's staging buffer at a point. -/
abbrev stg3 (t : Fin cfg0.N) : Memref sig .tc .vmem S2x64 .f32 := win0_3.stage (cfg0.slots t 3)
/-- A window's staging buffer at a point. -/
abbrev stg4 (t : Fin cfg0.N) : Memref sig .tc .vmem S2x64 .i32 := win0_4.stage (cfg0.slots t 4)
/-- A window's staging buffer at a point. -/
abbrev stg5 (t : Fin cfg0.N) : Memref sig .tc .vmem S250x128 .f32 := win0_5.stage (cfg0.slots t 5)
/-- A window's staging buffer at a point. -/
abbrev stg6 (t : Fin cfg0.N) : Memref sig .tc .vmem S1280x4096 .fp8e4m3 := win0_6.stage (cfg0.slots t 6)
/-- A window's staging buffer at a point. -/
abbrev stg7 (t : Fin cfg0.N) : Memref sig .tc .vmem S2x64 .f32 := win0_7.stage (cfg0.slots t 7)
/-- A window's staging buffer at a point. -/
abbrev stg8 (t : Fin cfg0.N) : Memref sig .tc .vmem S2x64 .f32 := win0_8.stage (cfg0.slots t 8)
/-- A window's staging buffer at a point. -/
abbrev stg9 (t : Fin cfg0.N) : Memref sig .tc .vmem S2x64 .f32 := win0_9.stage (cfg0.slots t 9)
/-- A window's staging buffer at a point. -/
abbrev stg10 (t : Fin cfg0.N) : Memref sig .tc .vmem S2x64 .f32 := win0_10.stage (cfg0.slots t 10)
/-- A scratch buffer, whole. -/
abbrev scr0 : Memref sig .tc .vmem S32000x128 .f32 := Memref.whole cc0_scratch0
/-- A scratch buffer, whole. -/
abbrev scr1 : Memref sig .tc .vmem S8x128 .f32 := Memref.whole cc0_scratch1
/-- A scratch buffer, whole. -/
abbrev scr2 : Memref sig .tc .vmem S8x128 .f32 := Memref.whole cc0_scratch2
/-- A scratch buffer, whole. -/
abbrev scr3 : Memref sig .tc .vmem S8x128 .f32 := Memref.whole cc0_scratch3
/-- A scratch buffer, whole. -/
abbrev scr4 : Memref sig .tc .vmem S128x128 .f32 := Memref.whole cc0_scratch4
/-- A scratch buffer, whole. -/
abbrev scr5 : Memref sig .tc .vmem S128x128 .f32 := Memref.whole cc0_scratch5

/-- The launch's invariant, the scratch buffers as memrefs owned at some contents. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]
  simp only [scr0, scr1, scr2, scr3, scr4, scr5, owns_whole]; try rfl

/-- The block of draft tokens a point is given holds tokens below the vocabulary. -/
theorem drafts_block (hD : DraftsBelow m) (c : Dev nD) (t : Fin cfg0.N) (p : S2x64.Idx) :
    BitVec.toNat (w := 32) (iblk m c 1 t p) < 32000 := by
  have h : ∀ q : S2x64.Idx, BitVec.toNat (w := 32) (V m c main_arg3 q) < 32000 := fun q => by
    rw [V_main_arg3]; exact hD c q
  exact h _

/-- The windows of which nothing is said: the four results. -/
def forgets : Fin 11 → Bool := fun w => w.val == 7 || w.val == 8 || w.val == 9 || w.val == 10

/-- The pipeline's proof data: inputs stay at their blocks, the results are left unnamed, the scratch buffers hold
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-! Each input's buffer holds its block before the body, and is left holding it. -/

/-- An input window's buffer holds its block before the body. -/
theorem before_0 (c : Dev nD) (t : Fin cfg0.N) (d) : (dats m 0 c).before 0 t d = iblk m c 0 t :=
  before0_0_of m (dats m 0 c) (A_eq m c 0) (fun _ => by dsimp only [dats]) t d
/-- An input window's buffer holds its block before the body. -/
theorem before_1 (c : Dev nD) (t : Fin cfg0.N) (d) : (dats m 0 c).before 1 t d = iblk m c 1 t :=
  before0_1_of m (dats m 0 c) (A_eq m c 1) (fun _ => by dsimp only [dats]) t d
/-- An input window's buffer holds its block before the body. -/
theorem before_2 (c : Dev nD) (t : Fin cfg0.N) (d) : (dats m 0 c).before 2 t d = iblk m c 2 t :=
  before0_2_of m (dats m 0 c) (A_eq m c 2) (fun _ => by dsimp only [dats]) t d
/-- An input window's buffer holds its block before the body. -/
theorem before_3 (c : Dev nD) (t : Fin cfg0.N) (d) : (dats m 0 c).before 3 t d = iblk m c 3 t :=
  before0_3_of m (dats m 0 c) (A_eq m c 3) (fun _ => by dsimp only [dats]) t d
/-- An input window's buffer holds its block before the body. -/
theorem before_4 (c : Dev nD) (t : Fin cfg0.N) (d) : (dats m 0 c).before 4 t d = iblk m c 4 t :=
  before0_4_of m (dats m 0 c) (A_eq m c 4) (fun _ => by dsimp only [dats]) t d
/-- An input window's buffer holds its block before the body. -/
theorem before_5 (c : Dev nD) (t : Fin cfg0.N) (d) : (dats m 0 c).before 5 t d = iblk m c 5 t :=
  before0_5_of m (dats m 0 c) (A_eq m c 5) (fun _ => by dsimp only [dats]) t d
/-- An input window's buffer holds its block before the body. -/
theorem before_6 (c : Dev nD) (t : Fin cfg0.N) (d) : (dats m 0 c).before 6 t d = iblk m c 6 t :=
  before0_6_of m (dats m 0 c) (A_eq m c 6) (fun _ => by dsimp only [dats]) t d
/-- The body leaves an input window's buffer holding its block. -/
theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl]; dsimp only [dats]
/-- The body leaves an input window's buffer holding its block. -/
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl]; dsimp only [dats]
/-- The body leaves an input window's buffer holding its block. -/
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl]; dsimp only [dats]
/-- The body leaves an input window's buffer holding its block. -/
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl]; dsimp only [dats]
/-- The body leaves an input window's buffer holding its block. -/
theorem leaves_4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl]; dsimp only [dats]
/-- The body leaves an input window's buffer holding its block. -/
theorem leaves_5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl]; dsimp only [dats]
/-- The body leaves an input window's buffer holding its block. -/
theorem leaves_6 (c : Dev nD) (t : Fin cfg0.N) :
    (dats m 0 c).leavesExact 6 t = owns (c : Thread nD τ) (stg6 t) fullShare (iblk m c 6 t) := by
  unfold Dat.leavesExact; rw [show cfg0.idle 6 (grid0.coords t) = false from rfl]; dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare d)
    ∗ (∃ d, owns (c : Thread nD τ) (stg8 t) fullShare d)
    ∗ (∃ d, owns (c : Thread nD τ) (stg9 t) fullShare d)
    ∗ (∃ d, owns (c : Thread nD τ) (stg10 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (stg7 t) fullShare d)
    ∗ (∃ d, owns (c : Thread nD τ) (stg8 t) fullShare d)
    ∗ (∃ d, owns (c : Thread nD τ) (stg9 t) fullShare d)
    ∗ (∃ d, owns (c : Thread nD τ) (stg10 t) fullShare d))

/-- The body is safe at every grid point: the three cases together. -/
theorem safe_at (c : Dev nD) (t : Fin cfg0.N) :
    BodySafe (F := F) c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10))
      scr0 (Memref.isWhole_whole _) scr1 (Memref.isWhole_whole _) scr2 (Memref.isWhole_whole _) scr3 (Memref.isWhole_whole _) scr4 (Memref.isWhole_whole _) scr5 (Memref.isWhole_whole _) := by
  have hN : t.val < 25 := lt_of_lt_of_eq t.isLt (show cfg0.N = 25 from N_0)
  by_cases h0 : t.val % 25 = 0
  · exact safe_first c _ _ _ _ _ _ _ _ _ _ _ _ _ _ _ _ _ _ _ _ _ _ _ _ _ _ _ _ _ _ _ _ _ _ _ ((atFirst_iff t).mpr h0)
        (fun h => by have := (atLast_iff t).mp h; omega)
  · by_cases h1 : t.val % 25 = 24
    · exact safe_last c _ _ _ _ _ _ _ _ _ _ _ _ _ _ _ _ _ _ _ _ _ _ _ _ _ _ _ _ _ _ _ _ _ _ _ (fun h => h0 ((atFirst_iff t).mp h))
        ((atLast_iff t).mpr h1)
    · exact safe_middle c _ _ _ _ _ _ _ _ _ _ _ _ _ _ _ _ _ _ _ _ _ _ _ _ _ _ _ _ _ _ _ _ _ _ _ (fun h => h0 ((atFirst_iff t).mp h))
        (fun h => h1 ((atLast_iff t).mp h))

/-- The body at any point, from what the pipeline hands it to what the pipeline takes back. -/
theorem sound_body (hD : DraftsBelow m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, scratch_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (safe_at c t (iblk m c 0 t) (iblk m c 1 t) (iblk m c 2 t) (iblk m c 3 t) (iblk m c 4 t) (iblk m c 5 t) (iblk m c 6 t) (drafts_block m hD c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (hD : DraftsBelow m) (c : Dev nD) :
    BodyObligation (dats (F := F) m 0 c) (defs₀ (F := F)) Variants.none () Set.univ forgets := fun t => by
  rw [bigSep_W0, bigSep_W0, defs₀_row]
  exact triple_restated (sound_body m hD c t) rfl .rfl fun _ => .rfl

set_option backward.isDefEq.respectTransparency.types false in
/-- The launch: every run ends, with the pipeline's input arrays and every other array as they were and every counter
    at zero. -/
theorem run_main (hD : DraftsBelow m) : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m hD c).loose) (hq := fun _ _ _ => rfl)
    (howed := fun _ _ => rfl) (V := V m) (hmain := hmain m Variants.none) (hA := A_eq m)
    (hin := fun _ => .rfl) (hout := fun _ => .rfl)

/-- The frame: with every draft token in the vocabulary, every run of the kernel's program ends without fault, the
    argument arrays unchanged and every counter at zero. -/
theorem frame (hD : DraftsBelow m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      ((hr.1 c).2 main_arg0 (Pipeline.mem_restRefs_of main_arg0 (by decide) (by decide))).trans (V_main_arg0 m c),
      (Pipeline.RDat.FramePost.arr_in hr.1 c 3 rfl).trans ((A_eq m c 3).trans (V_main_arg1 m c)),
      (Pipeline.RDat.FramePost.arr_in hr.1 c 4 rfl).trans ((A_eq m c 4).trans (V_main_arg2 m c)),
      (Pipeline.RDat.FramePost.arr_in hr.1 c 1 rfl).trans ((A_eq m c 1).trans (V_main_arg3 m c)),
      (Pipeline.RDat.FramePost.arr_in hr.1 c 6 rfl).trans ((A_eq m c 6).trans (V_main_arg4 m c)),
      ((hr.1 c).2 main_arg5 (Pipeline.mem_restRefs_of main_arg5 (by decide) (by decide))).trans (V_main_arg5 m c)⟩, hr.2⟩)
    (run_main m ρ hD)

end Cert.KernelIdeal.Hand

end
-- ==== Proof.KernelIdeal.Words.lean ====
module

public import proofs.«01_k».proof.Proof.Gen.KernelIdeal.Frame
public import proofs.«01_k».proof.Proof.Gen.KernelIdeal.Skeleton
public import proofs.«01_k».proof.Proof.KernelIdeal.Safe
public import Idealize.ShloMosaic.Lib.Pipeline.Value
public import Idealize.ShloMosaic.Lib.ValueIdx
public import Idealize.ShloMosaic.Lib.WritesUnit
public import Idealize.ShloMosaic.Lib.Pipeline.ReadBack
public import Idealize.ShloMosaic.Lib.Ring

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-- The scores of vocabulary tile `i`, one column for each token of the flattened batch: the ten groups of 128 rows,
    each the product of codes times the token scale times the row's scale. -/
def tile (i : grid0.Coords) (x2 : Vec F S128x4096 .fp8e4m3) (x3 : Vec F S2x64 .f32) (x5 : Vec F S250x128 .f32)
    (x6 : Vec F S1280x4096 .fp8e4m3) : FVec F S1280x128 .f32 :=
  let a : Vec F S1x64 .f32 := View.ld x3 (Rect.unit (s := S2x64) ![0, 0] S1x64.size inb_S2x64_S1x64_0_0)
  let b : Vec F S1x64 .f32 := View.ld x3 (Rect.unit (s := S2x64) ![1, 0] S1x64.size inb_S2x64_S1x64_1_0)
  let w : Fin 10 → Vec F S1x128 .f32 := fun g =>
    View.ld x5 (Rect.unit (s := S250x128) (k0_off1 i (BitVec.ofNat 32 g.val)) S1x128.size (k0_off1_inb i g))
  k0_pay345 (k0_pay337 a b) (k0_pay338 x6 x2) (k0_pay339 a b x6 x2 (w 0)) (k0_pay340 a b x6 x2 (w 1))
    (k0_pay341 (k0_pay337 a b) (k0_pay338 x6 x2) (w 2)) (k0_pay342 (k0_pay337 a b) (k0_pay338 x6 x2) (w 3))
    (k0_pay343 (k0_pay337 a b) (k0_pay338 x6 x2) (w 4)) (k0_pay344 (k0_pay337 a b) (k0_pay338 x6 x2) (w 5))
    (w 6) (w 7) (w 8) (w 9)

/-- The score table after tile `i` has been stored in it. -/
def nextZ (i : grid0.Coords) (T : FVec F S1280x128 .f32) (z : Vec F S32000x128 .f32) : Vec F S32000x128 .f32 :=
  (Rect.unit (s := S32000x128) (k0_off2 i) S1280x128.size (k0_off2_inb i)).overlay z (k0_pay346 T)

/-- Lane `l` of the row that marks word `w`: one where the lane number is the word, else zero. -/
def hotRow (w : BitVec 32) : FVec F S1x128 .f32 :=
  shapeCast S1x128 (sitofp .f32 (extui 32 (cmpi .eq (iota .tc S1x128 32 [1] iota_S1x128_d1_w32) (broadcast S1x128 w))
    natLt_1_32)) shapeCasts_S1x128_S1x128

/-- The table whose row `64 b + j` marks lane `64 b + parents[b, j]`. -/
def hotOf (x0 : Vec F S2x64 .i32) : Vec F S128x128 .f32 := fun p =>
  hotRow (Scalar.addi (x0 (ix2 ⟨(p 0).val / 64, by have := idx2_lt0 p; omega⟩ ⟨(p 0).val % 64, Nat.mod_lt _ (by decide)⟩))
    (BitVec.ofNat 32 (64 * ((p 0).val / 64)))) (ix2 0 ⟨(p 1).val, idx2_lt1 p⟩)

/-- The table whose row `64 b + j` is the score row of the draft token at `(b, j)`. -/
def rowsOf (z : Vec F S32000x128 .f32) (x1 : Vec F S2x64 .i32) : Vec F S128x128 .f32 := fun p =>
  z (ix2 ⟨BitVec.toNat (w := 32) (x1 (ix2 ⟨(p 0).val / 64, by have := idx2_lt0 p; omega⟩ ⟨(p 0).val % 64, Nat.mod_lt _ (by decide)⟩)) % 32000,
    Nat.mod_lt _ (by decide)⟩ ⟨(p 1).val, idx2_lt1 p⟩)

/-- A pair of rows as a two-row table. -/
def twoRows (a b : FVec F S1x64 .f32) : Vec F S2x64 .f32 := fun p =>
  if (p 0).val = 0 then a (ix2 0 ⟨(p 1).val, idx2_lt1 p⟩) else b (ix2 0 ⟨(p 1).val, idx2_lt1 p⟩)

/-- The entropy of every token, from the three running values. -/
def entOf (M S T : Vec F S8x128 .f32) : FVec F S1x128 .f32 :=
  k0_pay296 (k0_pay292 M) (k0_pay293 M) (k0_pay294 M S) T S
/-- The log probability of every draft token, as a column. -/
def dlpOf (M S : Vec F S8x128 .f32) (hot g : Vec F S128x128 .f32) : FVec F S128x1 .f32 :=
  k0_pay299 (k0_pay291 M) (k0_pay294 M S) hot g
/-- The margin of every draft token, as a column. -/
def marOf (M S T : Vec F S8x128 .f32) (hot g : Vec F S128x128 .f32) : FVec F S128x1 .f32 :=
  k0_pay301 (k0_pay300 (k0_pay291 M) (k0_pay292 M) (k0_pay293 M) (k0_pay294 M S) T S hot g)

/-- The pointers after two doublings. -/
def ptr2 (x4 : Vec F S2x64 .i32) : IVec S8x128 32 := k0_pay308 (k0_pay302 x4) (k0_pay306 x4) 128#32
/-- The low half of the ancestor sets after three rounds. -/
def lo3 (x4 : Vec F S2x64 .i32) : IVec S8x128 32 :=
  k0_pay309 (k0_pay302 x4) (k0_pay304 x4) (k0_pay306 x4) 128#32
/-- The high half of the ancestor sets after three rounds. -/
def hi3 (x4 : Vec F S2x64 .i32) : IVec S8x128 32 :=
  k0_pay310 (k0_pay302 x4) (k0_pay305 x4) (k0_pay306 x4) 128#32
/-- The pointers after four doublings. -/
def ptr4 (x4 : Vec F S2x64 .i32) : IVec S8x128 32 := k0_pay313 (ptr2 x4)
/-- The low half of the ancestor sets after six rounds. -/
def lo6 (x4 : Vec F S2x64 .i32) : IVec S8x128 32 := k0_pay317 (ptr4 x4) (k0_pay314 (ptr2 x4) (lo3 x4))
/-- The high half of the ancestor sets after six rounds. -/
def hi6 (x4 : Vec F S2x64 .i32) : IVec S8x128 32 :=
  k0_pay318 (k0_pay312 (ptr2 x4) (hi3 x4)) (ptr4 x4) (k0_pay315 (ptr2 x4))
/-- Which tokens above the root are ancestors of which lanes, first tree. -/
def anc0 (x4 : Vec F S2x64 .i32) : IVec S64x128 1 :=
  k0_pay321 (k0_pay319 (k0_pay312 (ptr2 x4) (hi3 x4)) (ptr4 x4) (k0_pay314 (ptr2 x4) (lo3 x4))
    (k0_pay315 (ptr2 x4))) k0_pay320
/-- Which tokens above the root are ancestors of which lanes, second tree. -/
def anc1 (x4 : Vec F S2x64 .i32) : IVec S64x128 1 :=
  k0_pay322 (lo6 x4) (hi6 x4) (iota .tc S64x128 32 [0] iota_S64x128_d0_w32)
/-- Which lanes are not the root. -/
def notRoot : IVec S1x64 1 := k0_pay324 (iota .tc S1x128 32 [1] iota_S1x128_d1_w32)

/-- The first result. -/
def entOut (E : FVec F S1x128 .f32) : Vec F S2x64 .f32 := twoRows (k0_pay325 E) (k0_pay331 E)
/-- The second result. -/
def dlpOut (D : FVec F S128x1 .f32) : Vec F S2x64 .f32 := twoRows (k0_pay326 D) (k0_pay332 D k0_pay323)
/-- The third result. -/
def marOut (D : FVec F S128x1 .f32) : Vec F S2x64 .f32 :=
  twoRows (k0_pay329 k0_pay323 (k0_pay327 D) k0_pay328) (k0_pay333 D k0_pay323)
/-- The fourth result. -/
def pathOut (D : FVec F S128x1 .f32) (x4 : Vec F S2x64 .i32) : Vec F S2x64 .f32 :=
  twoRows (k0_pay330 D (anc0 x4) notRoot) (k0_pay1 (anc1 x4) notRoot (k0_pay334 D))

/-- The offsets of a load or store of a whole two-axis buffer. -/
theorem off_zero : (![0, 0] : Fin 2 → ℕ) = fun _ => 0 := by funext a; fin_cases a <;> rfl

/-- A store of a whole two-axis buffer leaves its payload, whatever was stored before. -/
theorem read_full {n0 n1 : ℕ} {e : EltTy} {κ : Kind} {sp : Space} {m : Memref sig κ sp ⟨2, ![n0, n1]⟩ e}
    (f : m.view.ty.Contents (Elt F)) (inb : ∀ a, (![0, 0] : Fin 2 → ℕ) a + (⟨2, ![n0, n1]⟩ : Shape).size a ≤ (⟨2, ![n0, n1]⟩ : Shape).size a)
    (w : Vec F ⟨2, ![n0, n1]⟩ e) (L : List (View.Piece (Elt F) ⟨2, ![n0, n1]⟩ e)) :
    m.view.read (Elt F) (m.view.writes (Elt F) f ((⟨Rect.unit ![0, 0] (⟨2, ![n0, n1]⟩ : Shape).size inb, w⟩ : View.Piece (Elt F) ⟨2, ![n0, n1]⟩ e) :: L)) = w :=
  (View.read_writes_eq_canon _ _ _ fun y => ⟨_, List.mem_cons_self, View.mem_set_unit_zero off_zero inb y⟩).trans
    (View.canon_cons_unit_zero off_zero inb w L)

/-- A load of a whole two-axis buffer reads it. -/
theorem load_full {n0 n1 : ℕ} {e : EltTy} (X : Vec F ⟨2, ![n0, n1]⟩ e)
    (inb : ∀ a, (![0, 0] : Fin 2 → ℕ) a + (![n0, n1] : Fin 2 → ℕ) a ≤ (⟨2, ![n0, n1]⟩ : Shape).size a) :
    View.ld (S := ⟨2, ![n0, n1]⟩) X (Rect.unit ![0, 0] ![n0, n1] inb) = X :=
  View.ld_unit_zero (S := ⟨2, ![n0, n1]⟩) off_zero inb X

/-- A load through a rectangle of a buffer held at contents that read `X` is the part of `X` there. -/
theorem load_part {s : Shape} {e : EltTy} {κ : Kind} {sp : Space} {m : Memref sig κ sp s e}
    (h : m.IsWhole) (X : Vec F s e) (r : Rect s) :
    m.view.readAt (Elt F) r.toLoadRect (h.unread X) = View.ld X r := by
  rw [View.readAt_eq_ld, h.read_unread]

/-- Two stores, of the second row and before it of the first, leave the pair of rows. -/
theorem read_two {κ : Kind} {sp : Space} {m : Memref sig κ sp S2x64 .f32} (f : m.view.ty.Contents (Elt F)) (a b : FVec F S1x64 .f32) :
    m.view.read (Elt F) (m.view.writes (Elt F) f
      [(⟨Rect.unit (s := S2x64) ![1, 0] ![1, 64] inb_S2x64_S1x64_1_0, b⟩ : View.Piece (Elt F) S2x64 .f32),
       (⟨Rect.unit (s := S2x64) ![0, 0] ![1, 64] inb_S2x64_S1x64_0_0, a⟩ : View.Piece (Elt F) S2x64 .f32)]) = twoRows a b := by
  funext y
  obtain ⟨p, q, rfl⟩ : ∃ p q, y = ix2 p q := ⟨_, _, eq_ix2 y⟩
  unfold twoRows
  have hq : q.val < 64 := q.isLt
  by_cases hp : p.val = 0
  · refine (View.read_writes_cons_rows_of_not_mem (o := 1) (W := 1) m.view f inb_S2x64_S1x64_1_0 b _ (ix2 p q) rfl rfl
      (Or.inl (by show p.val < 1; omega))).trans ?_
    refine (View.read_writes_cons_rows_of_mem (o := 0) m.view f inb_S2x64_S1x64_0_0 a _ (ix2 p q) (ix2 (0 : Fin 1) q) rfl
      (by show p.val = 0 + 0; omega) rfl).trans (if_pos hp).symm
  · refine (View.read_writes_cons_rows_of_mem (o := 1) m.view f inb_S2x64_S1x64_1_0 b _ (ix2 p q) (ix2 (0 : Fin 1) q) rfl
      (by show p.val = 1 + 0; have := p.isLt; omega) rfl).trans (if_neg hp).symm

/-- One store at rectangle `r` over contents that read `X` leaves `X` with `r`'s part replaced. -/
theorem read_one {s : Shape} {e : EltTy} {κ : Kind} {sp : Space} {m : Memref sig κ sp s e} (h : m.IsWhole)
    (X : Vec F s e) (r : Rect s) (w : r.shape.Idx → Elt F e) :
    m.view.read (Elt F) (m.view.writes (Elt F) (h.unread X) [(⟨r, w⟩ : View.Piece (Elt F) s e)]) = r.overlay X w := by
  funext y
  by_cases hy : y ∈ r.set
  · obtain ⟨x, rfl⟩ := r.exists_idx_of_mem hy
    rw [show r.idx x = r.emb x from rfl, Rect.overlay_emb, View.read_writes_cons_emb]
  · rw [Rect.overlay_of_not_mem _ _ _ hy, View.read_writes_apply_of_forall_not_mem]
    · exact congrFun (h.read_unread X) y
    · simpa using hy

/-- `tile`, written out as a run of the body leaves it. -/
theorem tile_out (i : grid0.Coords) (x2 : Vec F S128x4096 .fp8e4m3) (x3 : Vec F S2x64 .f32) (x5 : Vec F S250x128 .f32)
    (x6 : Vec F S1280x4096 .fp8e4m3) : k0_pay345 (k0_pay337
    (View.ld x3 (Rect.unit ![0, 0] ![1, 64] inb_S2x64_S1x64_0_0)) (View.ld x3 (Rect.unit ![1, 0] ![1, 64] inb_S2x64_S1x64_1_0))) (k0_pay338 x6 x2) (k0_pay339
    (View.ld x3 (Rect.unit ![0, 0] ![1, 64] inb_S2x64_S1x64_0_0)) (View.ld x3 (Rect.unit ![1, 0] ![1, 64] inb_S2x64_S1x64_1_0)) x6 x2
    (View.ld x5 (Rect.unit ![BitVec.toNat (Scalar.indexCast (Scalar.addi (Scalar.muli (BitVec.ofNat 32 ↑(i 0)) 10#32) 0#32)), 0] ![1, 128] (k0_off1_inb i 0)))) (k0_pay340
    (View.ld x3 (Rect.unit ![0, 0] ![1, 64] inb_S2x64_S1x64_0_0)) (View.ld x3 (Rect.unit ![1, 0] ![1, 64] inb_S2x64_S1x64_1_0)) x6 x2
    (View.ld x5 (Rect.unit ![BitVec.toNat (Scalar.indexCast (Scalar.addi (Scalar.muli (BitVec.ofNat 32 ↑(i 0)) 10#32) 1#32)), 0] ![1, 128] (k0_off1_inb i 1)))) (k0_pay341 (k0_pay337
    (View.ld x3 (Rect.unit ![0, 0] ![1, 64] inb_S2x64_S1x64_0_0)) (View.ld x3 (Rect.unit ![1, 0] ![1, 64] inb_S2x64_S1x64_1_0))) (k0_pay338 x6 x2)
    (View.ld x5 (Rect.unit ![BitVec.toNat (Scalar.indexCast (Scalar.addi (Scalar.muli (BitVec.ofNat 32 ↑(i 0)) 10#32) 2#32)), 0] ![1, 128] (k0_off1_inb i 2)))) (k0_pay342 (k0_pay337
    (View.ld x3 (Rect.unit ![0, 0] ![1, 64] inb_S2x64_S1x64_0_0)) (View.ld x3 (Rect.unit ![1, 0] ![1, 64] inb_S2x64_S1x64_1_0))) (k0_pay338 x6 x2)
    (View.ld x5 (Rect.unit ![BitVec.toNat (Scalar.indexCast (Scalar.addi (Scalar.muli (BitVec.ofNat 32 ↑(i 0)) 10#32) 3#32)), 0] ![1, 128] (k0_off1_inb i 3)))) (k0_pay343 (k0_pay337
    (View.ld x3 (Rect.unit ![0, 0] ![1, 64] inb_S2x64_S1x64_0_0)) (View.ld x3 (Rect.unit ![1, 0] ![1, 64] inb_S2x64_S1x64_1_0))) (k0_pay338 x6 x2)
    (View.ld x5 (Rect.unit ![BitVec.toNat (Scalar.indexCast (Scalar.addi (Scalar.muli (BitVec.ofNat 32 ↑(i 0)) 10#32) 4#32)), 0] ![1, 128] (k0_off1_inb i 4)))) (k0_pay344 (k0_pay337
    (View.ld x3 (Rect.unit ![0, 0] ![1, 64] inb_S2x64_S1x64_0_0)) (View.ld x3 (Rect.unit ![1, 0] ![1, 64] inb_S2x64_S1x64_1_0))) (k0_pay338 x6 x2)
    (View.ld x5 (Rect.unit ![BitVec.toNat (Scalar.indexCast (Scalar.addi (Scalar.muli (BitVec.ofNat 32 ↑(i 0)) 10#32) 5#32)), 0] ![1, 128] (k0_off1_inb i 5))))
    (View.ld x5 (Rect.unit ![BitVec.toNat (Scalar.indexCast (Scalar.addi (Scalar.muli (BitVec.ofNat 32 ↑(i 0)) 10#32) 6#32)), 0] ![1, 128] (k0_off1_inb i 6)))
    (View.ld x5 (Rect.unit ![BitVec.toNat (Scalar.indexCast (Scalar.addi (Scalar.muli (BitVec.ofNat 32 ↑(i 0)) 10#32) 7#32)), 0] ![1, 128] (k0_off1_inb i 7)))
    (View.ld x5 (Rect.unit ![BitVec.toNat (Scalar.indexCast (Scalar.addi (Scalar.muli (BitVec.ofNat 32 ↑(i 0)) 10#32) 8#32)), 0] ![1, 128] (k0_off1_inb i 8)))
    (View.ld x5 (Rect.unit ![BitVec.toNat (Scalar.indexCast (Scalar.addi (Scalar.muli (BitVec.ofNat 32 ↑(i 0)) 10#32) 9#32)), 0] ![1, 128] (k0_off1_inb i 9))) = tile i x2 x3 x5 x6 := rfl

/-- A load of a whole two-axis buffer of what a store of the whole left is the payload. -/
theorem cov_full {n0 n1 : ℕ} {e : EltTy} {κ : Kind} {sp : Space} (v : View sig κ sp ⟨2, ![n0, n1]⟩ e)
    (inb : ∀ a, (![0, 0] : Fin 2 → ℕ) a + (![n0, n1] : Fin 2 → ℕ) a ≤ (⟨2, ![n0, n1]⟩ : Shape).size a)
    (w : Vec F ⟨2, ![n0, n1]⟩ e) (L : List (View.Piece (Elt F) ⟨2, ![n0, n1]⟩ e)) :
    v.readCov (Val := Elt F) ((⟨Rect.unit ![0, 0] ![n0, n1] inb, w⟩ : View.Piece (Elt F) ⟨2, ![n0, n1]⟩ e) :: L)
      (Rect.unit ![0, 0] ![n0, n1] inb).toLoadRect = w :=
  View.readCov_cons_toLoadRect v (Rect.unit (s := ⟨2, ![n0, n1]⟩) ![0, 0] ![n0, n1] inb) w L

/-- A load of the score table after tile `i` was stored. -/
theorem load_next {κ : Kind} {sp : Space} {m : Memref sig κ sp S32000x128 .f32} (h : m.IsWhole) (i : grid0.Coords)
    (T : FVec F S1280x128 .f32) (z : Vec F S32000x128 .f32) (r : Rect S32000x128) :
    m.view.readAt (Elt F) r.toLoadRect (m.view.writes (Elt F) (h.unread z)
      [(⟨Rect.unit ![BitVec.toNat (Scalar.indexCast (Scalar.muli (BitVec.ofNat 32 ↑(i 0)) 1280#32)), 0] ![1280, 128] (k0_off2_inb i),
        k0_pay346 T⟩ : View.Piece (Elt F) S32000x128 .f32)]) = View.ld (nextZ i T z) r := by
  rw [View.readAt_eq_ld, read_one]; rfl

/-- A row of the score table fetched by a draft token's word is that token's row. -/
theorem gather_piece (Z : Vec F S32000x128 .f32) (x1 : Vec F S2x64 .i32) (hd : ∀ p, BitVec.toNat (w := 32) (x1 p) < 32000)
    (r : ℕ) (w : BitVec 32) (y : S2x64.Idx) (hw : w = x1 y) (hy0 : (y 0).val = r / 64) (hy1 : (y 1).val = r % 64)
    (inb : ∀ a, (![BitVec.toNat (Scalar.indexCast w), 0] : Fin 2 → ℕ) a + (![1, 128] : Fin 2 → ℕ) a ≤ S32000x128.size a)
    (inb' : ∀ a, (![r, 0] : Fin 2 → ℕ) a + (![1, 128] : Fin 2 → ℕ) a ≤ S128x128.size a)
    (x : (Rect.unit (s := S128x128) ![r, 0] ![1, 128] inb').shape.Idx) :
    shapeCast S1x128 (View.ld (Val := Elt F) (e' := .f32) Z (Rect.unit ![BitVec.toNat (Scalar.indexCast w), 0] ![1, 128] inb)) shapeCasts_S1x128_S1x128 x
      = rowsOf Z x1 ((Rect.unit (s := S128x128) ![r, 0] ![1, 128] inb').emb x) := by
  have hx0 : (x 0).val < 1 := (x 0).isLt
  have hx1 : (x 1).val < 128 := (x 1).isLt
  have e0 : (((Rect.unit (s := S128x128) ![r, 0] ![1, 128] inb').emb x) 0).val = r := by
    show r + 1 * (x 0).val = r; omega
  have e1 : (((Rect.unit (s := S128x128) ![r, 0] ![1, 128] inb').emb x) 1).val = (x 1).val := by
    show 0 + 1 * (x 1).val = _; omega
  have ew : BitVec.toNat (Scalar.indexCast w) = w.toNat := by
    simp only [Scalar.indexCast, BitVec.toInt_signExtend, BitVec.toNat_signExtend]
  refine (congrFun (shapeCast_self (s := S1x128) _ _) x).trans ?_
  unfold rowsOf
  refine congrArg Z (Shape.idx_ext₂ ?_ ?_)
  · show BitVec.toNat (Scalar.indexCast w) + 1 * (x 0).val = BitVec.toNat (x1 _) % 32000
    rw [Nat.mod_eq_of_lt (hd _), ew, hw]
    have hq : r / 64 < 2 := by rw [← hy0]; exact (y 0).isLt
    have ey : y = ix2 ⟨r / 64, hq⟩ ⟨r % 64, Nat.mod_lt _ (by decide)⟩ := Shape.idx_ext₂ hy0 hy1
    rw [ey]
    simp only [e0]; omega
  · show 0 + 1 * (x 1).val = (((Rect.unit (s := S128x128) ![r, 0] ![1, 128] inb').emb x) 1).val
    rw [e1]; omega

/-- A row written by a parent's word is the row that marks it. -/
theorem hot_piece (x0 : Vec F S2x64 .i32) (r : ℕ) (w b : BitVec 32) (y : S2x64.Idx) (hw : w = x0 y) (hy0 : (y 0).val = r / 64)
    (hy1 : (y 1).val = r % 64) (hb : b = BitVec.ofNat 32 (64 * (r / 64)))
    (inb' : ∀ a, (![r, 0] : Fin 2 → ℕ) a + (![1, 128] : Fin 2 → ℕ) a ≤ S128x128.size a)
    (x : (Rect.unit (s := S128x128) ![r, 0] ![1, 128] inb').shape.Idx) :
    hotRow (F := F) (Scalar.addi w b) x = hotOf (F := F) x0 ((Rect.unit (s := S128x128) ![r, 0] ![1, 128] inb').emb x) := by
  have hx0 : (x 0).val < 1 := (x 0).isLt
  have hx1 : (x 1).val < 128 := (x 1).isLt
  have e0 : (((Rect.unit (s := S128x128) ![r, 0] ![1, 128] inb').emb x) 0).val = r := by
    show r + 1 * (x 0).val = r; omega
  have e1 : (((Rect.unit (s := S128x128) ![r, 0] ![1, 128] inb').emb x) 1).val = (x 1).val := by
    show 0 + 1 * (x 1).val = _; omega
  have hq : r / 64 < 2 := by rw [← hy0]; exact (y 0).isLt
  have ey : y = ix2 ⟨r / 64, hq⟩ ⟨r % 64, Nat.mod_lt _ (by decide)⟩ := Shape.idx_ext₂ hy0 hy1
  rw [hw, hb, ey]
  unfold hotOf
  simp only [e0, e1]
  exact congrArg _ (Shape.idx_ext₂ (by show (x 0).val = 0; omega) rfl)

/-- A table's word read as a scalar is the word at that place. -/
theorem word_read {κ : Kind} {sp : Space} {m : Memref sig κ sp S2x64 .i32} (h : m.IsWhole) (x1 : Vec F S2x64 .i32) (a b : ℕ)
    (inb : ∀ k, (![a, b] : Fin 2 → ℕ) k + (![1, 1] : Fin 2 → ℕ) k ≤ S2x64.size k)
    (x : (Rect.unit (s := S2x64) ![a, b] ![1, 1] inb).toLoadRect.shape.Idx) :
    ∃ y : S2x64.Idx, m.view.readAt (Elt F) (Rect.unit (s := S2x64) ![a, b] ![1, 1] inb).toLoadRect (h.unread x1) x = x1 y
      ∧ (y 0).val = a ∧ (y 1).val = b := by
  refine ⟨_, h.readAt_unread x1 _ x, ?_, ?_⟩
  · have : (x 0).val < 1 := (x 0).isLt
    show a + 1 * (x 0).val = a; omega
  · have : (x 1).val < 1 := (x 1).isLt
    show b + 1 * (x 1).val = b; omega

/-- One more row of the fetched rows. -/
theorem gather_cons {κ : Kind} {sp : Space} {m : Memref sig κ sp S2x64 .i32} (h : m.IsWhole)
    (Z : Vec F S32000x128 .f32) (x1 : Vec F S2x64 .i32) (hd : ∀ p, BitVec.toNat (w := 32) (x1 p) < 32000)
    (r a b : ℕ) (inb1 : ∀ k, (![a, b] : Fin 2 → ℕ) k + (![1, 1] : Fin 2 → ℕ) k ≤ S2x64.size k)
    (x : (Rect.unit (s := S2x64) ![a, b] ![1, 1] inb1).toLoadRect.shape.Idx) (inb)
    (inb' : ∀ a, (![r, 0] : Fin 2 → ℕ) a + (![1, 128] : Fin 2 → ℕ) a ≤ S128x128.size a)
    (L : List (View.Piece (Elt F) S128x128 .f32)) (hy0 : a = r / 64) (hy1 : b = r % 64)
    (hL : View.PiecesOf (rowsOf Z x1) L) :
    View.PiecesOf (rowsOf Z x1) ((⟨Rect.unit (s := S128x128) ![r, 0] ![1, 128] inb',
      shapeCast S1x128 (View.ld (Val := Elt F) (e' := .f32) Z (Rect.unit (s := S32000x128) ![BitVec.toNat (Scalar.indexCast
        (m.view.readAt (Elt F) (Rect.unit (s := S2x64) ![a, b] ![1, 1] inb1).toLoadRect (h.unread x1) x)), 0] ![1, 128] inb))
        shapeCasts_S1x128_S1x128⟩ : View.Piece (Elt F) S128x128 .f32) :: L) := by
  obtain ⟨y, hy, h0, h1⟩ := word_read h x1 a b inb1 x
  exact ⟨gather_piece Z x1 hd r _ y hy (h0.trans hy0) (h1.trans hy1) inb inb', hL⟩

/-- One more row of the rows marking the parents. -/
theorem hot_cons {κ : Kind} {sp : Space} {m : Memref sig κ sp S2x64 .i32} (h : m.IsWhole)
    (x0 : Vec F S2x64 .i32) (r a b : ℕ) (c : BitVec 32) (inb1 : ∀ k, (![a, b] : Fin 2 → ℕ) k + (![1, 1] : Fin 2 → ℕ) k ≤ S2x64.size k)
    (x : (Rect.unit (s := S2x64) ![a, b] ![1, 1] inb1).toLoadRect.shape.Idx)
    (inb' : ∀ a, (![r, 0] : Fin 2 → ℕ) a + (![1, 128] : Fin 2 → ℕ) a ≤ S128x128.size a) (w : Vec F S1x128 .f32)
    (L : List (View.Piece (Elt F) S128x128 .f32))
    (hw : w = hotRow (F := F) (Scalar.addi (m.view.readAt (Elt F) (Rect.unit (s := S2x64) ![a, b] ![1, 1] inb1).toLoadRect (h.unread x0) x) c))
    (hy0 : a = r / 64) (hy1 : b = r % 64) (hc : c = BitVec.ofNat 32 (64 * (r / 64)))
    (hL : View.PiecesOf (hotOf (F := F) x0) L) :
    View.PiecesOf (hotOf (F := F) x0) ((⟨Rect.unit (s := S128x128) ![r, 0] ![1, 128] inb', w⟩ : View.Piece (Elt F) S128x128 .f32) :: L) := by
  obtain ⟨y, hy, h0, h1⟩ := word_read h x0 a b inb1 x
  subst hw
  exact ⟨hot_piece x0 r _ c y hy (h0.trans hy0) (h1.trans hy1) hc inb', hL⟩

/-- A load of the whole of a buffer all of whose rows were written from one table reads the table. -/
theorem cov_rows {κ : Kind} {sp : Space} (v : View sig κ sp S128x128 .f32) (G : Vec F S128x128 .f32)
    (L : List (View.Piece (Elt F) S128x128 .f32)) (hL : View.PiecesOf G L) (ht : View.Piece.tiledL L (![1, 128] : Fin 2 → ℕ) = true)
    (inb : ∀ a, (![0, 0] : Fin 2 → ℕ) a + (![128, 128] : Fin 2 → ℕ) a ≤ S128x128.size a) :
    v.readCov L (Rect.unit (s := S128x128) ![0, 0] ![128, 128] inb).toLoadRect = G := by
  rw [View.readCov_eq_canon_ld _ _ _ (View.cover_of_tiledL L _ ht)]
  exact (load_full (View.canon L) inb).trans (funext fun y => View.canon_apply_of_pieces G L hL.mem y (View.cover_of_tiledL L _ ht y))

/-- A buffer all of whose rows were written from one table holds it. -/
theorem read_rows {κ : Kind} {sp : Space} {m : Memref sig κ sp S128x128 .f32} (f : m.view.ty.Contents (Elt F)) (G : Vec F S128x128 .f32)
    (L : List (View.Piece (Elt F) S128x128 .f32)) (hL : View.PiecesOf G L) (ht : View.Piece.tiledL L (![1, 128] : Fin 2 → ℕ) = true) :
    m.view.read (Elt F) (m.view.writes (Elt F) f L) = G :=
  (View.read_writes_eq_canon _ _ _ (View.cover_of_tiledL L _ ht)).trans
    (funext fun y => View.canon_apply_of_pieces G L hL.mem y (View.cover_of_tiledL L _ ht y))

end Cert.KernelIdeal.Hand

end
-- ==== Proof.KernelIdeal.StepFirst.lean ====
module

public import proofs.«01_k».proof.Proof.Gen.KernelIdeal.Frame
public import proofs.«01_k».proof.Proof.Gen.KernelIdeal.Skeleton
public import proofs.«01_k».proof.Proof.KernelIdeal.Words

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg1 : Memref sig .tc .smem S2x64 .i32) (harg1 : arg1.IsWhole)
  (arg2 : Memref sig .tc .smem S2x64 .i32) (harg2 : arg2.IsWhole)
  (arg3 : Memref sig .tc .vmem S128x4096 .fp8e4m3) (harg3 : arg3.IsWhole)
  (arg4 : Memref sig .tc .vmem S2x64 .f32) (harg4 : arg4.IsWhole)
  (arg5 : Memref sig .tc .vmem S2x64 .i32) (harg5 : arg5.IsWhole)
  (arg6 : Memref sig .tc .vmem S250x128 .f32) (harg6 : arg6.IsWhole)
  (arg7 : Memref sig .tc .vmem S1280x4096 .fp8e4m3) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x64 .f32) (harg10 : arg10.IsWhole)
  (arg11 : Memref sig .tc .vmem S2x64 .f32) (harg11 : arg11.IsWhole)
  (arg12 : Memref sig .tc .vmem S32000x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S8x128 .f32) (harg15 : arg15.IsWhole)
  (arg16 : Memref sig .tc .vmem S128x128 .f32) (harg16 : arg16.IsWhole)
  (arg17 : Memref sig .tc .vmem S128x128 .f32) (harg17 : arg17.IsWhole)

/-- The first step, whatever the scratches hold. -/
def StepFirst : Prop :=
  ∀ (x0 : Vec F S2x64 .i32) (x1 : Vec F S2x64 .i32) (x2 : Vec F S128x4096 .fp8e4m3) (x3 : Vec F S2x64 .f32) (x4 : Vec F S2x64 .i32) (x5 : Vec F S250x128 .f32) (x6 : Vec F S1280x4096 .fp8e4m3)
    (hd : ∀ p, BitVec.toNat (w := 32) (x1 p) < 32000) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
          (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare (nextZ i (tile i x2 x3 x5 x6) d)) ∗ owns (c : Thread nD τ) arg13 fullShare (k0_pay355 (tile i x2 x3 x5 x6) k0_pay2) ∗ owns (c : Thread nD τ) arg14 fullShare (k0_pay353 (tile i x2 x3 x5 x6) k0_pay2 k0_pay3) ∗ owns (c : Thread nD τ) arg15 fullShare (k0_pay354 (tile i x2 x3 x5 x6) k0_pay2 k0_pay3 k0_pay4) ∗ (∃ d, owns (c : Thread nD τ) arg16 fullShare d) ∗ owns (c : Thread nD τ) arg17 fullShare (hotOf x0)) -∗ K ⟨⟩))
      ⊢ wp frame (wpE (defs₀ (F := F)) Variants.none c none) E
          (cc0_medusa_accept i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 4000000 in
/-- It does that. -/
theorem step_first (hc0 : AtFirst i) (hc1 : ¬AtLast i) :
    StepFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6  hd E K
  simp only [cc0_medusa_accept_eq_skeleton]; unfold cc0_medusa_accept_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, %hf11, H11⟩, ⟨%d12, %f12, -, H12⟩, ⟨%d13, %f13, -, H13⟩, ⟨%d14, %f14, -, H14⟩, ⟨%d15, %f15, -, H15⟩, ⟨%d16, %f16, -, H16⟩, Hk⟩
  obtain rfl := harg12.eq_unread hf11; obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists d11, _; isplitr; swap; · iexact H11
    ipureintro
    rw [read_one]
    unfold tile nextZ
    sl_unfold_words
    simp only [load_part, load_full]
    rfl
  isplitl [H12]
  · iexists _; isplitr; swap; · iexact H12
    ipureintro
    rw [read_full]
    unfold tile
    sl_unfold_words
    simp only [load_part, load_full, cov_full]
    try rfl
  isplitl [H13]
  · iexists _; isplitr; swap; · iexact H13
    ipureintro
    rw [read_full]
    unfold tile
    sl_unfold_words
    simp only [load_part, load_full, cov_full]
    try rfl
  isplitl [H14]
  · iexists _; isplitr; swap; · iexact H14
    ipureintro
    rw [read_full]
    unfold tile
    sl_unfold_words
    simp only [load_part, load_full, cov_full]
    try rfl
  isplitl [H15]
  · iexists _, _; isplitr; swap; · iexact H15
    ipureintro; rfl
  iexists _; isplitr; swap; · iexact H16
  ipureintro
  refine read_rows _ _ _ ?_ (by sl_kernel_rfl)
  sl_unfold_words
  repeat' (first | exact trivial | refine hot_cons harg1 _ _ _ _ _ _ _ _ _ _ (by rfl) (by rfl) (by rfl) (by rfl) ?_)

end

end Cert.KernelIdeal.Hand

end
-- ==== Proof.KernelIdeal.StepMiddle.lean ====
module

public import proofs.«01_k».proof.Proof.Gen.KernelIdeal.Frame
public import proofs.«01_k».proof.Proof.Gen.KernelIdeal.Skeleton
public import proofs.«01_k».proof.Proof.KernelIdeal.Words

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg1 : Memref sig .tc .smem S2x64 .i32) (harg1 : arg1.IsWhole)
  (arg2 : Memref sig .tc .smem S2x64 .i32) (harg2 : arg2.IsWhole)
  (arg3 : Memref sig .tc .vmem S128x4096 .fp8e4m3) (harg3 : arg3.IsWhole)
  (arg4 : Memref sig .tc .vmem S2x64 .f32) (harg4 : arg4.IsWhole)
  (arg5 : Memref sig .tc .vmem S2x64 .i32) (harg5 : arg5.IsWhole)
  (arg6 : Memref sig .tc .vmem S250x128 .f32) (harg6 : arg6.IsWhole)
  (arg7 : Memref sig .tc .vmem S1280x4096 .fp8e4m3) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x64 .f32) (harg10 : arg10.IsWhole)
  (arg11 : Memref sig .tc .vmem S2x64 .f32) (harg11 : arg11.IsWhole)
  (arg12 : Memref sig .tc .vmem S32000x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S8x128 .f32) (harg15 : arg15.IsWhole)
  (arg16 : Memref sig .tc .vmem S128x128 .f32) (harg16 : arg16.IsWhole)
  (arg17 : Memref sig .tc .vmem S128x128 .f32) (harg17 : arg17.IsWhole)

/-- A step between the first and the last, on known running values. -/
def StepMiddle : Prop :=
  ∀ (x0 : Vec F S2x64 .i32) (x1 : Vec F S2x64 .i32) (x2 : Vec F S128x4096 .fp8e4m3) (x3 : Vec F S2x64 .f32) (x4 : Vec F S2x64 .i32) (x5 : Vec F S250x128 .f32) (x6 : Vec F S1280x4096 .fp8e4m3) (z : Vec F S32000x128 .f32) (M S T : Vec F S8x128 .f32) (hot : Vec F S128x128 .f32)
    (hd : ∀ p, BitVec.toNat (w := 32) (x1 p) < 32000) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare z ∗ owns (c : Thread nD τ) arg13 fullShare M ∗ owns (c : Thread nD τ) arg14 fullShare S ∗ owns (c : Thread nD τ) arg15 fullShare T ∗ (∃ d, owns (c : Thread nD τ) arg16 fullShare d) ∗ owns (c : Thread nD τ) arg17 fullShare hot ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
          (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (nextZ i (tile i x2 x3 x5 x6) z) ∗ owns (c : Thread nD τ) arg13 fullShare (k0_pay355 (tile i x2 x3 x5 x6) M) ∗ owns (c : Thread nD τ) arg14 fullShare (k0_pay353 (tile i x2 x3 x5 x6) M S) ∗ owns (c : Thread nD τ) arg15 fullShare (k0_pay354 (tile i x2 x3 x5 x6) M S T) ∗ (∃ d, owns (c : Thread nD τ) arg16 fullShare d) ∗ owns (c : Thread nD τ) arg17 fullShare hot) -∗ K ⟨⟩))
      ⊢ wp frame (wpE (defs₀ (F := F)) Variants.none c none) E
          (cc0_medusa_accept i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 1600000 in
/-- It does that. -/
theorem step_middle (hc0 : ¬AtFirst i) (hc1 : ¬AtLast i) :
    StepMiddle (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 z M S T hot hd E K
  simp only [cc0_medusa_accept_eq_skeleton]; unfold cc0_medusa_accept_skel
  simp only [k0_part68_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11; obtain rfl := harg13.eq_unread hf12; obtain rfl := harg14.eq_unread hf13; obtain rfl := harg15.eq_unread hf14; obtain rfl := harg17.eq_unread hf16
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _; isplitr; swap; · iexact H11
    ipureintro
    rw [read_one]
    unfold tile nextZ
    sl_unfold_words
    simp only [load_part, load_full]
    rfl
  isplitl [H12]
  · iexists _; isplitr; swap; · iexact H12
    ipureintro
    rw [read_full]
    unfold tile
    sl_unfold_words
    simp only [load_part, load_full]
    rfl
  isplitl [H13]
  · iexists _; isplitr; swap; · iexact H13
    ipureintro
    rw [read_full]
    unfold tile
    sl_unfold_words
    simp only [load_part, load_full]
    rfl
  isplitl [H14]
  · iexists _; isplitr; swap; · iexact H14
    ipureintro
    rw [read_full]
    unfold tile
    sl_unfold_words
    simp only [load_part, load_full]
    rfl
  isplitl [H15]
  · iexists _, _; isplitr; swap; · iexact H15
    ipureintro; rfl
  iexists _; isplitr; · ipureintro; exact harg17.read_unread _
  iexact H16

end

end Cert.KernelIdeal.Hand

end
-- ==== Proof.KernelIdeal.StepLast.lean ====
module

public import proofs.«01_k».proof.Proof.Gen.KernelIdeal.Frame
public import proofs.«01_k».proof.Proof.Gen.KernelIdeal.Skeleton
public import proofs.«01_k».proof.Proof.KernelIdeal.Words

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg1 : Memref sig .tc .smem S2x64 .i32) (harg1 : arg1.IsWhole)
  (arg2 : Memref sig .tc .smem S2x64 .i32) (harg2 : arg2.IsWhole)
  (arg3 : Memref sig .tc .vmem S128x4096 .fp8e4m3) (harg3 : arg3.IsWhole)
  (arg4 : Memref sig .tc .vmem S2x64 .f32) (harg4 : arg4.IsWhole)
  (arg5 : Memref sig .tc .vmem S2x64 .i32) (harg5 : arg5.IsWhole)
  (arg6 : Memref sig .tc .vmem S250x128 .f32) (harg6 : arg6.IsWhole)
  (arg7 : Memref sig .tc .vmem S1280x4096 .fp8e4m3) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x64 .f32) (harg10 : arg10.IsWhole)
  (arg11 : Memref sig .tc .vmem S2x64 .f32) (harg11 : arg11.IsWhole)
  (arg12 : Memref sig .tc .vmem S32000x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S8x128 .f32) (harg15 : arg15.IsWhole)
  (arg16 : Memref sig .tc .vmem S128x128 .f32) (harg16 : arg16.IsWhole)
  (arg17 : Memref sig .tc .vmem S128x128 .f32) (harg17 : arg17.IsWhole)

/-- The last step, on known running values. -/
def StepLast : Prop :=
  ∀ (x0 : Vec F S2x64 .i32) (x1 : Vec F S2x64 .i32) (x2 : Vec F S128x4096 .fp8e4m3) (x3 : Vec F S2x64 .f32) (x4 : Vec F S2x64 .i32) (x5 : Vec F S250x128 .f32) (x6 : Vec F S1280x4096 .fp8e4m3) (z : Vec F S32000x128 .f32) (M S T : Vec F S8x128 .f32) (hot : Vec F S128x128 .f32)
    (hd : ∀ p, BitVec.toNat (w := 32) (x1 p) < 32000) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare z ∗ owns (c : Thread nD τ) arg13 fullShare M ∗ owns (c : Thread nD τ) arg14 fullShare S ∗ owns (c : Thread nD τ) arg15 fullShare T ∗ (∃ d, owns (c : Thread nD τ) arg16 fullShare d) ∗ owns (c : Thread nD τ) arg17 fullShare hot ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
          owns (c : Thread nD τ) arg8 fullShare (entOut (entOf (k0_pay355 (tile i x2 x3 x5 x6) M) (k0_pay353 (tile i x2 x3 x5 x6) M S) (k0_pay354 (tile i x2 x3 x5 x6) M S T))) ∗ owns (c : Thread nD τ) arg9 fullShare (dlpOut (dlpOf (k0_pay355 (tile i x2 x3 x5 x6) M) (k0_pay353 (tile i x2 x3 x5 x6) M S) hot (rowsOf (nextZ i (tile i x2 x3 x5 x6) z) x1))) ∗ owns (c : Thread nD τ) arg10 fullShare (marOut (marOf (k0_pay355 (tile i x2 x3 x5 x6) M) (k0_pay353 (tile i x2 x3 x5 x6) M S) (k0_pay354 (tile i x2 x3 x5 x6) M S T) hot (rowsOf (nextZ i (tile i x2 x3 x5 x6) z) x1))) ∗ owns (c : Thread nD τ) arg11 fullShare (pathOut (marOf (k0_pay355 (tile i x2 x3 x5 x6) M) (k0_pay353 (tile i x2 x3 x5 x6) M S) (k0_pay354 (tile i x2 x3 x5 x6) M S T) hot (rowsOf (nextZ i (tile i x2 x3 x5 x6) z) x1)) x4) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E
          (cc0_medusa_accept i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 6000000 in
/-- It does that. -/
theorem step_last (hc0 : ¬AtFirst i) (hc1 : AtLast i) :
    StepLast (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 z M S T hot hd E K
  simp only [cc0_medusa_accept_eq_skeleton]; unfold cc0_medusa_accept_skel
  simp only [k0_part68_eq_skeleton, k0_part69_eq_skeleton, k0_part70_eq_skeleton, k0_part71_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11; obtain rfl := harg13.eq_unread hf12; obtain rfl := harg14.eq_unread hf13; obtain rfl := harg15.eq_unread hf14; obtain rfl := harg17.eq_unread hf16
  sl_exec (disch := first | sl_exact hc0 | sl_exact hc1 | exact fun _ => row_inb _ (hw _ _))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (read_two _ _ _).trans ?_
    unfold entOut entOf
    sl_unfold_words
    simp only [load_part, load_full, cov_full, load_next, tile_out]
  isplitl [H8]
  · iexists _; isplitr; swap; · iexact H8
    ipureintro
    refine (read_two _ _ _).trans ?_
    unfold dlpOut dlpOf
    sl_unfold_words
    simp only [load_part, load_full, cov_full, load_next, tile_out]
    rw [cov_rows (F := F) arg16.view (rowsOf (nextZ i (tile i x2 x3 x5 x6) z) x1) _ ?hL ?ht]
    case ht => sl_kernel_rfl
    case hL =>
      repeat' (first | exact trivial | refine gather_cons harg2 _ _ hd _ _ _ _ _ _ _ _ rfl rfl ?_)
    try rfl
  isplitl [H9]
  · iexists _; isplitr; swap; · iexact H9
    ipureintro
    refine (read_two _ _ _).trans ?_
    unfold marOut marOf
    sl_unfold_words
    simp only [load_part, load_full, cov_full, load_next, tile_out]
    rw [cov_rows (F := F) arg16.view (rowsOf (nextZ i (tile i x2 x3 x5 x6) z) x1) _ ?hL ?ht]
    case ht => sl_kernel_rfl
    case hL =>
      repeat' (first | exact trivial | refine gather_cons harg2 _ _ hd _ _ _ _ _ _ _ _ rfl rfl ?_)
    try rfl
  isplitl [H10]
  · iexists _; isplitr; swap; · iexact H10
    ipureintro
    refine (read_two _ _ _).trans ?_
    unfold pathOut marOf
    sl_unfold_words
    simp only [load_part, load_full, cov_full, load_next, tile_out]
    rw [cov_rows (F := F) arg16.view (rowsOf (nextZ i (tile i x2 x3 x5 x6) z) x1) _ ?hL ?ht]
    case ht => sl_kernel_rfl
    case hL =>
      repeat' (first | exact trivial | refine gather_cons harg2 _ _ hd _ _ _ _ _ _ _ _ rfl rfl ?_)
    try rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end

end Cert.KernelIdeal.Hand

end
-- ==== Proof.KernelIdeal.Run.lean ====
module

public import proofs.«01_k».proof.Proof.KernelIdeal.Frame
public import proofs.«01_k».proof.Proof.KernelIdeal.StepFirst
public import proofs.«01_k».proof.Proof.KernelIdeal.StepMiddle
public import proofs.«01_k».proof.Proof.KernelIdeal.StepLast
public import Idealize.ShloMosaic.Lib.Pipeline.TableIdle
public import Idealize.ShloMosaic.Lib.Pipeline.ValueKit.Geometry
public import Idealize.ShloMosaic.Lib.Writes

@[expose] public section

set_option maxRecDepth 16384

noncomputable section

namespace Cert.KernelIdeal.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers hold between points -/

/-- The grid point of a number. -/
def pt (n : ℕ) : Fin cfg0.N := ⟨n % 25, lt_of_lt_of_eq (Nat.mod_lt _ (by decide)) N_0.symm⟩

/-- A point is the point of its number. -/
theorem pt_val (t : Fin cfg0.N) : pt t.val = t :=
  Fin.ext (Nat.mod_eq_of_lt (lt_of_lt_of_eq t.isLt N_0))

/-- The scores point `t` computes. -/
def tileOf (c : Dev nD) (t : Fin cfg0.N) : FVec F S1280x128 .f32 :=
  tile (grid0.coords t) (iblk m c 2 t) (iblk m c 3 t) (iblk m c 5 t) (iblk m c 6 t)

/-- The scores the `n`-th point computes. -/
def tileAt (c : Dev nD) (n : ℕ) : FVec F S1280x128 .f32 := tileOf m c (pt n)

/-- A point's scores, by its number. -/
theorem tileOf_eq (c : Dev nD) (t : Fin cfg0.N) : tileOf m c t = tileAt m c t.val := by
  unfold tileAt; rw [pt_val]

/-- The running maximum, sum and weighted sum before the `n`-th point. -/
def state (c : Dev nD) : ℕ → Vec F S8x128 .f32 × Vec F S8x128 .f32 × Vec F S8x128 .f32
  | 0 => (k0_pay2, k0_pay3, k0_pay4)
  | n + 1 => (k0_pay355 (tileAt m c n) (state c n).1, k0_pay353 (tileAt m c n) (state c n).1 (state c n).2.1,
      k0_pay354 (tileAt m c n) (state c n).1 (state c n).2.1 (state c n).2.2)

/-- The whole score table. -/
def zAll (c : Dev nD) : Vec F S32000x128 .f32 := fun p =>
  tileAt m c ((p 0).val / 1280) (ix2 ⟨(p 0).val % 1280, Nat.mod_lt _ (by decide)⟩ ⟨(p 1).val, idx2_lt1 p⟩)

/-- The rows of the score table written by the first `n` points. -/
def Filled (c : Dev nD) (n : ℕ) (z : Vec F S32000x128 .f32) : Prop :=
  ∀ p : S32000x128.Idx, (p 0).val < 1280 * n → z p = zAll m c p

/-- Before the first point no row is asked for. -/
theorem filled_zero (c : Dev nD) (z : Vec F S32000x128 .f32) : Filled m c 0 z := fun p h => absurd h (by omega)

/-- After the last point the whole table is written. -/
theorem filled_all (c : Dev nD) (z : Vec F S32000x128 .f32) (h : Filled m c 25 z) : z = zAll m c :=
  funext fun p => h p (by have := idx2_lt0 p; omega)

/-- The rows a point's tile goes to. -/
theorem off2_eq (t : Fin cfg0.N) : k0_off2 (grid0.coords t) = ![1280 * t.val, 0] := by
  have ht : t.val < 25 := Nat.lt_of_lt_of_eq t.isLt N_0
  have e0 : (grid0.coords t 0).val = t.val / 1 % 25 := Pipeline.Grid.coords_val t 0 (by decide) rfl
  have e : (grid0.coords t 0).val = t.val := by omega
  funext a
  fin_cases a
  · show BitVec.toNat (Scalar.indexCast (Scalar.muli (BitVec.ofNat 32 (grid0.coords t 0).val) 1280#32)) = 1280 * t.val
    rw [e]
    exact (by decide +kernel : ∀ n : Fin 25, BitVec.toNat (Scalar.indexCast (Scalar.muli (BitVec.ofNat 32 n.val) 1280#32)) = 1280 * n.val) ⟨t.val, ht⟩
  · rfl

/-- A point's store extends the filled rows by its own. -/
theorem filled_next (c : Dev nD) (t : Fin cfg0.N) (z : Vec F S32000x128 .f32) (h : Filled m c t.val z) :
    Filled m c (t.val + 1) (nextZ (grid0.coords t) (tileAt m c t.val) z) := by
  intro p hp
  unfold nextZ
  have hp1 : (p 1).val < 128 := idx2_lt1 p
  by_cases hlt : (p 0).val < 1280 * t.val
  · rw [Rect.overlay_of_not_mem]
    · exact h p hlt
    · refine Rect.not_mem_set_of_axis _ p 0 (1280 * t.val) 1280 ?_ rfl rfl (Or.inl hlt)
      exact congrFun (off2_eq t) 0
  · have hr : (p 0).val - 1280 * t.val < 1280 := by omega
    have ep : p = (Rect.unit (s := S32000x128) (k0_off2 (grid0.coords t)) S1280x128.size (k0_off2_inb (grid0.coords t))).emb
        (ix2 ⟨(p 0).val - 1280 * t.val, hr⟩ ⟨(p 1).val, hp1⟩) := by
      refine Shape.idx_ext₂ ?_ ?_
      · show (p 0).val = k0_off2 (grid0.coords t) 0 + 1 * ((p 0).val - 1280 * t.val)
        rw [off2_eq]; show (p 0).val = 1280 * t.val + 1 * ((p 0).val - 1280 * t.val); omega
      · show (p 1).val = k0_off2 (grid0.coords t) 1 + 1 * (p 1).val
        rw [off2_eq]; show (p 1).val = 0 + 1 * (p 1).val; omega
    have e1 : (p 0).val / 1280 = t.val := by omega
    have e2 : (p 0).val % 1280 = (p 0).val - 1280 * t.val := by omega
    conv_lhs => rw [ep]
    rw [Rect.overlay_emb]
    unfold k0_pay346
    refine (congrFun (shapeCast_self (s := S1280x128) _ _) _).trans ?_
    unfold zAll
    rw [e1]
    refine congrArg _ (Shape.idx_ext₂ ?_ rfl)
    exact e2.symm

/-- The table marking the parents. -/
def hotAll (c : Dev nD) : Vec F S128x128 .f32 := hotOf (iblk m c 0 (pt 0))

/-- The marks are the same at every point. -/
theorem hot_eq (c : Dev nD) (t : Fin cfg0.N) : hotOf (F := F) (iblk m c 0 t) = hotAll m c := rfl

/-- The gathered rows. -/
def rowsAll (c : Dev nD) : Vec F S128x128 .f32 := rowsOf (zAll m c) (iblk m c 1 (pt 0))

/-- The gathered rows are the same at every point. -/
theorem rows_eq (c : Dev nD) (t : Fin cfg0.N) : rowsOf (F := F) (zAll m c) (iblk m c 1 t) = rowsAll m c := rfl

/-- The margins, as a column. -/
def marAll (c : Dev nD) : FVec F S128x1 .f32 :=
  marOf (state m c 25).1 (state m c 25).2.1 (state m c 25).2.2 (hotAll m c) (rowsAll m c)

/-- The four results. -/
def res0 (c : Dev nD) : Vec F S2x64 .f32 := entOut (entOf (state m c 25).1 (state m c 25).2.1 (state m c 25).2.2)
/-- The second result, the drafted log-probabilities. -/
def res1 (c : Dev nD) : Vec F S2x64 .f32 := dlpOut (dlpOf (state m c 25).1 (state m c 25).2.1 (hotAll m c) (rowsAll m c))
/-- The third result, the margins. -/
def res2 (c : Dev nD) : Vec F S2x64 .f32 := marOut (marAll m c)
/-- The fourth result, the path minima. -/
def res3 (c : Dev nD) : Vec F S2x64 .f32 := pathOut (marAll m c) (iblk m c 4 (pt 0))

open Classical in
/-- The invariant before the `n`-th point: the scratch buffers hold anything before the first point and after the last. -/
def Inv (c : Dev nD) (n : ℕ) : sProp 𝕄 :=
  if n = 0 ∨ n = 25 then Pipeline.ΦA spec0 c
  else iprop(iprop((∃ z, ⌜Filled m c n z⌝ ∗ owns (c : Thread nD τ) scr0 fullShare z)
      ∗ owns (c : Thread nD τ) scr1 fullShare (state m c n).1 ∗ owns (c : Thread nD τ) scr2 fullShare (state m c n).2.1
      ∗ owns (c : Thread nD τ) scr3 fullShare (state m c n).2.2 ∗ (∃ d, owns (c : Thread nD τ) scr4 fullShare d)
      ∗ owns (c : Thread nD τ) scr5 fullShare (hotAll m c)) ∗ (∃ r, prngReg c r))

/-- The invariant before the first point and after the last. -/
theorem Inv_ends (c : Dev nD) (n : ℕ) (hn : n = 0 ∨ n = 25) : (Inv m c n : sProp 𝕄) = Pipeline.ΦA spec0 c := by
  unfold Inv; rw [if_pos hn]

/-- The invariant between two points. -/
theorem Inv_pos (c : Dev nD) (n : ℕ) (hn : ¬ (n = 0 ∨ n = 25)) : Inv m c n
    = iprop(iprop((∃ z, ⌜Filled m c n z⌝ ∗ owns (c : Thread nD τ) scr0 fullShare z)
      ∗ owns (c : Thread nD τ) scr1 fullShare (state m c n).1 ∗ owns (c : Thread nD τ) scr2 fullShare (state m c n).2.1
      ∗ owns (c : Thread nD τ) scr3 fullShare (state m c n).2.2 ∗ (∃ d, owns (c : Thread nD τ) scr4 fullShare d)
      ∗ owns (c : Thread nD τ) scr5 fullShare (hotAll m c)) ∗ (∃ r, prngReg c r)) := by
  unfold Inv; rw [if_neg hn]

/-- The pipeline's proof data: inputs stay at their blocks, the results are the four named ones, the scratch buffers hold
    the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => res0 m c
    | ⟨8, _⟩ => res1 m c
    | ⟨9, _⟩ => res2 m c
    | ⟨10, _⟩ => res3 m c
  Φ t := Inv m c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-! Each input's buffer holds its block before the body, and is left holding it. -/

/-- An input window's buffer holds its block before the body. -/
theorem before_0 (c : Dev nD) (t : Fin cfg0.N) (d) : (dats m 0 c).before 0 t d = iblk m c 0 t :=
  before0_0_of m (dats m 0 c) (A_eq m c 0) (fun _ => by dsimp only [dats]) t d
/-- An input window's buffer holds its block before the body. -/
theorem before_1 (c : Dev nD) (t : Fin cfg0.N) (d) : (dats m 0 c).before 1 t d = iblk m c 1 t :=
  before0_1_of m (dats m 0 c) (A_eq m c 1) (fun _ => by dsimp only [dats]) t d
/-- An input window's buffer holds its block before the body. -/
theorem before_2 (c : Dev nD) (t : Fin cfg0.N) (d) : (dats m 0 c).before 2 t d = iblk m c 2 t :=
  before0_2_of m (dats m 0 c) (A_eq m c 2) (fun _ => by dsimp only [dats]) t d
/-- An input window's buffer holds its block before the body. -/
theorem before_3 (c : Dev nD) (t : Fin cfg0.N) (d) : (dats m 0 c).before 3 t d = iblk m c 3 t :=
  before0_3_of m (dats m 0 c) (A_eq m c 3) (fun _ => by dsimp only [dats]) t d
/-- An input window's buffer holds its block before the body. -/
theorem before_4 (c : Dev nD) (t : Fin cfg0.N) (d) : (dats m 0 c).before 4 t d = iblk m c 4 t :=
  before0_4_of m (dats m 0 c) (A_eq m c 4) (fun _ => by dsimp only [dats]) t d
/-- An input window's buffer holds its block before the body. -/
theorem before_5 (c : Dev nD) (t : Fin cfg0.N) (d) : (dats m 0 c).before 5 t d = iblk m c 5 t :=
  before0_5_of m (dats m 0 c) (A_eq m c 5) (fun _ => by dsimp only [dats]) t d
/-- An input window's buffer holds its block before the body. -/
theorem before_6 (c : Dev nD) (t : Fin cfg0.N) (d) : (dats m 0 c).before 6 t d = iblk m c 6 t :=
  before0_6_of m (dats m 0 c) (A_eq m c 6) (fun _ => by dsimp only [dats]) t d
/-- The body leaves an input window's buffer holding its block. -/
theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl]; dsimp only [dats]
/-- The body leaves an input window's buffer holding its block. -/
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl]; dsimp only [dats]
/-- The body leaves an input window's buffer holding its block. -/
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl]; dsimp only [dats]
/-- The body leaves an input window's buffer holding its block. -/
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl]; dsimp only [dats]
/-- The body leaves an input window's buffer holding its block. -/
theorem leaves_4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl]; dsimp only [dats]
/-- The body leaves an input window's buffer holding its block. -/
theorem leaves_5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl]; dsimp only [dats]
/-- The body leaves an input window's buffer holding its block. -/
theorem leaves_6 (c : Dev nD) (t : Fin cfg0.N) :
    (dats m 0 c).leavesExact 6 t = owns (c : Thread nD τ) (stg6 t) fullShare (iblk m c 6 t) := by
  unfold Dat.leavesExact; rw [show cfg0.idle 6 (grid0.coords t) = false from rfl]; dsimp only [dats]

/-! A result's buffer is untouched before the last point, which fills it. -/

/-- Before the last point the results are not written. -/
theorem cond_idle (t : Fin cfg0.N) (h : t.val % 25 ≠ 24) : (!(k0_cond2 (grid0.coords t) == 1#1)) = true := by
  have h' : ¬ (k0_cond2 (grid0.coords t) = 1#1) := fun hh => h ((atLast_iff t).mp hh)
  simpa using h'

/-- At the last point the results are written. -/
theorem cond_live (t : Fin cfg0.N) (h : t.val % 25 = 24) : (!(k0_cond2 (grid0.coords t) == 1#1)) = false := by
  have h' : k0_cond2 (grid0.coords t) = 1#1 := (atLast_iff t).mpr h
  rw [h']; rfl

/-- A result is not copied out before the last point. -/
theorem noflush_7 (t : Fin cfg0.N) (h : t.val % 25 ≠ 24) : (cfg0.win 7).flush t = false := by
  cases hf : (cfg0.win 7).flush t with
  | false => rfl
  | true => exact absurd ((flush0_7 t).mp hf) h
/-- A result's buffer holds whatever was there before the body. -/
theorem before_7 (c : Dev nD) (t : Fin cfg0.N) (d) : (dats m 0 c).before 7 t d = d := by
  have ht : t.val < 25 := Nat.lt_of_lt_of_eq t.isLt N_0
  rw [Dat.before_idle_run (dats m 0 c) 7 (fun t => rfl) d t.val t le_rfl fun j _ hj =>
    ⟨cond_idle j (by omega), noflush_7 j (by omega)⟩]
  unfold Dat.before
  rw [show (cfg0.win 7).fetch ⟨t.val - t.val, Nat.lt_of_le_of_lt (Nat.sub_le _ _) t.isLt⟩ = false from rfl, if_neg Bool.false_ne_true, if_pos (Nat.sub_self _)]
/-- Before the last point the body leaves a result's buffer alone. -/
theorem idle_7 (c : Dev nD) (t : Fin cfg0.N) (h : t.val % 25 ≠ 24) :
    (dats m 0 c).leavesExact 7 t = iprop(∃ d, owns (c : Thread nD τ) (stg7 t) fullShare d) := by
  rw [Dat.leavesExact_idle (dats m 0 c) 7 t (cond_idle t h) (noflush_7 t h)]
  simp only [before_7]
  rfl
/-- At the last point the body leaves the result in its buffer. -/
theorem live_7 (c : Dev nD) (t : Fin cfg0.N) (h : t.val % 25 = 24) :
    (dats m 0 c).leavesExact 7 t = owns (c : Thread nD τ) (stg7 t) fullShare (res0 m c) := by
  unfold Dat.leavesExact; rw [show cfg0.idle 7 (grid0.coords t) = false from cond_live t h]; dsimp only [dats]
/-- A result is not copied out before the last point. -/
theorem noflush_8 (t : Fin cfg0.N) (h : t.val % 25 ≠ 24) : (cfg0.win 8).flush t = false := by
  cases hf : (cfg0.win 8).flush t with
  | false => rfl
  | true => exact absurd ((flush0_8 t).mp hf) h
/-- A result's buffer holds whatever was there before the body. -/
theorem before_8 (c : Dev nD) (t : Fin cfg0.N) (d) : (dats m 0 c).before 8 t d = d := by
  have ht : t.val < 25 := Nat.lt_of_lt_of_eq t.isLt N_0
  rw [Dat.before_idle_run (dats m 0 c) 8 (fun t => rfl) d t.val t le_rfl fun j _ hj =>
    ⟨cond_idle j (by omega), noflush_8 j (by omega)⟩]
  unfold Dat.before
  rw [show (cfg0.win 8).fetch ⟨t.val - t.val, Nat.lt_of_le_of_lt (Nat.sub_le _ _) t.isLt⟩ = false from rfl, if_neg Bool.false_ne_true, if_pos (Nat.sub_self _)]
/-- Before the last point the body leaves a result's buffer alone. -/
theorem idle_8 (c : Dev nD) (t : Fin cfg0.N) (h : t.val % 25 ≠ 24) :
    (dats m 0 c).leavesExact 8 t = iprop(∃ d, owns (c : Thread nD τ) (stg8 t) fullShare d) := by
  rw [Dat.leavesExact_idle (dats m 0 c) 8 t (cond_idle t h) (noflush_8 t h)]
  simp only [before_8]
  rfl
/-- At the last point the body leaves the result in its buffer. -/
theorem live_8 (c : Dev nD) (t : Fin cfg0.N) (h : t.val % 25 = 24) :
    (dats m 0 c).leavesExact 8 t = owns (c : Thread nD τ) (stg8 t) fullShare (res1 m c) := by
  unfold Dat.leavesExact; rw [show cfg0.idle 8 (grid0.coords t) = false from cond_live t h]; dsimp only [dats]
/-- A result is not copied out before the last point. -/
theorem noflush_9 (t : Fin cfg0.N) (h : t.val % 25 ≠ 24) : (cfg0.win 9).flush t = false := by
  cases hf : (cfg0.win 9).flush t with
  | false => rfl
  | true => exact absurd ((flush0_9 t).mp hf) h
/-- A result's buffer holds whatever was there before the body. -/
theorem before_9 (c : Dev nD) (t : Fin cfg0.N) (d) : (dats m 0 c).before 9 t d = d := by
  have ht : t.val < 25 := Nat.lt_of_lt_of_eq t.isLt N_0
  rw [Dat.before_idle_run (dats m 0 c) 9 (fun t => rfl) d t.val t le_rfl fun j _ hj =>
    ⟨cond_idle j (by omega), noflush_9 j (by omega)⟩]
  unfold Dat.before
  rw [show (cfg0.win 9).fetch ⟨t.val - t.val, Nat.lt_of_le_of_lt (Nat.sub_le _ _) t.isLt⟩ = false from rfl, if_neg Bool.false_ne_true, if_pos (Nat.sub_self _)]
/-- Before the last point the body leaves a result's buffer alone. -/
theorem idle_9 (c : Dev nD) (t : Fin cfg0.N) (h : t.val % 25 ≠ 24) :
    (dats m 0 c).leavesExact 9 t = iprop(∃ d, owns (c : Thread nD τ) (stg9 t) fullShare d) := by
  rw [Dat.leavesExact_idle (dats m 0 c) 9 t (cond_idle t h) (noflush_9 t h)]
  simp only [before_9]
  rfl
/-- At the last point the body leaves the result in its buffer. -/
theorem live_9 (c : Dev nD) (t : Fin cfg0.N) (h : t.val % 25 = 24) :
    (dats m 0 c).leavesExact 9 t = owns (c : Thread nD τ) (stg9 t) fullShare (res2 m c) := by
  unfold Dat.leavesExact; rw [show cfg0.idle 9 (grid0.coords t) = false from cond_live t h]; dsimp only [dats]
/-- A result is not copied out before the last point. -/
theorem noflush_10 (t : Fin cfg0.N) (h : t.val % 25 ≠ 24) : (cfg0.win 10).flush t = false := by
  cases hf : (cfg0.win 10).flush t with
  | false => rfl
  | true => exact absurd ((flush0_10 t).mp hf) h
/-- A result's buffer holds whatever was there before the body. -/
theorem before_10 (c : Dev nD) (t : Fin cfg0.N) (d) : (dats m 0 c).before 10 t d = d := by
  have ht : t.val < 25 := Nat.lt_of_lt_of_eq t.isLt N_0
  rw [Dat.before_idle_run (dats m 0 c) 10 (fun t => rfl) d t.val t le_rfl fun j _ hj =>
    ⟨cond_idle j (by omega), noflush_10 j (by omega)⟩]
  unfold Dat.before
  rw [show (cfg0.win 10).fetch ⟨t.val - t.val, Nat.lt_of_le_of_lt (Nat.sub_le _ _) t.isLt⟩ = false from rfl, if_neg Bool.false_ne_true, if_pos (Nat.sub_self _)]
/-- Before the last point the body leaves a result's buffer alone. -/
theorem idle_10 (c : Dev nD) (t : Fin cfg0.N) (h : t.val % 25 ≠ 24) :
    (dats m 0 c).leavesExact 10 t = iprop(∃ d, owns (c : Thread nD τ) (stg10 t) fullShare d) := by
  rw [Dat.leavesExact_idle (dats m 0 c) 10 t (cond_idle t h) (noflush_10 t h)]
  simp only [before_10]
  rfl
/-- At the last point the body leaves the result in its buffer. -/
theorem live_10 (c : Dev nD) (t : Fin cfg0.N) (h : t.val % 25 = 24) :
    (dats m 0 c).leavesExact 10 t = owns (c : Thread nD τ) (stg10 t) fullShare (res3 m c) := by
  unfold Dat.leavesExact; rw [show cfg0.idle 10 (grid0.coords t) = false from cond_live t h]; dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- One point's step of the running values. -/
theorem state_succ (c : Dev nD) (n : ℕ) : state m c (n + 1) = (k0_pay355 (tileAt m c n) (state m c n).1, k0_pay353 (tileAt m c n) (state m c n).1 (state m c n).2.1,
      k0_pay354 (tileAt m c n) (state m c n).1 (state m c n).2.1 (state m c n).2.2) := rfl

/-- The first point. -/
theorem body_first (hD : DraftsBelow m) (c : Dev nD) (t : Fin cfg0.N) (h0 : t.val % 25 = 0) (h1 : t.val % 25 ≠ 24) :
    bodyPre m c t ⊢ wp frame (wpE (defs₀ (F := F)) Variants.none c none) Set.univ (bodyAt0 t) (fun _ => bodyPost m c t) := by
  have ht : t.val < 25 := Nat.lt_of_lt_of_eq t.isLt N_0
  unfold bodyPre bodyPost bodyAt0
  simp only [before_0, before_1, before_2, before_3, before_4, before_5, before_6, before_7, before_8, before_9, before_10,
    leaves_0, leaves_1, leaves_2, leaves_3, leaves_4, leaves_5, leaves_6]
  rw [idle_7 m c t h1, idle_8 m c t h1, idle_9 m c t h1, idle_10 m c t h1, show (dats m 0 c).owesAt () t.succ = (dats m 0 c).owesAt () t.castSucc from rfl,
    show (dats m 0 c).Φ t.succ = Inv m c (t.val + 1) from by dsimp only [dats]; rw [Fin.val_succ],
    show (dats m 0 c).Φ t.castSucc = Inv m c t.val from by dsimp only [dats]; rfl, Inv_pos m c (t.val + 1) (by omega)]
  have hz : t.val = 0 := by omega
  rw [Inv_ends m c t.val (Or.inl hz), scratch_eq, state_succ]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  have hs := fun K => step_first (F := F) c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10))
    scr0 (Memref.isWhole_whole _) scr1 (Memref.isWhole_whole _) scr2 (Memref.isWhole_whole _) scr3 (Memref.isWhole_whole _) scr4 (Memref.isWhole_whole _) scr5 (Memref.isWhole_whole _) ((atFirst_iff t).mpr h0) (fun h => h1 ((atLast_iff t).mp h))
    (iblk m c 0 t) (iblk m c 1 t) (iblk m c 2 t) (iblk m c 3 t) (iblk m c 4 t) (iblk m c 5 t) (iblk m c 6 t) (drafts_block m hD c t) Set.univ K
  rw [show tile (F := F) (grid0.coords t) (iblk m c 2 t) (iblk m c 3 t) (iblk m c 5 t) (iblk m c 6 t) = tileAt m c t.val from tileOf_eq m c t, hot_eq] at hs
  rw [show state m c t.val = (k0_pay2, k0_pay3, k0_pay4) from by rw [hz]; rfl]
  iapply (hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, ⟨%d, S0⟩, S1, S2, S3, S4, S5⟩
  isplitl [S0 S1 S2 S3 S4 S5 Hg]
  · isplitl [S0 S1 S2 S3 S4 S5]
    · isplitl [S0]
      · iexists _; isplitr; · ipureintro; exact filled_next m c t d (by rw [hz]; exact filled_zero m c d)
        iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A point between the first and the last. -/
theorem body_middle (hD : DraftsBelow m) (c : Dev nD) (t : Fin cfg0.N) (h0 : t.val % 25 ≠ 0) (h1 : t.val % 25 ≠ 24) :
    bodyPre m c t ⊢ wp frame (wpE (defs₀ (F := F)) Variants.none c none) Set.univ (bodyAt0 t) (fun _ => bodyPost m c t) := by
  have ht : t.val < 25 := Nat.lt_of_lt_of_eq t.isLt N_0
  unfold bodyPre bodyPost bodyAt0
  simp only [before_0, before_1, before_2, before_3, before_4, before_5, before_6, before_7, before_8, before_9, before_10,
    leaves_0, leaves_1, leaves_2, leaves_3, leaves_4, leaves_5, leaves_6]
  rw [idle_7 m c t h1, idle_8 m c t h1, idle_9 m c t h1, idle_10 m c t h1, show (dats m 0 c).owesAt () t.succ = (dats m 0 c).owesAt () t.castSucc from rfl,
    show (dats m 0 c).Φ t.succ = Inv m c (t.val + 1) from by dsimp only [dats]; rw [Fin.val_succ],
    show (dats m 0 c).Φ t.castSucc = Inv m c t.val from by dsimp only [dats]; rfl, Inv_pos m c (t.val + 1) (by omega)]
  have hz : t.val ≠ 0 := by omega
  rw [Inv_pos m c t.val (by omega), state_succ]
  iintro ⟨⟨⟨⟨%z, %hf, S0⟩, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  have hs := fun K => step_middle (F := F) c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10))
    scr0 (Memref.isWhole_whole _) scr1 (Memref.isWhole_whole _) scr2 (Memref.isWhole_whole _) scr3 (Memref.isWhole_whole _) scr4 (Memref.isWhole_whole _) scr5 (Memref.isWhole_whole _) (fun h => h0 ((atFirst_iff t).mp h)) (fun h => h1 ((atLast_iff t).mp h))
    (iblk m c 0 t) (iblk m c 1 t) (iblk m c 2 t) (iblk m c 3 t) (iblk m c 4 t) (iblk m c 5 t) (iblk m c 6 t) z (state m c t.val).1 (state m c t.val).2.1 (state m c t.val).2.2 (hotAll m c) (drafts_block m hD c t) Set.univ K
  rw [show tile (F := F) (grid0.coords t) (iblk m c 2 t) (iblk m c 3 t) (iblk m c 5 t) (iblk m c 6 t) = tileAt m c t.val from tileOf_eq m c t] at hs
  iapply (hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]
      · iexists _; isplitr; · ipureintro; exact filled_next m c t z hf
        iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The last point. -/
theorem body_last (hD : DraftsBelow m) (c : Dev nD) (t : Fin cfg0.N) (h0 : t.val % 25 ≠ 0) (h1 : t.val % 25 = 24) :
    bodyPre m c t ⊢ wp frame (wpE (defs₀ (F := F)) Variants.none c none) Set.univ (bodyAt0 t) (fun _ => bodyPost m c t) := by
  have ht : t.val < 25 := Nat.lt_of_lt_of_eq t.isLt N_0
  unfold bodyPre bodyPost bodyAt0
  simp only [before_0, before_1, before_2, before_3, before_4, before_5, before_6, before_7, before_8, before_9, before_10,
    leaves_0, leaves_1, leaves_2, leaves_3, leaves_4, leaves_5, leaves_6]
  rw [live_7 m c t h1, live_8 m c t h1, live_9 m c t h1, live_10 m c t h1, show (dats m 0 c).owesAt () t.succ = (dats m 0 c).owesAt () t.castSucc from rfl,
    show (dats m 0 c).Φ t.succ = Inv m c (t.val + 1) from by dsimp only [dats]; rw [Fin.val_succ],
    show (dats m 0 c).Φ t.castSucc = Inv m c t.val from by dsimp only [dats]; rfl, Inv_ends m c (t.val + 1) (by omega), scratch_eq]
  have hz : t.val ≠ 0 := by omega
  rw [Inv_pos m c t.val (by omega)]
  iintro ⟨⟨⟨⟨%z, %hf, S0⟩, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  have hs := fun K => step_last (F := F) c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10))
    scr0 (Memref.isWhole_whole _) scr1 (Memref.isWhole_whole _) scr2 (Memref.isWhole_whole _) scr3 (Memref.isWhole_whole _) scr4 (Memref.isWhole_whole _) scr5 (Memref.isWhole_whole _) (fun h => h0 ((atFirst_iff t).mp h)) ((atLast_iff t).mpr h1)
    (iblk m c 0 t) (iblk m c 1 t) (iblk m c 2 t) (iblk m c 3 t) (iblk m c 4 t) (iblk m c 5 t) (iblk m c 6 t) z (state m c t.val).1 (state m c t.val).2.1 (state m c t.val).2.2 (hotAll m c) (drafts_block m hD c t) Set.univ K
  have e24 : t.val = 24 := by omega
  rw [show tile (F := F) (grid0.coords t) (iblk m c 2 t) (iblk m c 3 t) (iblk m c 5 t) (iblk m c 6 t) = tileAt m c t.val from tileOf_eq m c t,
    show nextZ (grid0.coords t) (tileAt m c t.val) z = zAll m c from filled_all m c _ (by have := filled_next m c t z hf; rw [show t.val + 1 = 25 from by omega] at this; exact this),
    rows_eq] at hs
  have es : state m c 25 = (k0_pay355 (tileAt m c t.val) (state m c t.val).1, k0_pay353 (tileAt m c t.val) (state m c t.val).1 (state m c t.val).2.1,
      k0_pay354 (tileAt m c t.val) (state m c t.val).1 (state m c t.val).2.1 (state m c t.val).2.2) := by rw [e24]; rfl
  unfold res0 res1 res2 res3 marAll
  rw [es]
  iapply (hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]
      · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point, from what the pipeline hands it to what the pipeline takes back. -/
theorem sound_body (hD : DraftsBelow m) (c : Dev nD) (t : Fin cfg0.N) :
    bodyPre m c t ⊢ wp frame (wpE (defs₀ (F := F)) Variants.none c none) Set.univ (bodyAt0 t) (fun _ => bodyPost m c t) := by
  by_cases h0 : t.val % 25 = 0
  · exact body_first m hD c t h0 (by omega)
  · by_cases h1 : t.val % 25 = 24
    · exact body_last m hD c t h0 h1
    · exact body_middle m hD c t h0 h1

/-- The pipeline's body obligation at every point. -/
theorem body_obligation (hD : DraftsBelow m) (c : Dev nD) :
    BodyObligation (dats (F := F) m 0 c) (defs₀ (F := F)) Variants.none () Set.univ := fun t => by
  rw [bigSep_W0, bigSep_W0, defs₀_row]
  exact triple_restated (sound_body m hD c t) rfl .rfl fun _ => .rfl

set_option backward.isDefEq.respectTransparency.types false in
/-- The launch: every run ends, with the pipeline's arrays as the proof data say and every other array as it was. -/
theorem run_main (hD : DraftsBelow m) : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m hD c).loose) (hq := fun _ _ _ => rfl)
    (howed := fun _ _ => rfl) (V := V m) (hmain := hmain m Variants.none) (hA := A_eq m)
    (hin := fun c => by rw [show (dats m 0 c).Φ 0 = Pipeline.ΦA spec0 c from Inv_ends m c 0 (Or.inl rfl)])
    (hout := fun c => by
      rw [show (dats m 0 c).Φ (Fin.last cfg0.N) = Pipeline.ΦA spec0 c from Inv_ends m c _ (Or.inr N_0)])

/-- A result's array ends at the named result. -/
theorem arr_7 (c : Dev nD) : (dats m 0 c).arrAt 7 cfg0.N = res0 m c := by
  refine (dats m 0 c).arrAt_eq_of_after_last 7 (pt 24) (by decide +kernel) _ fun j => ?_
  blk_simp
  dsimp only [dats]

/-- A result's array ends at the named result. -/
theorem arr_8 (c : Dev nD) : (dats m 0 c).arrAt 8 cfg0.N = res1 m c := by
  refine (dats m 0 c).arrAt_eq_of_after_last 8 (pt 24) (by decide +kernel) _ fun j => ?_
  blk_simp
  dsimp only [dats]

/-- A result's array ends at the named result. -/
theorem arr_9 (c : Dev nD) : (dats m 0 c).arrAt 9 cfg0.N = res2 m c := by
  refine (dats m 0 c).arrAt_eq_of_after_last 9 (pt 24) (by decide +kernel) _ fun j => ?_
  blk_simp
  dsimp only [dats]

/-- A result's array ends at the named result. -/
theorem arr_10 (c : Dev nD) : (dats m 0 c).arrAt 10 cfg0.N = res3 m c := by
  refine (dats m 0 c).arrAt_eq_of_after_last 10 (pt 24) (by decide +kernel) _ fun j => ?_
  blk_simp
  dsimp only [dats]

end Cert.KernelIdeal.Run

end
-- ==== Proof.KernelIdeal.Tile.lean ====
module

public import proofs.«01_k».proof.Proof.KernelIdeal.Words
public import Idealize.ShloMosaic.Lib.ValueIdx
public import Idealize.ShloMosaic.Lib.MatmulPlain

@[expose] public section

set_option maxRecDepth 16384

noncomputable section

namespace Cert.KernelIdeal.Reads

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Hand Cert.KernelIdeal.Hand

/-! ## A tile of scores, read at an entry -/

/-- One group of 128 rows of a tile: its slice of the products, times the lane scales, times its rows' scales. -/
def group {F : FTy → Type} [FloatOps F] [Named F] (v8 : FVec F S1x128 .f32) (v12 : FVec F S1280x128 .f32) (w : FVec F S1x128 .f32)
    (off : Fin 2 → ℕ) (h : S1280x128.Slices off S128x128) : FVec F S128x128 .f32 :=
  mulf (mulf (extractStridedSlice S128x128 off v12 h) (broadcastTo S128x128 v8 broadcasts_S1x128_S128x128))
    (transpose S128x128 [1, 0] (broadcastTo S128x128
      (shapeCast S1x128 (shapeCast S1x128 w shapeCasts_S1x128_S1x128) shapeCasts_S1x128_S1x128) broadcasts_S1x128_S128x128)
      transposes_S128x128_p1_0_S128x128)

/-- A group of 128 rows lies inside a tile. -/
theorem slices_group (g : Fin 10) : S1280x128.Slices ![128 * g.val, 0] S128x128 := by
  revert g; decide

/-- The lane scales of the loaded score scales. -/
def laneScales {F : FTy → Type} [FloatOps F] [Named F] (x3 : Vec F S2x64 .f32) : FVec F S1x128 .f32 :=
  k0_pay337 (View.ld x3 (Rect.unit (s := S2x64) ![0, 0] S1x64.size inb_S2x64_S1x64_0_0))
    (View.ld x3 (Rect.unit (s := S2x64) ![1, 0] S1x64.size inb_S2x64_S1x64_1_0))

/-- The `g`-th row of scales of a tile. -/
def rowScales {F : FTy → Type} [FloatOps F] [Named F] (i : grid0.Coords) (x5 : Vec F S250x128 .f32) (g : Fin 10) : FVec F S1x128 .f32 :=
  View.ld x5 (Rect.unit (s := S250x128) (k0_off1 i (BitVec.ofNat 32 g.val)) S1x128.size (k0_off1_inb i g))

/-- A tile is its ten groups one under the other. -/
theorem tile_eq {F : FTy → Type} [FloatOps F] [Named F] (i : grid0.Coords) (x2 : Vec F S128x4096 .fp8e4m3) (x3 : Vec F S2x64 .f32)
    (x5 : Vec F S250x128 .f32) (x6 : Vec F S1280x4096 .fp8e4m3) (h) :
    tile i x2 x3 x5 x6 = concatenate S1280x128 0 (List.ofFn fun g : Fin 10 => (⟨S128x128,
      group (laneScales x3) (k0_pay338 x6 x2) (rowScales i x5 g) ![128 * g.val, 0] (slices_group g)⟩ : (s : Shape) × (s.Idx → Elt F .f32))) h := rfl

/-- A group read at an entry. -/
theorem group_apply (v8 : FVec Ideal S1x128 .f32) (v12 : FVec Ideal S1280x128 .f32) (w : FVec Ideal S1x128 .f32) (g : Fin 10)
    (p l : Fin 128) (q : Fin 1280) (hq : q.val = 128 * g.val + p.val) :
    group v8 v12 w ![128 * g.val, 0] (slices_group g) (ix2 p l) = (v12 (ix2 q l) * v8 (ix2 0 l)) * w (ix2 0 p) := by
  unfold group
  rw [mulf_apply, mulf_apply]
  congr 1
  · congr 1
    · refine extractStridedSlice_apply _ _ _ _ (ix2 q l) fun a => ?_
      fin_cases a
      · exact hq
      · exact (Nat.zero_add _).symm
    · refine broadcastTo_apply _ _ _ (ix2 0 l) fun a => ?_
      fin_cases a <;> rfl
  · refine (transpose_apply _ _ _ _ (ix2 l p) fun b => ?_).trans ?_
    · fin_cases b <;> rfl
    refine (broadcastTo_apply _ _ _ (ix2 0 p) fun a => ?_).trans ?_
    · fin_cases a <;> rfl
    refine (congrFun (shapeCast_self (s := S1x128) _ _) _).trans ?_
    exact congrFun (shapeCast_self (s := S1x128) _ _) _

/-- The products of a tile read at an entry. -/
theorem products_apply (x6 : Vec Ideal S1280x4096 .fp8e4m3) (x2 : Vec Ideal S128x4096 .fp8e4m3) (q : Fin 1280) (l : Fin 128) :
    k0_pay338 x6 x2 (ix2 q l) = ∑ k : Fin 4096, x6 (ix2 q k) * x2 (ix2 l k) := by
  unfold k0_pay338
  refine (Ideal.matmul_transposedRhs_apply none x6 _ _ q l).trans ?_
  rw [constant_apply, show Ideal.ofBits .f32 0x00000000#32 = 0 from by simp [Ideal.ofBits, Ideal.ieee], zero_add]
  refine Finset.sum_congr rfl fun k _ => ?_
  congr 1
  exact congrFun (shapeCast_self (s := S128x4096) _ _) _

/-- A lane's scale: its score scale times the named constant. -/
theorem laneScales_apply (x3 : Vec Ideal S2x64 .f32) (l : Fin 128) :
    laneScales x3 (ix2 0 l) = x3 (ix2 ⟨l.val / 64, by omega⟩ ⟨l.val % 64, Nat.mod_lt _ (by decide)⟩)
      * (((Real.log 2)⁻¹ * (16777216 / 11744051) : ℝ) : EReal) := by
  unfold laneScales k0_pay337
  rw [mulf_apply]
  congr 1
  · by_cases h : l.val < 64
    · refine (concatenate_pair_apply_left (s₁ := S1x64) (s₂ := S1x64) (t := S1x128) 1 _ _ _ (ix2 0 l) rfl (ix2 0 ⟨l.val, h⟩) fun b => ?_).trans ?_
      · fin_cases b <;> rfl
      · refine congrArg x3 (Shape.idx_ext₂ ?_ ?_)
        · show 0 + 1 * 0 = l.val / 64; omega
        · show 0 + 1 * l.val = l.val % 64; omega
    · refine (concatenate_pair_apply_right (s₁ := S1x64) (s₂ := S1x64) (t := S1x128) 1 _ _ _ (ix2 0 l) rfl rfl (ix2 0 ⟨l.val - 64, by omega⟩) (fun b hb => ?_) ?_).trans ?_
      · fin_cases b
        · rfl
        · exact absurd rfl hb
      · show l.val - 64 + 64 = l.val; omega
      · refine congrArg x3 (Shape.idx_ext₂ ?_ ?_)
        · show 1 + 1 * 0 = l.val / 64; omega
        · show 0 + 1 * (l.val - 64) = l.val % 64; omega

/-- Where a tile's `g`-th row of scales is. -/
theorem off1_eq (t : Fin cfg0.N) (g : Fin 10) : k0_off1 (grid0.coords t) (BitVec.ofNat 32 g.val) = ![10 * t.val + g.val, 0] := by
  have ht : t.val < 25 := Nat.lt_of_lt_of_eq t.isLt N_0
  have e0 : (grid0.coords t 0).val = t.val / 1 % 25 := Pipeline.Grid.coords_val t 0 (by decide) rfl
  have e : (grid0.coords t 0).val = t.val := by omega
  have hg := g.isLt
  funext a
  fin_cases a
  · show BitVec.toNat (Scalar.indexCast (Scalar.addi (Scalar.muli (BitVec.ofNat 32 (grid0.coords t 0).val) 10#32) (BitVec.ofNat 32 g.val))) = 10 * t.val + g.val
    rw [e]
    exact (by decide +kernel : ∀ (n : Fin 25) (g : Fin 10), BitVec.toNat (Scalar.indexCast (Scalar.addi (Scalar.muli (BitVec.ofNat 32 n.val) 10#32)
      (BitVec.ofNat 32 g.val))) = 10 * n.val + g.val) ⟨t.val, ht⟩ g
  · rfl

/-- A tile read at an entry. -/
theorem tile_apply (t : Fin cfg0.N) (x2 : Vec Ideal S128x4096 .fp8e4m3) (x3 : Vec Ideal S2x64 .f32)
    (x5 : Vec Ideal S250x128 .f32) (x6 : Vec Ideal S1280x4096 .fp8e4m3) (q : Fin 1280) (l : Fin 128) (r : Fin 250) (hr : r.val = 10 * t.val + q.val / 128) :
    tile (grid0.coords t) x2 x3 x5 x6 (ix2 q l)
      = ((∑ k : Fin 4096, x6 (ix2 q k) * x2 (ix2 l k))
          * (x3 (ix2 ⟨l.val / 64, by omega⟩ ⟨l.val % 64, Nat.mod_lt _ (by decide)⟩) * (((Real.log 2)⁻¹ * (16777216 / 11744051) : ℝ) : EReal)))
        * x5 (ix2 r ⟨q.val % 128, Nat.mod_lt _ (by decide)⟩) := by
  have hq := q.isLt
  have hg : q.val / 128 < 10 := by omega
  rw [tile_eq _ _ _ _ _ concatenates_S128x128_S128x128_S128x128_S128x128_S128x128_S128x128_S128x128_S128x128_S128x128_S128x128_S1280x128_d0]
  refine (concatenate_ofFn_apply (t := S1280x128) (s₁ := S128x128) 0 _ _ rfl 128 rfl (ix2 q l) ⟨q.val / 128, hg⟩ rfl
    (ix2 ⟨q.val % 128, Nat.mod_lt _ (by decide)⟩ l) rfl fun b hb => ?_).trans ?_
  · fin_cases b
    · exact absurd rfl hb
    · rfl
  rw [group_apply _ _ _ ⟨q.val / 128, hg⟩ _ _ q (by show q.val = 128 * (q.val / 128) + q.val % 128; omega), products_apply, laneScales_apply]
  congr 1
  unfold rowScales
  refine congrArg x5 (Shape.idx_ext₂ ?_ ?_)
  · show k0_off1 (grid0.coords t) (BitVec.ofNat 32 (q.val / 128)) 0 + 1 * 0 = r.val
    have := off1_eq t ⟨q.val / 128, hg⟩
    dsimp only at this
    rw [this]; show 10 * t.val + q.val / 128 + 1 * 0 = r.val; omega
  · show k0_off1 (grid0.coords t) (BitVec.ofNat 32 (q.val / 128)) 1 + 1 * (q.val % 128) = q.val % 128
    have := off1_eq t ⟨q.val / 128, hg⟩
    dsimp only at this
    rw [this]; show 0 + 1 * (q.val % 128) = q.val % 128; omega

end Cert.KernelIdeal.Reads
-- ==== Proof.KernelIdeal.Reads.lean ====
module

public import proofs.«01_k».proof.Proof.KernelIdeal.Words
public import Idealize.ShloMosaic.Lib.ValueIdx
public import Idealize.ShloMosaic.Lib.MatmulPlain

@[expose] public section

set_option maxRecDepth 16384

noncomputable section

namespace Cert.KernelIdeal.Reads

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Hand
open Finset (univ)

/-! ## The running values and the draft column, read at an entry -/

/-- The word of minus infinity reads as the bottom. -/
theorem neg_inf : (FloatOps.ofBits .f32 0xFF800000#32 : Ideal .f32) = (⊥ : EReal) := by
  show Ideal.ofBits .f32 0xFF800000#32 = ⊥
  simp [Ideal.ofBits, Ideal.ieee]

/-- The word of zero reads as zero. -/
theorem zero_word : (Scalar.ofBits .f32 0x00000000#32 : Ideal .f32) = (0 : EReal) := by
  show Ideal.ofBits .f32 0x00000000#32 = 0
  simp [Ideal.ofBits, Ideal.ieee]

/-- The word of one half reads as one half. -/
theorem half_word : (Scalar.ofBits .f32 0x3F000000#32 : Ideal .f32) = ((1 / 2 : ℝ) : EReal) := by
  show Ideal.ofBits .f32 0x3F000000#32 = ((1 / 2 : ℝ) : EReal)
  simp [Ideal.ofBits, Ideal.ieee, -EReal.coe_mul]; norm_num

/-- The running maximum starts at a finite number. -/
theorem start_word : ∃ μ : ℝ, (Scalar.ofBits .f32 0xFE967699#32 : Ideal .f32) = (μ : EReal) :=
  ⟨_, rfl⟩

/-- A maximum folded from minus infinity is the supremum. -/
theorem fold_max {n : ℕ} (f : Fin n → EReal) : univ.fold max (FloatOps.ofBits .f32 0xFF800000#32 : Ideal .f32) f = univ.sup f := by
  rw [neg_inf]; rfl

/-- A vector laid out as one row. -/
theorem row_cast (x : S128.Idx → EReal) (h : S128.ShapeCasts S1x128) (l : Fin 128) : shapeCast S1x128 x h (ix2 0 l) = x (ix1 l) :=
  shapeCast_apply x h _ _ (by
    rw [Shape.rowMajor_val_one, Shape.rowMajor_val_two]
    show l.val = 0 * 128 + l.val
    omega)

/-- A vector laid out as one column. -/
theorem col_cast (x : S128.Idx → EReal) (h : S128.ShapeCasts S128x1) (r : Fin 128) : shapeCast S128x1 x h (ix2 r 0) = x (ix1 r) :=
  shapeCast_apply x h _ _ (by
    rw [Shape.rowMajor_val_one, Shape.rowMajor_val_two]
    show r.val = r.val * 1 + 0
    omega)

/-- Row `c` of the `i`-th group of eight rows of a tile. -/
def row8 (i : Fin 160) (c : Fin 8) : Fin 1280 := ⟨8 * i.val + c.val, by omega⟩

/-- A tile cut into groups of eight rows. -/
theorem grouped_apply (T : FVec Ideal S1280x128 .f32) (i : Fin 160) (c : Fin 8) (l : Fin 128) :
    k0_pay347 T (ix3 i c l) = T (ix2 (row8 i c) l) :=
  shapeCast_apply T _ _ _ (by
    rw [Shape.rowMajor_val_three, Shape.rowMajor_val_two]
    show (8 * i.val + c.val) * 128 + l.val = (i.val * 8 + c.val) * 128 + l.val
    omega)

/-- The running maximum after a tile. -/
theorem max_apply (T : FVec Ideal S1280x128 .f32) (M : FVec Ideal S8x128 .f32) (c : Fin 8) (l : Fin 128) :
    k0_pay348 T M (ix2 c l) = max (M (ix2 c l)) (univ.sup fun i : Fin 160 => T (ix2 (row8 i c) l)) := by
  unfold k0_pay348
  refine congrArg (max (M (ix2 c l))) ?_
  refine (Ideal.multiReduction_maximumf_single _ _ reduces_S160x8x128_S8x128 _ _ (ix2 c l)).trans ?_
  refine (fold_max _).trans (congrArg univ.sup (funext fun i => ?_))
  refine (congrArg (k0_pay347 T) (?_ : _ = ix3 i c l)).trans (grouped_apply T i c l)
  funext a; fin_cases a <;> rfl

/-- The stored running maximum after a tile. -/
theorem next_max (T : FVec Ideal S1280x128 .f32) (M : FVec Ideal S8x128 .f32) (c : Fin 8) (l : Fin 128) :
    k0_pay355 T M (ix2 c l) = max (M (ix2 c l)) (univ.sup fun i : Fin 160 => T (ix2 (row8 i c) l)) :=
  (congrFun (shapeCast_self (s := S8x128) _ _) _).trans (max_apply T M c l)

/-- The stored running sum after a tile. -/
theorem next_sum (T : FVec Ideal S1280x128 .f32) (M S : FVec Ideal S8x128 .f32) (c : Fin 8) (l : Fin 128) :
    k0_pay353 T M S (ix2 c l) = Ideal.exp2 (M (ix2 c l) - k0_pay355 T M (ix2 c l)) * S (ix2 c l)
      + ∑ i : Fin 160, Ideal.exp2 (T (ix2 (row8 i c) l) - k0_pay355 T M (ix2 c l)) := by
  have e : k0_pay355 T M = k0_pay348 T M := shapeCast_self (s := S8x128) _ _
  rw [e]
  unfold k0_pay353
  refine (congrFun (shapeCast_self (s := S8x128) _ _) _).trans ?_
  refine congrArg (Ideal.exp2 (M (ix2 c l) - k0_pay348 T M (ix2 c l)) * S (ix2 c l) + ·) ?_
  refine (Ideal.multiReduction_add_single _ _ reduces_S160x8x128_S8x128 _ _ (ix2 c l)).trans ?_
  refine Finset.sum_congr rfl fun i _ => ?_
  have hl : reduces_S160x8x128_S8x128.lift (ix2 c l) i = ix3 i c l := by funext a; fin_cases a <;> rfl
  refine (congrArg (k0_pay350 T M) hl).trans ?_
  refine congrArg Ideal.exp2 ?_
  refine congrArg₂ (fun a b : EReal => a - b) (grouped_apply T i c l) ?_
  refine (broadcastTo_apply _ _ _ (ix3 0 c l) fun a => ?_).trans ?_
  · fin_cases a <;> rfl
  · refine shapeCast_apply _ _ _ (ix2 c l) ?_
    rw [Shape.rowMajor_val_three, Shape.rowMajor_val_two]
    show c.val * 128 + l.val = (0 * 8 + c.val) * 128 + l.val
    omega

/-- The maximum of a lane over the eight rows. -/
theorem top_apply (M : FVec Ideal S8x128 .f32) (l : Fin 128) : k0_pay291 M (ix2 0 l) = univ.sup fun c : Fin 8 => M (ix2 c l) := by
  unfold k0_pay291
  refine (row_cast _ _ l).trans ?_
  refine (Ideal.multiReduction_maximumf_single _ _ reduces_S8x128_S128 _ _ (ix1 l)).trans ?_
  refine (fold_max _).trans (congrArg univ.sup (funext fun c => congrArg M (?_ : _ = ix2 c l)))
  funext a; fin_cases a <;> rfl

/-- The sum of a lane over the eight rows. -/
theorem total_apply (M S : FVec Ideal S8x128 .f32) (l : Fin 128) :
    k0_pay294 (F := Ideal) M S (ix2 0 l) = ∑ c : Fin 8, Ideal.exp2 (M (ix2 c l) - univ.sup fun c : Fin 8 => M (ix2 c l)) * S (ix2 c l) := by
  unfold k0_pay294
  refine (row_cast _ _ l).trans ?_
  refine (Ideal.multiReduction_add_single _ _ reduces_S8x128_S128 _ _ (ix1 l)).trans ?_
  refine Finset.sum_congr rfl fun c _ => ?_
  have hl : reduces_S8x128_S128.lift (ix1 l) c = ix2 c l := by funext a; fin_cases a <;> rfl
  refine (congrArg (mulf (k0_pay293 M) S) hl).trans ?_
  refine congrArg (fun a : EReal => Ideal.exp2 (M (ix2 c l) - a) * S (ix2 c l)) ?_
  refine (broadcastTo_apply _ _ _ (ix2 0 l) fun a => ?_).trans (top_apply M l)
  fin_cases a <;> rfl

/-- A token's marked lane: the comparison against one half is true exactly there. -/
theorem mark_apply (x0 : Vec Ideal S2x64 .i32) (b : Fin 2) (j p : Fin 64) (hp : x0 (ix2 b j) = BitVec.ofNat 32 p.val) (r l : Fin 128)
    (hr : r.val = 64 * b.val + j.val) :
    k0_pay297 (hotOf x0) (ix2 r l) = if l.val = 64 * b.val + p.val then 1#1 else 0#1 := by
  have e : hotOf (F := Ideal) x0 (ix2 r l) = FloatOps.sitofp (F := Ideal) .f32 ((IntOp.cmpi .eq (BitVec.ofNat 32 l.val)
      (IntOp.addi (BitVec.ofNat 32 p.val) (BitVec.ofNat 32 (64 * b.val)))).setWidth 32) := by
    unfold hotOf hotRow
    refine (congrFun (shapeCast_self (s := S1x128) _ _) _).trans ?_
    have e1 : x0 (ix2 ⟨r.val / 64, by omega⟩ ⟨r.val % 64, Nat.mod_lt _ (by decide)⟩) = BitVec.ofNat 32 p.val := by
      rw [← hp]; exact congrArg x0 (Shape.idx_ext₂ (by show r.val / 64 = b.val; omega) (by show r.val % 64 = j.val; omega))
    have e2 : r.val / 64 = b.val := by omega
    show FloatOps.sitofp (F := Ideal) .f32 ((IntOp.cmpi .eq (iota .tc S1x128 32 [1] iota_S1x128_d1_w32 (ix2 0 l))
      (IntOp.addi (x0 (ix2 ⟨r.val / 64, by omega⟩ ⟨r.val % 64, Nat.mod_lt _ (by decide)⟩)) (BitVec.ofNat 32 (64 * (r.val / 64))))).setWidth 32) = _
    rw [e1, e2, iota_single_apply]
  have ew : IntOp.cmpi .eq (BitVec.ofNat 32 l.val) (IntOp.addi (BitVec.ofNat 32 p.val) (BitVec.ofNat 32 (64 * b.val)))
      = if l.val = 64 * b.val + p.val then 1#1 else 0#1 := by
    have hiff : BitVec.ofNat 32 l.val = IntOp.addi (BitVec.ofNat 32 p.val) (BitVec.ofNat 32 (64 * b.val)) ↔ l.val = 64 * b.val + p.val := by
      show BitVec.ofNat 32 l.val = BitVec.ofNat 32 p.val + BitVec.ofNat 32 (64 * b.val) ↔ _
      rw [← BitVec.toNat_inj, BitVec.toNat_add, BitVec.toNat_ofNat, BitVec.toNat_ofNat, BitVec.toNat_ofNat]
      omega
    show BitVec.ofBool (BitVec.ofNat 32 l.val == IntOp.addi (BitVec.ofNat 32 p.val) (BitVec.ofNat 32 (64 * b.val))) = _
    by_cases h : l.val = 64 * b.val + p.val
    · rw [if_pos h, beq_iff_eq.mpr (hiff.mpr h)]; rfl
    · rw [if_neg h, beq_eq_false_iff_ne.mpr (fun q => h (hiff.mp q))]; rfl
  unfold k0_pay297
  show FloatOps.cmpf .ogt (hotOf (F := Ideal) x0 (ix2 r l)) (Scalar.ofBits .f32 0x3F000000#32 : Ideal .f32) = _
  rw [e, ew, half_word]
  split
  · show BitVec.ofBool (decide ((((1 / 2 : ℝ) : EReal)) < ((((BitVec.setWidth 32 1#1).toInt : ℤ) : ℝ) : EReal))) = 1#1
    rw [decide_eq_true]; rfl
    rw [show (BitVec.setWidth 32 1#1).toInt = 1 from by decide]
    exact EReal.coe_lt_coe_iff.mpr (by norm_num)
  · show BitVec.ofBool (decide ((((1 / 2 : ℝ) : EReal)) < ((((BitVec.setWidth 32 0#1).toInt : ℤ) : ℝ) : EReal))) = 0#1
    rw [decide_eq_false]; rfl
    rw [show (BitVec.setWidth 32 0#1).toInt = 0 from by decide]
    rw [EReal.coe_lt_coe_iff]; norm_num

/-- The draft column at a token: the entry of the marked lane. -/
theorem dlp_apply (M S : FVec Ideal S8x128 .f32) (g : Vec Ideal S128x128 .f32) (x0 : Vec Ideal S2x64 .i32) (b : Fin 2) (j p : Fin 64)
    (hp : x0 (ix2 b j) = BitVec.ofNat 32 p.val) (r l : Fin 128) (hr : r.val = 64 * b.val + j.val) (hl : l.val = 64 * b.val + p.val) :
    dlpOf M S (hotOf x0) g (ix2 r 0)
      = ((g (ix2 r l) - univ.sup fun c : Fin 8 => M (ix2 c l))
          - Ideal.log (∑ c : Fin 8, Ideal.exp2 (M (ix2 c l) - univ.sup fun c : Fin 8 => M (ix2 c l)) * S (ix2 c l)) * (((Real.log 2)⁻¹ : ℝ) : EReal))
        * ((Real.log 2 : ℝ) : EReal) := by
  unfold dlpOf k0_pay299
  refine (col_cast _ _ r).trans ?_
  refine (Ideal.multiReduction_add_single _ _ reduces_S128x128_S128 _ _ (ix1 r)).trans ?_
  have hlift : ∀ k : Fin 128, reduces_S128x128_S128.lift (ix1 r) k = ix2 r k := fun k => by funext a; fin_cases a <;> rfl
  refine (Finset.sum_eq_single (M := EReal) l (fun k _ hk => ?_) (fun h => absurd (Finset.mem_univ _) h)).trans ?_
  · rw [hlift, select_apply, mark_apply x0 b j p hp r k hr, if_neg (fun h => hk (Fin.ext (h.trans hl.symm)))]
    exact zero_word
  · rw [hlift, select_apply, mark_apply x0 b j p hp r l hr, if_pos hl, select_one, mulf_apply]
    refine congrArg₂ (fun a b : EReal => a * b) ?_ ?_
    · unfold k0_pay298
      refine congrArg₂ (fun a b : EReal => a - b) (congrArg (fun a : EReal => g (ix2 r l) - a) ?_) ?_
      · refine (broadcastTo_apply _ _ _ (ix2 0 l) fun a => ?_).trans (top_apply M l)
        fin_cases a <;> rfl
      · refine (broadcastTo_apply _ _ _ (ix2 0 l) fun a => ?_).trans ?_
        · fin_cases a <;> rfl
        · unfold k0_pay295
          refine congrArg₂ (fun a b : EReal => a * b) (congrArg Ideal.log (total_apply M S l)) ?_
          exact IdealRules.named_const.ideal_named_scalar _ _ _ _ rfl
    · exact IdealRules.named_const.ideal_named_scalar _ _ _ _ rfl

/-- The diagonal below the root: lane equal to row, row not the root. -/
theorem diag_apply (i : Fin 64) (l : Fin 128) : k0_pay323 (ix2 i l) = if l.val = i.val ∧ 0 < i.val then 1#1 else 0#1 := by
  unfold k0_pay323
  show IntOp.andi (IntOp.cmpi .eq (iota .tc S64x128 32 [1] iota_S64x128_d1_w32 (ix2 i l)) (iota .tc S64x128 32 [0] iota_S64x128_d0_w32 (ix2 i l)))
    (IntOp.cmpi .sgt (iota .tc S64x128 32 [0] iota_S64x128_d0_w32 (ix2 i l)) 0#32) = _
  rw [iota_single_apply, iota_single_apply]
  exact (by decide +kernel : ∀ (i : Fin 64) (l : Fin 128), IntOp.andi (IntOp.cmpi .eq (BitVec.ofNat 32 l.val) (BitVec.ofNat 32 i.val))
    (IntOp.cmpi .sgt (BitVec.ofNat 32 i.val) 0#32) = if l.val = i.val ∧ 0 < i.val then 1#1 else 0#1) i l

/-- A column put on the diagonal and added up lane by lane: the column as a row, with zero at the root. -/
theorem diag_sum (D : S64x128.Idx → EReal) (d : Fin 64 → EReal) (hd : ∀ i l, D (ix2 i l) = d i) (h) (h1) (h2 : S128.ShapeCasts S1x128)
    (h3 : S1x128.Slices ![0, 0] S1x64) (j : Fin 64) :
    extractStridedSlice S1x64 ![0, 0] (shapeCast S1x128 (multiReduction (F := Ideal) (φ := .f32) .add [0] S128
      (select k0_pay323 D (broadcast S64x128 (Scalar.ofBits .f32 0x00000000#32 : Ideal .f32))) 0x00000000#32 reduces_S64x128_S128 h h1) h2) h3 (ix2 0 j)
      = if j.val = 0 then 0 else d j := by
  refine (extractStridedSlice_apply _ _ _ _ (ix2 0 ⟨j.val, by omega⟩) fun a => ?_).trans ?_
  · fin_cases a
    · rfl
    · exact (Nat.zero_add _).symm
  refine (row_cast _ _ _).trans ?_
  refine (Ideal.multiReduction_add_single _ _ reduces_S64x128_S128 _ _ (ix1 _)).trans ?_
  have hlift : ∀ k : Fin 64, reduces_S64x128_S128.lift (ix1 (⟨j.val, by omega⟩ : Fin 128)) k = ix2 k ⟨j.val, by omega⟩ := fun k => by
    funext a; fin_cases a <;> rfl
  refine (Finset.sum_eq_single (M := EReal) j (fun k _ hk => ?_) (fun h => absurd (Finset.mem_univ _) h)).trans ?_
  · rw [hlift, select_apply, diag_apply, if_neg (fun h => hk (Fin.ext h.1.symm))]
    exact zero_word
  · rw [hlift, select_apply, diag_apply]
    by_cases h0 : j.val = 0
    · rw [if_neg (fun h => by have := h.2; omega), if_pos h0]
      exact zero_word
    · rw [if_pos ⟨rfl, Nat.pos_of_ne_zero h0⟩, if_neg h0, select_one]
      exact hd _ _

/-- The result written from a column: its entries by token, with zero at the roots. -/
theorem out_apply (D : FVec Ideal S128x1 .f32) (b : Fin 2) (j : Fin 64) (r : Fin 128) (hr : r.val = 64 * b.val + j.val) :
    dlpOut D (ix2 b j) = if j.val = 0 then 0 else D (ix2 r 0) := by
  have hcol : ∀ (o : ℕ) (h : S128x1.Slices ![o, 0] S64x1) (ho : o + 64 ≤ 128) (i : Fin 64) (l : Fin 128),
      broadcastTo S64x128 (shapeCast S64x1 (extractStridedSlice S64x1 ![o, 0] D h) shapeCasts_S64x1_S64x1) broadcasts_S64x1_S64x128 (ix2 i l)
        = D (ix2 ⟨o + i.val, by omega⟩ 0) := fun o h ho i l => by
    refine (broadcastTo_apply _ _ _ (ix2 i 0) fun a => ?_).trans ?_
    · fin_cases a <;> rfl
    refine (congrFun (shapeCast_self (s := S64x1) _ _) _).trans ?_
    refine extractStridedSlice_apply _ _ _ _ _ fun a => ?_
    fin_cases a <;> rfl
  unfold dlpOut twoRows
  by_cases hb : b.val = 0
  · refine (if_pos hb).trans ?_
    unfold k0_pay326
    refine (diag_sum _ (fun i => D (ix2 ⟨0 + i.val, by omega⟩ 0)) (hcol 0 _ (by decide)) _ _ _ _ _).trans ?_
    refine congrArg (fun q => if j.val = 0 then (0 : EReal) else D q) (Shape.idx_ext₂ ?_ rfl)
    show 0 + j.val = r.val; omega
  · refine (if_neg hb).trans ?_
    unfold k0_pay332
    refine (diag_sum _ (fun i => D (ix2 ⟨64 + i.val, by omega⟩ 0)) (hcol 64 _ (by decide)) _ _ _ _ _).trans ?_
    refine congrArg (fun q => if j.val = 0 then (0 : EReal) else D q) (Shape.idx_ext₂ ?_ rfl)
    show 64 + j.val = r.val; omega

end Cert.KernelIdeal.Reads
-- ==== Proof.Algebra.lean ====
module

public import Idealize.ShloMosaic.PureOps.Ideal

@[expose] public section

set_option maxRecDepth 100000

noncomputable section

/-! # The running base-2 softmax against the two-pass log-softmax, over the extended reals -/

namespace Cert.Algebra

open Idealize.ShloMosaic

/-! ## The extended reals' pieces -/

/-- Anything minus the top is the bottom. -/
theorem sub_top' (x : EReal) : x - ⊤ = ⊥ := by rw [sub_eq_add_neg, EReal.neg_top, EReal.add_bot]

/-- The bottom minus anything is the bottom. -/
theorem bot_sub' (x : EReal) : (⊥ : EReal) - x = ⊥ := by rw [sub_eq_add_neg, EReal.bot_add]

/-- A finite sum of reals, read in the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A maximum of values below the top is below the top. -/
theorem sup_ne_top {ι : Type} (s : Finset ι) (g : ι → EReal) (h : ∀ i ∈ s, g i ≠ ⊤) : s.sup g ≠ ⊤ :=
  ((Finset.sup_lt_iff (by exact bot_lt_top)).mpr fun i hi => lt_top_iff_ne_top.mpr (h i hi)).ne

/-- An extended real that is neither end is a real. -/
theorem exists_real {x : EReal} (hb : x ≠ ⊥) (ht : x ≠ ⊤) : ∃ r : ℝ, x = (r : EReal) :=
  ⟨x.toReal, (EReal.coe_toReal ht hb).symm⟩

/-! ## The weights -/

/-- The base-2 weight of a score under a maximum; the bottom weighs nothing. -/
def w2 (x : EReal) (μ : ℝ) : ℝ := if x = ⊥ then 0 else Real.rpow 2 (x.toReal - μ)

/-- The natural weight of a score under a maximum. -/
def w1 (x : EReal) (μ : ℝ) : ℝ := if x = ⊥ then 0 else Real.exp (x.toReal - μ)

/-- The base-two exponential of a difference from a real, where the entry is no top. -/
theorem exp2_sub (x : EReal) (hx : x ≠ ⊤) (μ : ℝ) : Ideal.exp2 (x - (μ : EReal)) = (w2 x μ : EReal) := by
  unfold w2
  by_cases hb : x = ⊥
  · rw [if_pos hb, hb, bot_sub']; rfl
  · obtain ⟨r, rfl⟩ := exists_real hb hx
    rw [if_neg hb, ← EReal.coe_sub, EReal.toReal_coe]; rfl

/-- The exponential of a difference from a real, where the entry is no top. -/
theorem exp_sub (x : EReal) (hx : x ≠ ⊤) (μ : ℝ) : Ideal.exp (x - (μ : EReal)) = (w1 x μ : EReal) := by
  unfold w1
  by_cases hb : x = ⊥
  · rw [if_pos hb, hb, bot_sub']; rfl
  · obtain ⟨r, rfl⟩ := exists_real hb hx
    rw [if_neg hb, ← EReal.coe_sub, EReal.toReal_coe]; rfl

/-- Moving the maximum rescales the weights. -/
theorem w2_shift (x : EReal) (μ ν : ℝ) : Real.rpow 2 (μ - ν) * w2 x μ = w2 x ν := by
  unfold w2
  split
  · rw [mul_zero]
  · show (2 : ℝ) ^ (μ - ν) * (2 : ℝ) ^ (x.toReal - μ) = (2 : ℝ) ^ (x.toReal - ν)
    rw [← Real.rpow_add (by norm_num)]; congr 1; ring

/-- A weight is not negative. -/
theorem w1_nonneg (x : EReal) (μ : ℝ) : 0 ≤ w1 x μ := by
  unfold w1; split
  · exact le_rfl
  · exact (Real.exp_pos _).le

/-- The weight of an entry that is no bottom is positive. -/
theorem w1_pos (x : EReal) (hx : x ≠ ⊥) (μ : ℝ) : 0 < w1 x μ := by
  unfold w1; rw [if_neg hx]; exact Real.exp_pos _

/-- Changing the reference value scales a weight. -/
theorem w1_shift (x : EReal) (μ ν : ℝ) : w1 x μ = Real.exp (ν - μ) * w1 x ν := by
  unfold w1
  split
  · rw [mul_zero]
  · rw [← Real.exp_add]; congr 1; ring

/-- Scaling the scores by the reciprocal of `log 2` turns the base. -/
theorem w2_scaled (x : EReal) (hx : x ≠ ⊤) (μ : ℝ) : w2 (((Real.log 2)⁻¹ : ℝ) * x) μ = w1 x (μ * Real.log 2) := by
  have hl : (0 : ℝ) < Real.log 2 := Real.log_pos (by norm_num)
  by_cases hb : x = ⊥
  · subst hb
    rw [EReal.coe_mul_bot_of_pos (inv_pos.mpr hl)]
    unfold w2 w1; rw [if_pos rfl, if_pos rfl]
  · obtain ⟨r, rfl⟩ := exists_real hb hx
    unfold w2 w1
    rw [← EReal.coe_mul, if_neg (EReal.coe_ne_bot _), if_neg (EReal.coe_ne_bot _), EReal.toReal_coe, EReal.toReal_coe]
    show (2 : ℝ) ^ ((Real.log 2)⁻¹ * r - μ) = Real.exp (r - μ * Real.log 2)
    rw [Real.rpow_def_of_pos (by norm_num)]
    congr 1
    field_simp

/-! ## Sums over tiles -/

/-- A sum over `m` blocks of `n`. -/
theorem sum_blocks (m n : ℕ) (g : ℕ → ℝ) :
    ∑ v ∈ Finset.range (m * n), g v = ∑ k ∈ Finset.range m, ∑ r ∈ Finset.range n, g (n * k + r) := by
  induction m with
  | zero => simp
  | succ m ih =>
    rw [Nat.succ_mul, Finset.sum_range_add, ih, Finset.sum_range_succ]
    simp only [Nat.mul_comm]

/-- A sum over the vocabulary, by sublane, tile and row of the tile. -/
theorem sum_vocab (g : ℕ → ℝ) :
    ∑ c : Fin 8, ∑ k ∈ Finset.range 25, ∑ i : Fin 160, g (1280 * k + (8 * i.val + c.val)) = ∑ v : Fin 32000, g v.val := by
  rw [← Finset.sum_range (fun v => g v), show (32000 : ℕ) = 25 * 1280 from rfl, sum_blocks, Finset.sum_comm]
  refine Finset.sum_congr rfl fun k _ => ?_
  rw [show (1280 : ℕ) = 160 * 8 from rfl, sum_blocks, Finset.sum_comm, ← Finset.sum_range (fun i => ∑ c : Fin 8, g (160 * 8 * k + (8 * i + c.val)))]
  refine Finset.sum_congr rfl fun i _ => ?_
  rw [Finset.sum_range (fun c => g (160 * 8 * k + (8 * i + c)))]

/-! ## The running state -/

section Run
variable (z : ℕ → EReal) (M S : ℕ → Fin 8 → EReal) (μ₀ : ℝ)
  (hM0 : ∀ c, M 0 c = (μ₀ : EReal)) (hS0 : ∀ c, S 0 c = 0)
  (hM : ∀ n < 25, ∀ c, M (n + 1) c = max (M n c) (Finset.univ.sup fun i : Fin 160 => z (1280 * n + (8 * i.val + c.val))))
  (hS : ∀ n < 25, ∀ c, S (n + 1) c = Ideal.exp2 (M n c - M (n + 1) c) * S n c
      + ∑ i : Fin 160, Ideal.exp2 (z (1280 * n + (8 * i.val + c.val)) - M (n + 1) c))

include hM0 hS0 hM hS

/-- While no score is the top, the running maximum is a real and the running sum is the sum of the weights under it. -/
theorem run_real (hz : ∀ v < 32000, z v ≠ ⊤) (n : ℕ) (hn : n ≤ 25) (c : Fin 8) :
    ∃ μ : ℝ, M n c = (μ : EReal)
      ∧ S n c = ((∑ k ∈ Finset.range n, ∑ i : Fin 160, w2 (z (1280 * k + (8 * i.val + c.val))) μ : ℝ) : EReal) := by
  induction n with
  | zero => exact ⟨μ₀, hM0 c, by rw [hS0 c]; simp⟩
  | succ n ih =>
    obtain ⟨μ, hμ, hs⟩ := ih (by omega)
    have hv : ∀ i : Fin 160, z (1280 * n + (8 * i.val + c.val)) ≠ ⊤ := fun i => hz _ (by have := i.isLt; have := c.isLt; omega)
    have hstep := hM n (by omega) c
    obtain ⟨ν, hν⟩ : ∃ ν : ℝ, M (n + 1) c = (ν : EReal) := by
      refine exists_real ?_ ?_
      · rw [hstep, hμ]; exact ne_of_gt (lt_of_lt_of_le (EReal.bot_lt_coe μ) (le_max_left _ _))
      · rw [hstep, hμ]
        exact (max_lt (EReal.coe_lt_top μ) (lt_top_iff_ne_top.mpr (sup_ne_top _ _ fun i _ => hv i))).ne
    refine ⟨ν, hν, ?_⟩
    rw [hS n (by omega) c, hν, hs, hμ, ← EReal.coe_sub, Finset.sum_range_succ]
    simp only [exp2_sub _ (hv _)]
    rw [← coe_sum, show Ideal.exp2 ((μ - ν : ℝ) : EReal) = (Real.rpow 2 (μ - ν) : EReal) from rfl, ← EReal.coe_mul, ← EReal.coe_add]
    congr 2
    rw [Finset.mul_sum]
    refine Finset.sum_congr rfl fun k _ => ?_
    rw [Finset.mul_sum]
    exact Finset.sum_congr rfl fun i _ => w2_shift _ _ _

omit hM0 hS0 hS in
/-- The running maximum is at least every score seen. -/
theorem run_ge (n : ℕ) (hn : n ≤ 25) (c : Fin 8) (k : ℕ) (hk : k < n) (i : Fin 160) :
    z (1280 * k + (8 * i.val + c.val)) ≤ M n c := by
  induction n with
  | zero => omega
  | succ n ih =>
    rw [hM n (by omega) c]
    rcases Nat.lt_succ_iff_lt_or_eq.mp hk with h | rfl
    · exact (ih (by omega) h).trans (le_max_left _ _)
    · exact le_max_of_le_right (Finset.le_sup (f := fun i : Fin 160 => z (1280 * k + (8 * i.val + c.val))) (Finset.mem_univ i))

omit hM0 hS0 hS in
/-- The overall maximum is at least every score. -/
theorem top_ge (v : ℕ) (hv : v < 32000) : z v ≤ Finset.univ.sup (M 25) := by
  have h := run_ge z M hM 25 le_rfl ⟨v % 8, Nat.mod_lt _ (by norm_num)⟩ (v / 1280) (by omega) ⟨v % 1280 / 8, by omega⟩
  have e : 1280 * (v / 1280) + (8 * (v % 1280 / 8) + v % 8) = v := by omega
  rw [show 1280 * (v / 1280) + (8 * (⟨v % 1280 / 8, by omega⟩ : Fin 160).val + (⟨v % 8, Nat.mod_lt _ (by norm_num)⟩ : Fin 8).val) = v from e] at h
  exact h.trans (Finset.le_sup (f := M 25) (Finset.mem_univ _))

/-- While no score is the top: the overall maximum is a real, and the merged sum is the sum of all weights under it. -/
theorem merged_real (hz : ∀ v < 32000, z v ≠ ⊤) :
    ∃ μ : ℝ, Finset.univ.sup (M 25) = (μ : EReal)
      ∧ ∑ c : Fin 8, Ideal.exp2 (M 25 c - Finset.univ.sup (M 25)) * S 25 c = ((∑ v : Fin 32000, w2 (z v.val) μ : ℝ) : EReal) := by
  choose μ hμ hs using run_real z M S μ₀ hM0 hS0 hM hS hz 25 le_rfl
  obtain ⟨ν, hν⟩ : ∃ ν : ℝ, Finset.univ.sup (M 25) = (ν : EReal) := by
    refine exists_real ?_ (sup_ne_top _ _ fun c _ => by rw [hμ]; exact EReal.coe_ne_top _)
    refine ne_of_gt (lt_of_lt_of_le ?_ (Finset.le_sup (f := M 25) (Finset.mem_univ 0)))
    rw [hμ]; exact EReal.bot_lt_coe _
  refine ⟨ν, hν, ?_⟩
  rw [hν, ← sum_vocab fun v => w2 (z v) ν, coe_sum]
  refine Finset.sum_congr rfl fun c _ => ?_
  rw [hμ, hs, ← EReal.coe_sub, show Ideal.exp2 ((μ c - ν : ℝ) : EReal) = (Real.rpow 2 (μ c - ν) : EReal) from rfl, ← EReal.coe_mul]
  congr 1
  rw [Finset.mul_sum]
  refine Finset.sum_congr rfl fun k _ => ?_
  rw [Finset.mul_sum]
  exact Finset.sum_congr rfl fun i _ => w2_shift _ _ _

end Run

/-! ## The log-probability -/

/-- The two-pass log-softmax of a row at an entry. -/
def logp (f : Fin 32000 → EReal) (d : Fin 32000) : EReal :=
  (f d - Finset.univ.sup f) - Ideal.log (∑ v, Ideal.exp (f v - Finset.univ.sup f))

/-- Where the row has no top and the entry is no bottom: the entry less the logarithm of the exponentials' sum. -/
theorem logp_real (f : Fin 32000 → EReal) (hf : ∀ v, f v ≠ ⊤) (d : Fin 32000) (x : ℝ) (hd : f d = (x : EReal)) (μ : ℝ) :
    logp f d = ((x - μ - Real.log (∑ v, w1 (f v) μ) : ℝ) : EReal) := by
  unfold logp
  obtain ⟨ν, hν⟩ : ∃ ν : ℝ, Finset.univ.sup f = (ν : EReal) := by
    refine exists_real ?_ (sup_ne_top _ _ fun v _ => hf v)
    refine ne_of_gt (lt_of_lt_of_le ?_ (Finset.le_sup (f := f) (Finset.mem_univ d)))
    rw [hd]; exact EReal.bot_lt_coe _
  have hpos : ∀ ρ : ℝ, 0 < ∑ v, w1 (f v) ρ := fun ρ =>
    Finset.sum_pos' (fun v _ => w1_nonneg _ _) ⟨d, Finset.mem_univ d, w1_pos _ (by rw [hd]; exact EReal.coe_ne_bot _) _⟩
  rw [hν, hd]
  simp only [exp_sub _ (hf _)]
  rw [← coe_sum, show Ideal.log ((∑ v, w1 (f v) ν : ℝ) : EReal) = (Real.log (∑ v, w1 (f v) ν) : EReal) from if_neg (not_le.mpr (hpos ν)),
    ← EReal.coe_sub, ← EReal.coe_sub]
  congr 1
  have e : ∑ v, w1 (f v) ν = Real.exp (μ - ν) * ∑ v, w1 (f v) μ := by
    rw [Finset.mul_sum]; exact Finset.sum_congr rfl fun v _ => w1_shift _ _ _
  rw [e, Real.log_mul (Real.exp_pos _).ne' (hpos μ).ne', Real.log_exp]
  ring

/-- THE LOG-PROBABILITY: the running base-2 computation over the scaled scores is the two-pass log-softmax. -/
theorem logp_eq (f : Fin 32000 → EReal) (z : ℕ → EReal) (M S : ℕ → Fin 8 → EReal) (μ₀ : ℝ)
    (hz : ∀ v : Fin 32000, z v.val = ((Real.log 2)⁻¹ : ℝ) * f v)
    (hM0 : ∀ c, M 0 c = (μ₀ : EReal)) (hS0 : ∀ c, S 0 c = 0)
    (hM : ∀ n < 25, ∀ c, M (n + 1) c = max (M n c) (Finset.univ.sup fun i : Fin 160 => z (1280 * n + (8 * i.val + c.val))))
    (hS : ∀ n < 25, ∀ c, S (n + 1) c = Ideal.exp2 (M n c - M (n + 1) c) * S n c
      + ∑ i : Fin 160, Ideal.exp2 (z (1280 * n + (8 * i.val + c.val)) - M (n + 1) c)) (d : Fin 32000) :
    ((z d.val - Finset.univ.sup (M 25))
        - Ideal.log (∑ c : Fin 8, Ideal.exp2 (M 25 c - Finset.univ.sup (M 25)) * S 25 c) * (((Real.log 2)⁻¹ : ℝ) : EReal))
      * ((Real.log 2 : ℝ) : EReal) = logp f d := by
  have hl : (0 : ℝ) < Real.log 2 := Real.log_pos (by norm_num)
  by_cases ht : ∃ v, f v = ⊤
  · obtain ⟨v, hv⟩ := ht
    have h1 : Finset.univ.sup f = ⊤ := top_le_iff.mp (hv ▸ Finset.le_sup (f := f) (Finset.mem_univ v))
    have h2 : Finset.univ.sup (M 25) = ⊤ := by
      refine top_le_iff.mp (le_trans (le_of_eq ?_) (top_ge z M hM v.val v.isLt))
      rw [hz, hv, EReal.coe_mul_top_of_pos (inv_pos.mpr hl)]
    unfold logp
    rw [h1, h2, sub_top', sub_top', bot_sub', bot_sub', EReal.bot_mul_coe_of_pos hl]
  · have hf : ∀ v, f v ≠ ⊤ := fun v hv => ht ⟨v, hv⟩
    by_cases hb : f d = ⊥
    · unfold logp
      rw [hz, hb, EReal.coe_mul_bot_of_pos (inv_pos.mpr hl), bot_sub', bot_sub', bot_sub', bot_sub', EReal.bot_mul_coe_of_pos hl]
    · obtain ⟨x, hx⟩ := exists_real hb (hf d)
      have hzt : ∀ v < 32000, z v ≠ ⊤ := fun v hv => by
        rw [hz ⟨v, hv⟩]
        by_cases hvb : f ⟨v, hv⟩ = ⊥
        · rw [hvb, EReal.coe_mul_bot_of_pos (inv_pos.mpr hl)]; exact bot_ne_top
        · obtain ⟨r, hr⟩ := exists_real hvb (hf _)
          rw [hr, ← EReal.coe_mul]; exact EReal.coe_ne_top _
      obtain ⟨μ, hμ, hs⟩ := merged_real z M S μ₀ hM0 hS0 hM hS hzt
      have e : ∑ v : Fin 32000, w2 (z v.val) μ = ∑ v : Fin 32000, w1 (f v) (μ * Real.log 2) :=
        Finset.sum_congr rfl fun v _ => by rw [hz, w2_scaled _ (hf v)]
      have hpos : 0 < ∑ v, w1 (f v) (μ * Real.log 2) :=
        Finset.sum_pos' (fun v _ => w1_nonneg _ _) ⟨d, Finset.mem_univ d, w1_pos _ hb _⟩
      rw [logp_real f hf d x hx (μ * Real.log 2), hs, e, hμ, hz, hx,
        show Ideal.log ((∑ v, w1 (f v) (μ * Real.log 2) : ℝ) : EReal) = (Real.log (∑ v, w1 (f v) (μ * Real.log 2)) : EReal) from
          if_neg (not_le.mpr hpos),
        ← EReal.coe_mul, ← EReal.coe_mul, ← EReal.coe_sub, ← EReal.coe_sub, ← EReal.coe_mul]
      congr 1
      field_simp

end Cert.Algebra

end
-- ==== Proof.KernelIdeal.Blocks.lean ====
module

public import proofs.«01_k».proof.Proof.KernelIdeal.Run
public import proofs.«01_k».proof.Proof.KernelIdeal.Tile
public import proofs.«01_k».proof.Proof.KernelIdeal.Reads
public import proofs.«01_k».proof.Proof.Algebra
public import Idealize.ShloMosaic.Lib.Claim

@[expose] public section

set_option maxRecDepth 16384

noncomputable section

namespace Cert.KernelIdeal.Run

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Hand Cert.KernelIdeal.Reads

variable {F : FTy → Type} [FloatOps F] [Named F]
variable (m : (ℓ : Loc nD τ sig) → Buf (Elt F) ℓ) (ρ : Dev nD → PrngReg)

/-! ## The windows' blocks, as entries of the arguments -/

/-- The codes' array when the pipeline starts. -/
theorem V_v0 (c : Dev nD) : V m c main_v0 = shapeCast S128x4096 (m ((c : Thread nD τ).loc main_arg0)) shapeCasts_S2x64x4096_S128x4096 := by
  show StableHlo.after _ _ _ = _
  after_results
  rfl

/-- The row scales' array when the pipeline starts. -/
theorem V_v1 (c : Dev nD) : V m c main_v1 = shapeCast S250x128 (m ((c : Thread nD τ).loc main_arg5)) shapeCasts_S32000_S250x128 := by
  show StableHlo.after _ _ _ = _
  after_results
  rfl

/-- Every window but the table's has the one block; the table's moves with the point. -/
theorem index_eq : ∀ t : Fin cfg0.N, ((∀ a, win0_0.index t a = 0) ∧ (∀ a, win0_1.index t a = 0) ∧ (∀ a, win0_2.index t a = 0)
    ∧ (∀ a, win0_3.index t a = 0) ∧ (∀ a, win0_5.index t a = 0)) ∧ win0_6.index t 0 = t.val ∧ win0_6.index t 1 = 0 := by
  decide +kernel

/-- The parents' block is the parents' table. -/
theorem blk_0 (c : Dev nD) (t : Fin cfg0.N) (y : S2x64.Idx) : iblk m c 0 t y = m ((c : Thread nD τ).loc main_arg2) y := by
  refine Eq.trans ?_ (congrFun (V_main_arg2 m c) y)
  blk_simp [iblk]
  exact congrArg _ (Shape.idx_ext₂ (by blk_simp; rw [(index_eq t).1.1, Nat.zero_mul, Nat.zero_add]) (by blk_simp; rw [(index_eq t).1.1, Nat.zero_mul, Nat.zero_add]))

/-- The drafted words' block is their table. -/
theorem blk_1 (c : Dev nD) (t : Fin cfg0.N) (y : S2x64.Idx) : iblk m c 1 t y = m ((c : Thread nD τ).loc main_arg3) y := by
  refine Eq.trans ?_ (congrFun (V_main_arg3 m c) y)
  blk_simp [iblk]
  exact congrArg _ (Shape.idx_ext₂ (by blk_simp; rw [(index_eq t).1.2.1, Nat.zero_mul, Nat.zero_add]) (by blk_simp; rw [(index_eq t).1.2.1, Nat.zero_mul, Nat.zero_add]))

/-- The codes' block is the codes, the tokens flattened. -/
theorem blk_2 (c : Dev nD) (t : Fin cfg0.N) (b : Fin 2) (p : Fin 64) (r : Fin 128) (hr : r.val = 64 * b.val + p.val) (k : Fin 4096) :
    iblk m c 2 t (ix2 r k) = m ((c : Thread nD τ).loc main_arg0) (ix3 b p k) := by
  have e : V m c main_v0 (ix2 r k) = m ((c : Thread nD τ).loc main_arg0) (ix3 b p k) := by
    rw [V_v0]
    refine shapeCast_apply _ _ _ (ix3 b p k) ?_
    rw [Shape.rowMajor_val_three, Shape.rowMajor_val_two]
    show (b.val * 64 + p.val) * 4096 + k.val = r.val * 4096 + k.val
    omega
  refine Eq.trans ?_ e
  blk_simp [iblk]
  exact congrArg _ (Shape.idx_ext₂ (by blk_simp; rw [(index_eq t).1.2.2.1, Nat.zero_mul, Nat.zero_add]) (by blk_simp; rw [(index_eq t).1.2.2.1, Nat.zero_mul, Nat.zero_add]))

/-- The token scales' block is their table. -/
theorem blk_3 (c : Dev nD) (t : Fin cfg0.N) (y : S2x64.Idx) : iblk m c 3 t y = m ((c : Thread nD τ).loc main_arg1) y := by
  refine Eq.trans ?_ (congrFun (V_main_arg1 m c) y)
  blk_simp [iblk]
  exact congrArg _ (Shape.idx_ext₂ (by blk_simp; rw [(index_eq t).1.2.2.2.1, Nat.zero_mul, Nat.zero_add]) (by blk_simp; rw [(index_eq t).1.2.2.2.1, Nat.zero_mul, Nat.zero_add]))

/-- The row scales' block is the row scales, 128 to a row. -/
theorem blk_5 (c : Dev nD) (t : Fin cfg0.N) (v : Fin 32000) (r : Fin 250) (l : Fin 128) (hv : v.val = 128 * r.val + l.val) :
    iblk m c 5 t (ix2 r l) = m ((c : Thread nD τ).loc main_arg5) (ix1 v) := by
  have e : V m c main_v1 (ix2 r l) = m ((c : Thread nD τ).loc main_arg5) (ix1 v) := by
    rw [V_v1]
    refine shapeCast_apply _ _ _ (ix1 v) ?_
    rw [Shape.rowMajor_val_one, Shape.rowMajor_val_two]
    show v.val = r.val * 128 + l.val
    omega
  refine Eq.trans ?_ e
  blk_simp [iblk]
  exact congrArg _ (Shape.idx_ext₂ (by blk_simp; rw [(index_eq t).1.2.2.2.2, Nat.zero_mul, Nat.zero_add]) (by blk_simp; rw [(index_eq t).1.2.2.2.2, Nat.zero_mul, Nat.zero_add]))

/-- The table's block at a point is its 1280 rows from the point's. -/
theorem blk_6 (c : Dev nD) (t : Fin cfg0.N) (v : Fin 32000) (q : Fin 1280) (hv : v.val = 1280 * t.val + q.val) (k : Fin 4096) :
    iblk m c 6 t (ix2 q k) = m ((c : Thread nD τ).loc main_arg4) (ix2 v k) := by
  refine Eq.trans ?_ (congrFun (V_main_arg4 m c) (ix2 v k))
  have ht : t.val < 25 := Nat.lt_of_lt_of_eq t.isLt N_0
  have e0 : (grid0.coords t 0).val = t.val / 1 % 25 := Pipeline.Grid.coords_val t 0 (by decide) rfl
  blk_simp [iblk]
  refine congrArg _ (Shape.idx_ext₂ ?_ ?_)
  · blk_simp
    rw [(index_eq t).2.1]
    show t.val * 1280 + q.val = v.val
    omega
  · blk_simp
    rw [(index_eq t).2.2, Nat.zero_mul, Nat.zero_add]

end Cert.KernelIdeal.Run
-- ==== Proof.Answer.lean ====
module

public import proofs.«01_k».proof.Proof.Algebra
public import Idealize.ShloMosaic.Lib.IdealHost

@[expose] public section

noncomputable section

namespace Cert.Answer

open Idealize.ShloMosaic Idealize.ShloMosaic.ValueIdx

/-! ## What both programs compute, from the arguments' entries -/

/-- The scores of a token over the vocabulary, divided by the temperature: the codes' inner product with each row of the table, times
    the token's scale and the row's scale, times the reciprocal of the temperature. -/
def scores (codes : (⟨3, ![2, 64, 4096]⟩ : Shape).Idx → EReal) (scales : (⟨2, ![2, 64]⟩ : Shape).Idx → EReal)
    (table : (⟨2, ![32000, 4096]⟩ : Shape).Idx → EReal) (rows : (⟨1, ![32000]⟩ : Shape).Idx → EReal)
    (b : Fin 2) (p : Fin 64) (v : Fin 32000) : EReal :=
  (((∑ k : Fin 4096, codes (ix3 b p k) * table (ix2 v k)) * scales (ix2 b p)) * rows (ix1 v)) * ((16777216 / 11744051 : ℝ) : EReal)

/-- The log-probability of a token's drafted word `d` under its parent `p`; the root has none and reads zero. -/
def draftLogp (codes : (⟨3, ![2, 64, 4096]⟩ : Shape).Idx → EReal) (scales : (⟨2, ![2, 64]⟩ : Shape).Idx → EReal)
    (table : (⟨2, ![32000, 4096]⟩ : Shape).Idx → EReal) (rows : (⟨1, ![32000]⟩ : Shape).Idx → EReal)
    (b : Fin 2) (j p : Fin 64) (d : Fin 32000) : EReal :=
  if j.val = 0 then 0 else Cert.Algebra.logp (scores codes scales table rows b p) d

end Cert.Answer

end
-- ==== Proof.KernelIdeal.Result.lean ====
module

public import proofs.«01_k».proof.Proof.KernelIdeal.Blocks
public import proofs.«01_k».proof.Proof.Answer

@[expose] public section

set_option maxRecDepth 16384

noncomputable section

namespace Cert.KernelIdeal.Run

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Hand Cert.KernelIdeal.Reads
open Finset (univ)

variable (m : (ℓ : Loc nD τ sig) → Buf (Elt Ideal) ℓ) (ρ : Dev nD → PrngReg)

/-! ## The kernel's drafted log-probabilities, from the arguments -/

/-- The scores of a token, from the arguments. -/
abbrev scoresOf (c : Dev nD) (b : Fin 2) (p : Fin 64) : Fin 32000 → EReal :=
  Cert.Answer.scores (m ((c : Thread nD τ).loc main_arg0)) (m ((c : Thread nD τ).loc main_arg1))
    (m ((c : Thread nD τ).loc main_arg4)) (m ((c : Thread nD τ).loc main_arg5)) b p

/-- A lane of the score table. -/
def lane (c : Dev nD) (l : Fin 128) (v : ℕ) : EReal :=
  tileAt m c (v / 1280) (ix2 ⟨v % 1280, Nat.mod_lt _ (by decide)⟩ l)

/-- The kernel's order of the factors, and the answer's. -/
theorem regroup (P x w : EReal) (κ : ℝ) :
    (P * (x * (((Real.log 2)⁻¹ * κ : ℝ) : EReal))) * w = (((Real.log 2)⁻¹ : ℝ) : EReal) * (((P * x) * w) * (κ : EReal)) := by
  rw [EReal.coe_mul]; ac_rfl

/-- A lane holds its token's scores in units of the logarithm of two. -/
theorem lane_apply (c : Dev nD) (b : Fin 2) (p : Fin 64) (l : Fin 128) (hl : l.val = 64 * b.val + p.val) (v : Fin 32000) :
    lane m c l v.val = (((Real.log 2)⁻¹ : ℝ) : EReal) * scoresOf m c b p v := by
  have hv := v.isLt
  have ht : (pt (v.val / 1280)).val = v.val / 1280 := by show v.val / 1280 % 25 = v.val / 1280; omega
  unfold lane tileAt tileOf
  refine (tile_apply (pt (v.val / 1280)) _ _ _ _ ⟨v.val % 1280, Nat.mod_lt _ (by decide)⟩ l ⟨v.val / 128, by omega⟩
    (by rw [ht]; show v.val / 128 = 10 * (v.val / 1280) + v.val % 1280 / 128; omega)).trans ?_
  refine Eq.trans (congrArg₂ (fun a b : EReal => a * b) (congrArg₂ (fun a b : EReal => a * b)
    (Finset.sum_congr rfl fun k _ => (congrArg₂ (fun a b : EReal => a * b)
      (blk_6 m c _ v _ (by rw [ht]; show v.val = 1280 * (v.val / 1280) + v.val % 1280; omega) k)
      (blk_2 m c _ b p l hl k)).trans (mul_comm _ _))
    (congrArg (fun a : EReal => a * (((Real.log 2)⁻¹ * (16777216 / 11744051) : ℝ) : EReal))
      ((blk_3 m c _ _).trans (congrArg (m ((c : Thread nD τ).loc main_arg1)) (show _ = ix2 b p from
        Shape.idx_ext₂ (by show l.val / 64 = b.val; omega) (by show l.val % 64 = p.val; omega))))))
    (blk_5 m c _ v _ _ (by show v.val = 128 * (v.val / 128) + v.val % 1280 % 128; omega))) ?_
  exact regroup _ _ _ _

/-- The running values of a lane, at its token: the base-two statistics give the log-softmax. -/
theorem lane_logp (c : Dev nD) (b : Fin 2) (p : Fin 64) (l : Fin 128) (hl : l.val = 64 * b.val + p.val) (d : Fin 32000) :
    ((lane m c l d.val - univ.sup fun i : Fin 8 => (state m c 25).1 (ix2 i l))
        - Ideal.log (∑ i : Fin 8, Ideal.exp2 ((state m c 25).1 (ix2 i l) - univ.sup fun i : Fin 8 => (state m c 25).1 (ix2 i l))
            * (state m c 25).2.1 (ix2 i l)) * (((Real.log 2)⁻¹ : ℝ) : EReal))
      * ((Real.log 2 : ℝ) : EReal) = Cert.Algebra.logp (scoresOf m c b p) d := by
  obtain ⟨μ, hμ⟩ := start_word
  have hrow : ∀ n < 25, ∀ (i : Fin 160) (e : Fin 8), tileAt m c n (ix2 (row8 i e) l) = lane m c l (1280 * n + (8 * i.val + e.val)) := by
    intro n hn i e
    have hi := i.isLt
    have he := e.isLt
    unfold lane
    have h1 : (1280 * n + (8 * i.val + e.val)) / 1280 = n := by omega
    rw [h1]
    exact congrArg _ (Shape.idx_ext₂ (by show 8 * i.val + e.val = (1280 * n + (8 * i.val + e.val)) % 1280; omega) rfl)
  refine Cert.Algebra.logp_eq (scoresOf m c b p) (lane m c l) (fun n i => (state m c n).1 (ix2 i l)) (fun n i => (state m c n).2.1 (ix2 i l)) μ
    (fun v => lane_apply m c b p l hl v) (fun i => ?_) (fun i => ?_) (fun n hn i => ?_) (fun n hn i => ?_) d
  · show k0_pay2 (F := Ideal) (ix2 i l) = _
    unfold k0_pay2
    exact (congrFun (shapeCast_self (s := S8x128) _ _) _).trans hμ
  · show k0_pay3 (F := Ideal) (ix2 i l) = _
    unfold k0_pay3
    exact (congrFun (shapeCast_self (s := S8x128) _ _) _).trans zero_word
  · refine (next_max (tileAt m c n) (state m c n).1 i l).trans (congrArg (max _) (congrArg univ.sup (funext fun q => hrow n hn q i)))
  · refine (next_sum (tileAt m c n) (state m c n).1 (state m c n).2.1 i l).trans (congrArg₂ (fun a b : EReal => a + b) rfl ?_)
    exact Finset.sum_congr rfl fun q _ => congrArg (fun a : EReal => Ideal.exp2 (a - _)) (hrow n hn q i)

/-- The second result, at a token whose parent and drafted word are in range. -/
theorem res1_apply (c : Dev nD) (b : Fin 2) (j p : Fin 64) (d : Fin 32000)
    (hp : m ((c : Thread nD τ).loc main_arg2) (ix2 b j) = BitVec.ofNat 32 p.val)
    (hd : m ((c : Thread nD τ).loc main_arg3) (ix2 b j) = BitVec.ofNat 32 d.val) :
    res1 m c (ix2 b j) = Cert.Answer.draftLogp (m ((c : Thread nD τ).loc main_arg0)) (m ((c : Thread nD τ).loc main_arg1))
      (m ((c : Thread nD τ).loc main_arg4)) (m ((c : Thread nD τ).loc main_arg5)) b j p d := by
  have hg : rowsAll m c (ix2 ⟨64 * b.val + j.val, by omega⟩ ⟨64 * b.val + p.val, by omega⟩) = lane m c ⟨64 * b.val + p.val, by omega⟩ d.val := by
    have hw : iblk m c 1 (pt 0) (ix2 ⟨(64 * b.val + j.val) / 64, by omega⟩ ⟨(64 * b.val + j.val) % 64, Nat.mod_lt _ (by decide)⟩)
        = BitVec.ofNat 32 d.val :=
      ((blk_1 m c _ _).trans (congrArg (m ((c : Thread nD τ).loc main_arg3)) (show _ = ix2 b j from
        Shape.idx_ext₂ (by show (64 * b.val + j.val) / 64 = b.val; omega) (by show (64 * b.val + j.val) % 64 = j.val; omega)))).trans hd
    have hn : BitVec.toNat (w := 32) (iblk m c 1 (pt 0) (ix2 ⟨(64 * b.val + j.val) / 64, by omega⟩ ⟨(64 * b.val + j.val) % 64, Nat.mod_lt _ (by decide)⟩)) % 32000
        = d.val := by
      have hdl := d.isLt
      rw [hw, BitVec.toNat_ofNat]; omega
    refine Eq.trans ?_ (congrArg (lane m c ⟨64 * b.val + p.val, by omega⟩) hn)
    rfl
  refine (out_apply _ b j ⟨64 * b.val + j.val, by omega⟩ rfl).trans ?_
  unfold Cert.Answer.draftLogp
  split
  · rfl
  · refine (dlp_apply _ _ _ (iblk m c 0 (pt 0)) b j p ((blk_0 m c _ _).trans hp) ⟨64 * b.val + j.val, by omega⟩ ⟨64 * b.val + p.val, by omega⟩ rfl rfl).trans ?_
    rw [hg]
    exact lane_logp m c b p _ rfl d

/-- The kernel's run: the four results are there, the arguments are unchanged. -/
theorem run (hD : DraftsBelow m) : θ_run defs (onTc (τ := τ) (main (F := Ideal))) ⟨m, fun _ => 0, ρ⟩ (fun r => ∀ c : Dev nD,
      (r.2.mem ((c.tc : Thread nD τ).loc main_v2_0) = res0 m c
      ∧ r.2.mem ((c.tc : Thread nD τ).loc main_v2_1) = res1 m c
      ∧ r.2.mem ((c.tc : Thread nD τ).loc main_v2_2) = res2 m c
      ∧ r.2.mem ((c.tc : Thread nD τ).loc main_v2_3) = res3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨((h.1 c).1 7).trans (arr_7 m c), ((h.1 c).1 8).trans (arr_8 m c), ((h.1 c).1 9).trans (arr_9 m c),
        ((h.1 c).1 10).trans (arr_10 m c)⟩,
      ((h.1 c).2 main_arg0 (Pipeline.mem_restRefs_of main_arg0 (by decide) (by decide))).trans (V_main_arg0 m c),
      ((h.1 c).1 3).trans (((dats m 0 c).arrAt_in 3 rfl _).trans ((A_eq m c 3).trans (V_main_arg1 m c))),
      ((h.1 c).1 0).trans (((dats m 0 c).arrAt_in 0 rfl _).trans ((A_eq m c 0).trans (V_main_arg2 m c))),
      ((h.1 c).1 1).trans (((dats m 0 c).arrAt_in 1 rfl _).trans ((A_eq m c 1).trans (V_main_arg3 m c))),
      ((h.1 c).1 6).trans (((dats m 0 c).arrAt_in 6 rfl _).trans ((A_eq m c 6).trans (V_main_arg4 m c))),
      ((h.1 c).2 main_arg5 (Pipeline.mem_restRefs_of main_arg5 (by decide) (by decide))).trans (V_main_arg5 m c)⟩)
    (run_main m ρ hD)

end Cert.KernelIdeal.Run
-- ==== Proof.ReferenceIdeal.Value.lean ====
module

public import proofs.«01_k».proof.Proof.Gen.ReferenceIdeal.Frame
public import Idealize.ShloMosaic.Lib.Claim
public import Idealize.ShloMosaic.Lib.ValueIdx

@[expose] public section

set_option maxRecDepth 100000

noncomputable section

namespace Cert.ReferenceIdeal.Value

open Idealize.ShloMosaic Idealize.ShloMosaic.TcCoe Idealize.ShloMosaic.Tactic Idealize.ShloMosaic.ValueIdx
open Idealize.SL Idealize.SL.Sem
open Cert.ReferenceIdeal Cert.ReferenceIdeal.Gen

variable {F : FTy → Type} [FloatOps F]

/-! ## The host's lines, as functions of what they read -/

/-- The scaled scores. -/
def scores (p : FVec F S128x32000 .f32) (xs : FVec F S2x64 .f32) (ws : FVec F S32000 .f32) : FVec F S2x64x32000 .f32 :=
  Host.divf
    (mulf (mulf (shapeCast S2x64x32000 p shapeCasts_S128x32000_S2x64x32000)
        (broadcastInDim S2x64x32000 ![0, 1, 2] bcast_S2x64x1_S2x64x32000_0_1_2
          (broadcastInDim S2x64x1 ![0, 1] bcast_S2x64_S2x64x1_0_1 xs)))
      (broadcastInDim S2x64x32000 ![0, 1, 2] bcast_S1x1x32000_S2x64x32000_0_1_2
        (broadcastInDim S1x1x32000 ![2] bcast_S32000_S1x1x32000_2 ws)))
    (broadcastInDim S2x64x32000 ![] bcast_S_S2x64x32000 (constant S_ .f32 0x3F333333#32))

/-- The row maxima. -/
def maxOf (z : FVec F S2x64x32000 .f32) : FVec F S2x64 .f32 :=
  maximumf (broadcastInDim S2x64 ![] bcast_S_S2x64 (constant S_ .f32 0xFF800000#32))
    (Host.reduce FloatOps.maximumf z (constant S_ .f32 0xFF800000#32) reducesTo_S2x64x32000_S2x64_d2 h_S_)

/-- The shifted scores. -/
def shiftOf (z : FVec F S2x64x32000 .f32) : FVec F S2x64x32000 .f32 :=
  subf z (broadcastInDim S2x64x32000 ![0, 1, 2] bcast_S2x64x1_S2x64x32000_0_1_2
    (broadcastInDim S2x64x1 ![0, 1] bcast_S2x64_S2x64x1_0_1 (maxOf z)))

/-- The log-softmax. -/
def logpOf (z : FVec F S2x64x32000 .f32) : FVec F S2x64x32000 .f32 :=
  subf (shiftOf z) (broadcastInDim S2x64x32000 ![0, 1, 2] bcast_S2x64x1_S2x64x32000_0_1_2
    (Host.log (broadcastInDim S2x64x1 ![0, 1] bcast_S2x64_S2x64x1_0_1
      (Host.reduceAdd (Host.exp (shiftOf z)) (constant S_ .f32 0x00000000#32) reducesTo_S2x64x32000_S2x64_d2 h_S_))))

/-- The lines that scale the product leave the scores. -/
theorem read_scores (W : Valuation τ sig (Elt F)) :
    StableHlo.after hostOps1 W (Proc.devRef .tc main_v10)
      = scores (W (Proc.devRef .tc main_v1)) (W (Proc.devRef .tc main_arg1)) (W (Proc.devRef .tc main_arg5)) := by
  after_results
  rfl

/-- The lines of the log-softmax leave it. -/
theorem read_logp (W : Valuation τ sig (Elt F)) :
    StableHlo.after hostOps1_1 W (Proc.devRef .tc main_v11) = logpOf (W (Proc.devRef .tc main_v10)) := by
  after_results
  simp only [StableHlo.TRef.ofBuf_toBuf]
  rfl

/-- The start indices of the gather: batch, parent and drafted word, a negative one counted from the end. -/
def startsOf (par dt : IVec S2x64 32) : IVec S2x64x3 32 :=
  concatenate S2x64x3 2
    [⟨S2x64x1, broadcastInDim S2x64x1 ![0, 1] bcast_S2x64_S2x64x1_0_1
        (broadcastInDim S2x64 ![0, 1] bcast_S2x1_S2x64_0_1
          (select (cmpi .slt (broadcastInDim S2x1 ![0] bcast_S2_S2x1_0 (iotaInDim S2 32 0)) (broadcastInDim S2x1 ![] bcast_S_S2x1 (constantI S_ 32 0#32)))
            (addi (broadcastInDim S2x1 ![0] bcast_S2_S2x1_0 (iotaInDim S2 32 0)) (broadcastInDim S2x1 ![] bcast_S_S2x1 (constantI S_ 32 2#32)))
            (broadcastInDim S2x1 ![0] bcast_S2_S2x1_0 (iotaInDim S2 32 0))))⟩,
      ⟨S2x64x1, broadcastInDim S2x64x1 ![0, 1] bcast_S2x64_S2x64x1_0_1
        (select (cmpi .slt par (broadcastInDim S2x64 ![] bcast_S_S2x64 (constantI S_ 32 0#32)))
          (addi par (broadcastInDim S2x64 ![] bcast_S_S2x64 (constantI S_ 32 64#32))) par)⟩,
      ⟨S2x64x1, broadcastInDim S2x64x1 ![0, 1] bcast_S2x64_S2x64x1_0_1
        (select (cmpi .slt dt (broadcastInDim S2x64 ![] bcast_S_S2x64 (constantI S_ 32 0#32)))
          (addi dt (broadcastInDim S2x64 ![] bcast_S_S2x64 (constantI S_ 32 32000#32))) dt)⟩]
    concatenates_S2x64x1_S2x64x1_S2x64x1_S2x64x3_d2

/-- The drafted words' log-probabilities under their parents' distributions. -/
def dlpOf (logp : FVec F S2x64x32000 .f32) (par dt : IVec S2x64 32) : FVec F S2x64 .f32 :=
  Host.gather gather_S2x64x32000_S2x64x3_S2x64_n_012_n_n_012_2_111 logp (startsOf par dt)

/-- Marks the root's column. -/
def rootMask : IVec S1x64 1 :=
  broadcastInDim S1x64 ![1] bcast_S64_S1x64_1 (cmpi .eq (iotaInDim S64 32 0) (broadcastInDim S64 ![] bcast_S_S64 (constantI S_ 32 0#32)))

/-- A table with zero in the root's column. -/
def rootZero (x : FVec F S2x64 .f32) : FVec F S2x64 .f32 :=
  select (broadcastInDim S2x64 ![0, 1] bcast_S1x64_S2x64_0_1 rootMask)
    (broadcastInDim S2x64 ![] bcast_S_S2x64 (constant S_ .f32 0x00000000#32)) x

/-- The gather's lines leave the drafted log-probabilities. -/
theorem read_dlp (W : Valuation τ sig (Elt F)) :
    StableHlo.after hostOps1_2 W (Proc.devRef .tc main_v42)
      = dlpOf (W (Proc.devRef .tc main_v11)) (W (Proc.devRef .tc main_arg2)) (W (Proc.devRef .tc main_arg3)) := by
  after_results
  rfl

/-- The comparison leaves the root's mask. -/
theorem read_root (W : Valuation τ sig (Elt F)) :
    StableHlo.after hostOps1_2 W (Proc.devRef .tc main_v19) = rootMask := by
  after_results
  rfl

/-- The constant's line leaves the zero. -/
theorem read_zero (W : Valuation τ sig (Elt F)) :
    StableHlo.after hostOps1_4 W (Proc.devRef .tc main_cst_9) = constant S_ .f32 0x00000000#32 := by
  after_results

/-- The selection leaves the root's column zero. -/
theorem read_where (W : Valuation τ sig (Elt F)) :
    StableHlo.after hostOps1_5 W (Proc.devRef .tc main_v50)
      = select (broadcastInDim S2x64 ![0, 1] bcast_S1x64_S2x64_0_1 (W (Proc.devRef .tc main_v19) : IVec S1x64 1))
        (broadcastInDim S2x64 ![] bcast_S_S2x64 (W (Proc.devRef .tc main_cst_9) : FVec F S_ .f32)) (W (Proc.devRef .tc main_v42)) := by
  after_results
  simp only [StableHlo.TRef.ofBuf_toBuf]
  rfl

/-- These lines do not write the buffer. -/
theorem keep0_arg2 (W : Valuation τ sig (Elt F)) :
    StableHlo.after hostOps1 W (Proc.devRef .tc main_arg2) = W (Proc.devRef .tc main_arg2) := by after_results
/-- These lines do not write the buffer. -/
theorem keep0_arg3 (W : Valuation τ sig (Elt F)) :
    StableHlo.after hostOps1 W (Proc.devRef .tc main_arg3) = W (Proc.devRef .tc main_arg3) := by after_results
/-- These lines do not write the buffer. -/
theorem keep1_arg2 (W : Valuation τ sig (Elt F)) :
    StableHlo.after hostOps1_1 W (Proc.devRef .tc main_arg2) = W (Proc.devRef .tc main_arg2) := by after_results
/-- These lines do not write the buffer. -/
theorem keep1_arg3 (W : Valuation τ sig (Elt F)) :
    StableHlo.after hostOps1_1 W (Proc.devRef .tc main_arg3) = W (Proc.devRef .tc main_arg3) := by after_results
/-- These lines do not write the buffer. -/
theorem keep3_v42 (W : Valuation τ sig (Elt F)) :
    StableHlo.after hostOps1_3 W (Proc.devRef .tc main_v42) = W (Proc.devRef .tc main_v42) := by after_results
/-- These lines do not write the buffer. -/
theorem keep3_v19 (W : Valuation τ sig (Elt F)) :
    StableHlo.after hostOps1_3 W (Proc.devRef .tc main_v19) = W (Proc.devRef .tc main_v19) := by after_results
/-- These lines do not write the buffer. -/
theorem keep4_v42 (W : Valuation τ sig (Elt F)) :
    StableHlo.after hostOps1_4 W (Proc.devRef .tc main_v42) = W (Proc.devRef .tc main_v42) := by after_results
/-- These lines do not write the buffer. -/
theorem keep4_v19 (W : Valuation τ sig (Elt F)) :
    StableHlo.after hostOps1_4 W (Proc.devRef .tc main_v19) = W (Proc.devRef .tc main_v19) := by after_results

/-- Two lists of lines run one after the other. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The lines after the drafted words' log-probabilities leave them. -/
theorem keep_tail (W : Valuation τ sig (Elt F)) :
    StableHlo.after (List.flatten [hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29]) W
      (Proc.devRef .tc main_v50) = W (Proc.devRef .tc main_v50) :=
  StableHlo.after_of_forall_not_mem (b := Proc.devRef .tc main_v50) _ _ (List.forall_iff_forall_mem.mp (by
    simp only [hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The lines after the product leave the drafted words' log-probabilities. -/
theorem read_draft_logp (W : Valuation τ sig (Elt F)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29]) W
      (Proc.devRef .tc main_v50)
      = rootZero (dlpOf (logpOf (scores (W (Proc.devRef .tc main_v1)) (W (Proc.devRef .tc main_arg1)) (W (Proc.devRef .tc main_arg5))))
          (W (Proc.devRef .tc main_arg2)) (W (Proc.devRef .tc main_arg3))) := by
  rw [List.flatten_cons, after_append, List.flatten_cons, after_append, List.flatten_cons, after_append,
    List.flatten_cons, after_append, List.flatten_cons, after_append, List.flatten_cons, after_append, keep_tail,
    read_where, read_zero, keep4_v19, keep3_v19, read_root, keep4_v42, keep3_v42, read_dlp, read_logp, keep1_arg2, keep1_arg3,
    read_scores, keep0_arg2, keep0_arg3]
  rfl

end Cert.ReferenceIdeal.Value
-- ==== Proof.ReferenceIdeal.Index.lean ====
module

public import proofs.«01_k».proof.Proof.ReferenceIdeal.Value
public import proofs.«01_k».proof.Proof.Algebra
public import Idealize.ShloMosaic.Lib.IdealHost
public import Idealize.ShloMosaic.Lib.KernelVsHost

@[expose] public section

set_option maxRecDepth 100000

noncomputable section

namespace Cert.ReferenceIdeal.Index

open Idealize.ShloMosaic Idealize.ShloMosaic.TcCoe Idealize.ShloMosaic.Tactic Idealize.ShloMosaic.ValueIdx
open Idealize.SL Idealize.SL.Sem
open Cert.ReferenceIdeal Cert.ReferenceIdeal.Gen Cert.ReferenceIdeal.Value
open Finset (univ)

/-! ## The reference's host lines, read at an index -/

/-- The word of minus infinity reads as the bottom. -/
theorem neg_inf : (FloatOps.ofBits .f32 0xFF800000#32 : Ideal .f32) = (⊥ : EReal) := by
  show Ideal.ofBits .f32 0xFF800000#32 = ⊥
  simp [Ideal.ofBits, Ideal.ieee]

/-- A maximum folded from minus infinity is the supremum. -/
theorem fold_max {n : ℕ} (f : Fin n → EReal) : univ.fold max (FloatOps.ofBits .f32 0xFF800000#32 : Ideal .f32) f = univ.sup f := by
  rw [neg_inf]; rfl

/-- The word of zero reads as zero. -/
theorem zero_word : (FloatOps.ofBits .f32 0x00000000#32 : Ideal .f32) = (0 : EReal) := by
  show Ideal.ofBits .f32 0x00000000#32 = 0
  simp [Ideal.ofBits, Ideal.ieee]

/-- The temperature the reference divides by. -/
theorem temperature : (FloatOps.ofBits .f32 0x3F333333#32 : Ideal .f32) = ((11744051 / 16777216 : ℝ) : EReal) := by
  show Ideal.ofBits .f32 0x3F333333#32 = ((11744051 / 16777216 : ℝ) : EReal)
  simp [Ideal.ofBits, Ideal.ieee, -EReal.coe_mul]; norm_num

/-- The row of the flattened batch a token has. -/
def flat (b : Fin 2) (p : Fin 64) : Fin 128 := ⟨64 * b.val + p.val, by omega⟩

/-- A table of the tokens, repeated along the words, read at a word. -/
theorem spread_apply (x : S2x64.Idx → EReal) (b : Fin 2) (p : Fin 64) (v : Fin 32000) :
    broadcastInDim S2x64x32000 ![0, 1, 2] bcast_S2x64x1_S2x64x32000_0_1_2
      (broadcastInDim S2x64x1 ![0, 1] bcast_S2x64_S2x64x1_0_1 x) (ix3 b p v) = x (ix2 b p) := by
  refine (broadcastInDim_apply _ _ _ _ (ix3 b p 0) fun a => ?_).trans ?_
  · fin_cases a <;> rfl
  refine broadcastInDim_apply _ _ _ _ (ix2 b p) fun a => ?_
  fin_cases a <;> rfl

/-- The scaled score of a token and a word. -/
theorem scores_apply (P : FVec Ideal S128x32000 .f32) (xs : FVec Ideal S2x64 .f32) (ws : FVec Ideal S32000 .f32) (b : Fin 2) (p : Fin 64)
    (v : Fin 32000) :
    scores P xs ws (ix3 b p v) = ((P (ix2 (flat b p) v) * xs (ix2 b p)) * ws (ix1 v)) * ((16777216 / 11744051 : ℝ) : EReal) := by
  have h : scores P xs ws (ix3 b p v)
      = Ideal.div ((P (ix2 (flat b p) v) * xs (ix2 b p)) * ws (ix1 v)) (FloatOps.ofBits .f32 0x3F333333#32 : Ideal .f32) := by
    refine congrArg (fun a : EReal => Ideal.div a (FloatOps.ofBits .f32 0x3F333333#32 : Ideal .f32)) ?_
    refine congrArg₂ (fun a b : EReal => a * b) (congrArg₂ (fun a b : EReal => a * b) ?_ (spread_apply xs b p v)) ?_
    · refine shapeCast_apply _ _ _ (ix2 (flat b p) v) ?_
      rw [Shape.rowMajor_val_three, Shape.rowMajor_val_two]
      show (64 * b.val + p.val) * 32000 + v.val = (b.val * 64 + p.val) * 32000 + v.val
      omega
    · refine (broadcastInDim_apply _ _ _ _ (ix3 0 0 v) fun a => ?_).trans ?_
      · fin_cases a <;> rfl
      refine broadcastInDim_apply _ _ _ _ (ix1 v) fun a => ?_
      fin_cases a <;> rfl
  rw [h, temperature, Ideal.div_coe (by norm_num)]
  norm_num

/-- The reduced axis, as the single-axis fact. -/
theorem reduces_words : S2x64x32000.Reduces [2] S2x64 := by decide

/-- An entry of a reduced row, by its word. -/
theorem lift_words (b : Fin 2) (p : Fin 64) (v : Fin 32000) : reduces_words.lift (ix2 b p) v = ix3 b p v := by
  funext a; fin_cases a <;> rfl

/-- A maximum over one axis, from minus infinity, is the supremum along it. -/
theorem max_single {s t u : Shape} {a : Fin s.rank} (x : FVec Ideal s .f32) (h : s.ReducesTo [a] t) (hu : 0 < u.numel)
    (h' : s.Reduces [a] t) (j : t.Idx) :
    Host.reduce FloatOps.maximumf x (constant u .f32 0xFF800000#32) h hu j = univ.sup fun v : Fin (s.size a) => x (h'.lift j v) :=
  (congrFun (hostReduce_maximumf_eq_multiReduction x 0xFF800000#32 h hu h' (.inl rfl) rfl) j).trans
    ((Ideal.multiReduction_maximumf_single _ _ h' _ _ _).trans (fold_max _))

/-- A pointwise maximum, read at an index. -/
theorem max_pair {t : Shape} (x y : FVec Ideal t .f32) (j : t.Idx) : maximumf x y j = max (x j : EReal) (y j) := rfl

/-- A row's maximum is its supremum. -/
theorem max_apply (z : FVec Ideal S2x64x32000 .f32) (b : Fin 2) (p : Fin 64) :
    maxOf z (ix2 b p) = univ.sup fun v : Fin 32000 => z (ix3 b p v) := by
  have h := max_single z reducesTo_S2x64x32000_S2x64_d2 h_S_ reduces_words (ix2 b p)
  rw [show (fun v => z (reduces_words.lift (ix2 b p) v)) = fun v : Fin 32000 => z (ix3 b p v) from
    funext fun v => congrArg z (lift_words b p v)] at h
  unfold maxOf
  rw [max_pair, h]
  exact (congrArg (fun a : EReal => max a _) neg_inf).trans (max_eq_right bot_le)

/-- A row's log-softmax. -/
theorem logp_apply (z : FVec Ideal S2x64x32000 .f32) (b : Fin 2) (p : Fin 64) (v : Fin 32000) :
    logpOf z (ix3 b p v) = Cert.Algebra.logp (fun v => z (ix3 b p v)) v := by
  have hs : ∀ v : Fin 32000, shiftOf z (ix3 b p v) = z (ix3 b p v) - univ.sup fun v : Fin 32000 => z (ix3 b p v) := fun v =>
    congrArg (fun a : EReal => z (ix3 b p v) - a) ((spread_apply (maxOf z) b p v).trans (max_apply z b p))
  unfold Cert.Algebra.logp
  refine congrArg₂ (fun a b : EReal => a - b) (hs v) ?_
  refine (broadcastInDim_apply _ _ _ _ (ix3 b p 0) fun a => ?_).trans ?_
  · fin_cases a <;> rfl
  refine congrArg Ideal.log ?_
  refine (broadcastInDim_apply _ _ _ _ (ix2 b p) fun a => ?_).trans ?_
  · fin_cases a <;> rfl
  refine (Ideal.hostReduceAdd_single _ reduces_words _ _ (ix2 b p)).trans ?_
  refine (congrArg (fun a : EReal => a + _) zero_word).trans ((zero_add _).trans ?_)
  refine Finset.sum_congr rfl fun v _ => ?_
  refine (congrArg (Host.exp (shiftOf z)) (lift_words b p v)).trans ?_
  exact congrArg Ideal.exp (hs v)

/-- A word below the signed bound is not counted from the end. -/
theorem nonneg_word (n : ℕ) (hn : n < 2147483648) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, decide_eq_false_iff_not, BitVec.toInt_eq_toNat_of_lt (by rw [BitVec.toNat_ofNat]; omega)]
    show ¬ ((BitVec.ofNat 32 n).toNat : ℤ) < 0
    omega
  rw [this]; rfl

/-- The signed reading of such a word. -/
theorem nonneg_toInt (n : ℕ) (hn : n < 2147483648) : (BitVec.ofNat 32 n).toInt.toNat = n := by
  rw [BitVec.toInt_eq_toNat_of_lt (by rw [BitVec.toNat_ofNat]; omega), BitVec.toNat_ofNat, Int.toNat_natCast]
  omega

/-- Three columns side by side, read at each. -/
theorem columns_apply (x y z : IVec S2x64x1 32) (h : Shape.Concatenates [S2x64x1, S2x64x1, S2x64x1] S2x64x3 2) (b : Fin 2) (j : Fin 64) :
    concatenate S2x64x3 2 [⟨S2x64x1, x⟩, ⟨S2x64x1, y⟩, ⟨S2x64x1, z⟩] h (ix3 b j 0) = x (ix3 b j 0)
      ∧ concatenate S2x64x3 2 [⟨S2x64x1, x⟩, ⟨S2x64x1, y⟩, ⟨S2x64x1, z⟩] h (ix3 b j 1) = y (ix3 b j 0)
      ∧ concatenate S2x64x3 2 [⟨S2x64x1, x⟩, ⟨S2x64x1, y⟩, ⟨S2x64x1, z⟩] h (ix3 b j 2) = z (ix3 b j 0) := by
  have hd : ∀ (k : Fin 3) (a : Fin 3), a ≠ 2 → (ix3 (n0 := 2) (n1 := 64) (n2 := 1) b j 0 a).val = (ix3 (n0 := 2) (n1 := 64) (n2 := 3) b j k a).val := fun k a ha => by
    fin_cases a
    · rfl
    · rfl
    · exact absurd rfl ha
  refine ⟨?_, ?_, ?_⟩
  · exact concatenate_apply_piece (t := S2x64x3) 2 [⟨S2x64x1, x⟩, ⟨S2x64x1, y⟩, ⟨S2x64x1, z⟩] h (ix3 b j 0) 0
      (Nat.succ_pos _) S2x64x1 x rfl rfl 0 rfl (ix3 b j 0) (fun a ha => hd 0 a ha) rfl
  · exact concatenate_apply_piece (t := S2x64x3) 2 [⟨S2x64x1, x⟩, ⟨S2x64x1, y⟩, ⟨S2x64x1, z⟩] h (ix3 b j 1) 1
      (Nat.succ_lt_succ (Nat.succ_pos _)) S2x64x1 y rfl rfl 1 rfl (ix3 b j 0) (fun a ha => hd 1 a ha) rfl
  · exact concatenate_apply_piece (t := S2x64x3) 2 [⟨S2x64x1, x⟩, ⟨S2x64x1, y⟩, ⟨S2x64x1, z⟩] h (ix3 b j 2) 2
      (Nat.succ_lt_succ (Nat.succ_lt_succ (Nat.succ_pos _))) S2x64x1 z rfl rfl 2 rfl (ix3 b j 0) (fun a ha => hd 2 a ha) rfl

/-- The gather's start indices at a token: its batch, its parent and its drafted word. -/
theorem starts_apply (par dt : IVec S2x64 32) (b : Fin 2) (j p : Fin 64) (d : Fin 32000) (hp : par (ix2 b j) = BitVec.ofNat 32 p.val)
    (hd : dt (ix2 b j) = BitVec.ofNat 32 d.val) (k : Fin 3) :
    startsOf par dt (ix3 b j k) = BitVec.ofNat 32 (![b.val, p.val, d.val] k) := by
  have hcol : ∀ x : IVec S2x64 32, broadcastInDim S2x64x1 ![0, 1] bcast_S2x64_S2x64x1_0_1 x (ix3 b j 0) = x (ix2 b j) := fun x => by
    refine broadcastInDim_apply _ _ _ _ (ix2 b j) fun a => ?_
    fin_cases a <;> rfl
  have hn : ∀ n w : BitVec 32, IntOp.cmpi .slt n 0#32 = 0#1 → Scalar.select (IntOp.cmpi .slt n 0#32) (n + w) n = n := fun n w h => by
    rw [h]; rfl
  fin_cases k
  · refine ((columns_apply _ _ _ _ b j).1).trans ?_
    refine (hcol _).trans ?_
    refine (broadcastInDim_apply _ _ _ _ (ix2 b 0) fun a => ?_).trans ?_
    · fin_cases a <;> rfl
    have hi : broadcastInDim S2x1 ![0] bcast_S2_S2x1_0 (iotaInDim S2 32 0) (ix2 b 0) = BitVec.ofNat 32 b.val := by
      refine (broadcastInDim_apply _ _ _ _ (ix1 b) fun a => ?_).trans rfl
      fin_cases a; rfl
    refine Eq.trans ?_ (hn (BitVec.ofNat 32 b.val) 2#32 (nonneg_word _ (by omega)))
    rw [← hi]; rfl
  · refine ((columns_apply _ _ _ _ b j).2.1).trans ?_
    refine (hcol _).trans (Eq.trans ?_ (hn (BitVec.ofNat 32 p.val) 64#32 (nonneg_word _ (by omega))))
    rw [← hp]; rfl
  · refine ((columns_apply _ _ _ _ b j).2.2).trans ?_
    refine (hcol _).trans (Eq.trans ?_ (hn (BitVec.ofNat 32 d.val) 32000#32 (nonneg_word _ (by omega))))
    rw [← hd]; rfl

/-- The gather at a token whose parent and drafted word are in range. -/
theorem gather_apply (x : FVec Ideal S2x64x32000 .f32) (par dt : IVec S2x64 32) (b : Fin 2) (j p : Fin 64) (d : Fin 32000)
    (hp : par (ix2 b j) = BitVec.ofNat 32 p.val) (hd : dt (ix2 b j) = BitVec.ofNat 32 d.val) :
    dlpOf x par dt (ix2 b j) = x (ix3 b p d) := by
  unfold dlpOf Host.gather
  refine congrArg x (funext fun a => Fin.ext ?_)
  show GatherDims.start _ (ix2 b j) (startsOf par dt) a + GatherDims.batchCoord _ (ix2 b j) a + GatherDims.offCoord _ (ix2 b j) a = _
  have hmem : a ∈ ([0, 1, 2] : List (Fin 3)) := by fin_cases a <;> decide
  rw [GatherDims.batchCoord_eq_zero _ _ _ (fun h => absurd h (List.not_mem_nil)),
    GatherDims.offCoord_eq_zero _ _ _ (fun h => ((GatherDims.mem_sKept _ _).mp h).1 hmem)]
  simp only [Nat.add_zero]
  unfold GatherDims.start
  rw [dif_pos (show a ∈ gather_S2x64x32000_S2x64x3_S2x64_n_012_n_n_012_2_111.startIndexMap from hmem)]
  have hsi : gather_S2x64x32000_S2x64x3_S2x64_n_012_n_n_012_2_111.siIdx (ix2 b j)
      ⟨List.idxOf a gather_S2x64x32000_S2x64x3_S2x64_n_012_n_n_012_2_111.startIndexMap, List.idxOf_lt_length_iff.2 hmem⟩ = ix3 b j a := by
    funext k; refine Fin.ext ?_
    fin_cases k
    · rfl
    · rfl
    · fin_cases a <;> rfl
  rw [hsi, starts_apply par dt b j p d hp hd a]
  fin_cases a
  · show min (BitVec.ofNat 32 b.val).toInt.toNat (2 - 1) = b.val
    rw [nonneg_toInt _ (by omega)]; omega
  · show min (BitVec.ofNat 32 p.val).toInt.toNat (64 - 1) = p.val
    rw [nonneg_toInt _ (by omega)]; omega
  · show min (BitVec.ofNat 32 d.val).toInt.toNat (32000 - 1) = d.val
    rw [nonneg_toInt _ (by omega)]; omega

/-- The root's column is zero, the others are kept. -/
theorem root_apply (x : FVec Ideal S2x64 .f32) (b : Fin 2) (j : Fin 64) : rootZero x (ix2 b j) = if j.val = 0 then 0 else x (ix2 b j) := by
  unfold rootZero rootMask
  have hm : broadcastInDim S2x64 ![0, 1] bcast_S1x64_S2x64_0_1 (broadcastInDim S1x64 ![1] bcast_S64_S1x64_1
      (cmpi .eq (iotaInDim S64 32 0) (broadcastInDim S64 ![] bcast_S_S64 (constantI S_ 32 0#32)))) (ix2 b j)
      = IntOp.cmpi .eq (BitVec.ofNat 32 j.val) 0#32 := by
    refine (broadcastInDim_apply _ _ _ _ (ix2 0 j) fun a => ?_).trans ?_
    · fin_cases a <;> rfl
    refine (broadcastInDim_apply _ _ _ _ (ix1 j) fun a => ?_).trans rfl
    fin_cases a; rfl
  rw [select_apply, hm, (by decide : ∀ j : Fin 64, IntOp.cmpi .eq (BitVec.ofNat 32 j.val) 0#32 = if j.val = 0 then 1#1 else 0#1) j]
  split
  · exact zero_word
  · rfl

/-- The reference's log-probability of a token, from its products. -/
theorem draft_apply (P : FVec Ideal S128x32000 .f32) (xs : FVec Ideal S2x64 .f32) (ws : FVec Ideal S32000 .f32) (par dt : IVec S2x64 32)
    (b : Fin 2) (j p : Fin 64) (d : Fin 32000) (hp : par (ix2 b j) = BitVec.ofNat 32 p.val) (hd : dt (ix2 b j) = BitVec.ofNat 32 d.val) :
    rootZero (dlpOf (logpOf (scores P xs ws)) par dt) (ix2 b j)
      = if j.val = 0 then 0 else Cert.Algebra.logp
          (fun v => ((P (ix2 (flat b p) v) * xs (ix2 b p)) * ws (ix1 v)) * ((16777216 / 11744051 : ℝ) : EReal)) d := by
  rw [root_apply, gather_apply _ par dt b j p d hp hd, logp_apply]
  simp only [scores_apply]

end Cert.ReferenceIdeal.Index
-- ==== Proof.ReferenceIdeal.Result.lean ====
module

public import proofs.«01_k».proof.Proof.ReferenceIdeal.Index
public import proofs.«01_k».proof.Proof.Answer
public import Idealize.ShloMosaic.Lib.MatmulPlain
public import Idealize.ShloMosaic.Lib.Claim
public import Idealize.ShloMosaic.Lib.Pipeline.Value
public import Idealize.ShloMosaic.Lib.Pipeline.ValueKit.Geometry
public import Idealize.ShloMosaic.Lib.Pipeline.ReadBack
public import Idealize.ShloMosaic.Lib.Writes

@[expose] public section

set_option maxRecDepth 16384

noncomputable section

namespace Cert.ReferenceIdeal.Result

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.ReferenceIdeal Cert.ReferenceIdeal.Gen Cert.ReferenceIdeal.Value Cert.ReferenceIdeal.Index
open Finset (univ)

variable (m : (ℓ : Loc nD τ sig) → Buf (Elt Ideal) ℓ) (ρ : Dev nD → PrngReg)

/-! ## The products -/

/-- The flattened codes' array when the product's call starts. -/
theorem V_v0 (c : Dev nD) : V m c main_v0 = shapeCast S128x4096 (m ((c : Thread nD τ).loc main_arg0)) shapeCasts_S2x64x4096_S128x4096 := by
  show StableHlo.after _ _ _ = _
  rfl

/-- The call's one block of each input is the whole array. -/
theorem index_eq : ∀ t : Fin cfg0.N, (∀ a, win0_0.index t a = 0) ∧ (∀ a, win0_1.index t a = 0) := by decide +kernel

/-- The codes' block. -/
theorem blk_0 (c : Dev nD) (t : Fin cfg0.N) (b : Fin 2) (p : Fin 64) (k : Fin 4096) :
    iblk m c 0 t (ix2 (flat b p) k) = m ((c : Thread nD τ).loc main_arg0) (ix3 b p k) := by
  have e : V m c main_v0 (ix2 (flat b p) k) = m ((c : Thread nD τ).loc main_arg0) (ix3 b p k) := by
    rw [V_v0]
    refine shapeCast_apply _ _ _ (ix3 b p k) ?_
    rw [Shape.rowMajor_val_three, Shape.rowMajor_val_two]
    show (b.val * 64 + p.val) * 4096 + k.val = (64 * b.val + p.val) * 4096 + k.val
    omega
  refine Eq.trans ?_ e
  blk_simp [iblk]
  exact congrArg _ (Shape.idx_ext₂ (by blk_simp; rw [(index_eq t).1, Nat.zero_mul, Nat.zero_add]) (by blk_simp; rw [(index_eq t).1, Nat.zero_mul, Nat.zero_add]))

/-- The table's block. -/
theorem blk_1 (c : Dev nD) (t : Fin cfg0.N) (y : S32000x4096.Idx) : iblk m c 1 t y = m ((c : Thread nD τ).loc main_arg4) y := by
  refine Eq.trans ?_ (congrFun (V_main_arg4 m c) y)
  blk_simp [iblk]
  exact congrArg _ (Shape.idx_ext₂ (by blk_simp; rw [(index_eq t).2, Nat.zero_mul, Nat.zero_add]) (by blk_simp; rw [(index_eq t).2, Nat.zero_mul, Nat.zero_add]))

/-- The stored product at an entry. -/
theorem product_pay (x : Vec Ideal S128x4096 .fp8e4m3) (w : Vec Ideal S32000x4096 .fp8e4m3) (r : Fin 128) (v : Fin 32000) :
    k0_pay1 x w (ix2 r v) = ∑ k : Fin 4096, x (ix2 r k) * w (ix2 v k) := by
  unfold k0_pay1
  refine (Ideal.matmul_transposedRhs_apply none _ w _ r v).trans ?_
  rw [constant_apply, show Ideal.ofBits .f32 0x00000000#32 = 0 from by simp [Ideal.ofBits, Ideal.ieee], zero_add]
  refine Finset.sum_congr rfl fun k _ => ?_
  congr 1
  exact congrFun (shapeCast_self (s := S128x4096) _ _) _

/-- The call leaves the payload of its two blocks. -/
theorem out_apply (x : Vec Ideal S128x4096 .fp8e4m3) (w : Vec Ideal S32000x4096 .fp8e4m3) (r : Fin 128) (v : Fin 32000) :
    out0_2 x w (ix2 r v) = ∑ k : Fin 4096, x (ix2 r k) * w (ix2 v k) := by
  have hi : ∀ y : S128x32000.Idx, r0_2.emb y = y := fun y => Shape.idx_ext₂ (by show 0 + 1 * (y 0).val = _; omega) (by show 0 + 1 * (y 1).val = _; omega)
  have h0 : ∀ y : S128x4096.Idx, View.ld x r0_0 y = x y := fun y =>
    congrArg x (Shape.idx_ext₂ (by show 0 + 1 * (y 0).val = _; omega) (by show 0 + 1 * (y 1).val = _; omega))
  have h1 : ∀ y : S32000x4096.Idx, View.ld w r0_1 y = w y := fun y =>
    congrArg w (Shape.idx_ext₂ (by show 0 + 1 * (y 0).val = _; omega) (by show 0 + 1 * (y 1).val = _; omega))
  have e : out0_2 x w (r0_2.emb (ix2 r v)) = k0_pay1 (View.ld x r0_0) (View.ld w r0_1) (ix2 r v) := View.canon_cons_emb _ _ _ _
  rw [hi] at e
  rw [e, product_pay]
  exact Finset.sum_congr rfl fun k _ => congrArg₂ (fun a b : EReal => a * b) (h0 _) (h1 _)

/-- The product's array when the call ends. -/
theorem arr_2 (c : Dev nD) : (dats m 0 c).arrAt 2 cfg0.N = out0_2 (iblk m c 0 t0_0) (iblk m c 1 t0_0) := by
  refine (dats m 0 c).arrAt_eq_of_after_last 2 t0_0 (by decide +kernel) _ fun j => ?_
  blk_simp
  dsimp only [dats]

/-! ## The drafted log-probabilities -/

/-- The contents when the call has ended. -/
abbrev W (c : Dev nD) : Valuation τ sig (Elt Ideal) :=
  Pipeline.withArrays (cfgs 0).spec c (V0 m c) fun w => (dats m 0 c).arrAt w (cfgs 0).N

/-- The product's array when the call has ended. -/
theorem W_v1 (c : Dev nD) : W m c (Proc.devRef .tc main_v1) = out0_2 (iblk m c 0 t0_0) (iblk m c 1 t0_0) :=
  (Pipeline.withArrays_arr spec0 (by decide) c (V0 m c) (fun w => (dats m 0 c).arrAt w (cfgs 0).N) 2).trans (arr_2 m c)

/-- The call leaves the argument as launched. -/
theorem W_arg1 (c : Dev nD) : W m c (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)

/-- The call leaves the argument as launched. -/
theorem W_arg2 (c : Dev nD) : W m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)

/-- The call leaves the argument as launched. -/
theorem W_arg3 (c : Dev nD) : W m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)

/-- The call leaves the argument as launched. -/
theorem W_arg5 (c : Dev nD) : W m c (Proc.devRef .tc main_arg5) = m ((c : Thread nD τ).loc main_arg5) :=
  (Pipeline.withArrays_of_ne spec0 c (V0 m c) _ main_arg5 (by exact (by decide : ∀ w, Pipeline.arrRef spec0 w ≠ main_arg5))).trans (V_main_arg5 m c)

/-- The second result's array when the program ends. -/
def draft (c : Dev nD) : FVec Ideal S2x64 .f32 :=
  rootZero (dlpOf (logpOf (scores (out0_2 (iblk m c 0 t0_0) (iblk m c 1 t0_0)) (m ((c : Thread nD τ).loc main_arg1)) (m ((c : Thread nD τ).loc main_arg5))))
    (m ((c : Thread nD τ).loc main_arg2)) (m ((c : Thread nD τ).loc main_arg3)))

/-- It is what the host's lines after the call leave there. -/
theorem tail_draft (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29] c main_v50 = draft m c := by
  unfold Pipeline.afterTail₀ draft
  rw [← W_v1 m c, ← W_arg1 m c, ← W_arg2 m c, ← W_arg3 m c, ← W_arg5 m c]
  exact read_draft_logp (W m c)

/-- The second result at a token whose parent and drafted word are in range. -/
theorem draft_eq (c : Dev nD) (b : Fin 2) (j p : Fin 64) (d : Fin 32000)
    (hp : m ((c : Thread nD τ).loc main_arg2) (ix2 b j) = BitVec.ofNat 32 p.val)
    (hd : m ((c : Thread nD τ).loc main_arg3) (ix2 b j) = BitVec.ofNat 32 d.val) :
    draft m c (ix2 b j) = Cert.Answer.draftLogp (m ((c : Thread nD τ).loc main_arg0)) (m ((c : Thread nD τ).loc main_arg1))
      (m ((c : Thread nD τ).loc main_arg4)) (m ((c : Thread nD τ).loc main_arg5)) b j p d := by
  refine (draft_apply _ _ _ _ _ b j p d hp hd).trans ?_
  unfold Cert.Answer.draftLogp
  refine congrArg (fun f => if j.val = 0 then (0 : EReal) else Cert.Algebra.logp f d) (funext fun v => ?_)
  unfold Cert.Answer.scores
  rw [out_apply]
  refine congrArg (fun a : EReal => ((a * _) * _) * _) (Finset.sum_congr rfl fun k _ => ?_)
  exact congrArg₂ (fun a b : EReal => a * b) (blk_0 m c _ b p k) (blk_1 m c _ _)

/-- The reference's run: the second result is there, the arguments are unchanged. -/
theorem run : θ_run defs (onTc (τ := τ) (main (F := Ideal))) ⟨m, fun _ => 0, ρ⟩ (fun r => ∀ c : Dev nD,
      r.2.mem ((c.tc : Thread nD τ).loc main_v50) = draft m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v50 (Pipeline.mem_restRefs_of main_v50 (by decide) (by decide))).trans (tail_draft m c),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      ((h.1 c).1 1).trans (((dats m 0 c).arrAt_in 1 rfl _).trans ((A_eq m c 1).trans (V_main_arg4 m c))),
      (((h.1 c).2 main_arg5 (Pipeline.mem_restRefs_of main_arg5 (by decide) (by decide))).trans (W_main_arg5 m (dats m) c))⟩)
    (run_main_quiescent m ρ)

end Cert.ReferenceIdeal.Result
-- ==== Proof.Algebraic.lean ====
module

public import proofs.«01_k».proof.Defs
public import proofs.«01_k».proof.Proof.Ranges
public import proofs.«01_k».proof.Proof.KernelIdeal.Result
public import proofs.«01_k».proof.Proof.ReferenceIdeal.Result

@[expose] public section

set_option maxRecDepth 16384

noncomputable section

namespace Cert.Proof

open Idealize.ShloMosaic Idealize.ShloMosaic.TcCoe Idealize.ShloMosaic.ValueIdx Idealize.SL.Sem

/-- The shape fact of the frames' launch condition. -/
theorem drafts_facts : Cert.Pre_drafts_in_vocab.Facts := ⟨by decide⟩
/-- The shape fact of the values' launch condition. -/
theorem tables_facts : Cert.Pre_tables_in_range.Facts := ⟨by decide⟩
/-- The shape fact of the mask. -/
theorem mask_facts : Cert.On_only_draft_logp.Facts := ⟨by decide⟩

/-- The word of a number read from a word. -/
theorem word_of {x : BitVec 32} {n : ℕ} (h : x.toNat < n) : x = BitVec.ofNat 32 (⟨x.toNat, h⟩ : Fin n).val :=
  (BitVec.ofNat_toNat 32 x).trans (BitVec.setWidth_eq x) |>.symm

/-- The mask leaves out every result but the second. -/
theorem masked {x : Prop} (h : (0#1 : BitVec 1) = 1#1) : x := absurd h (by decide)

/-- The two programs' drafted log-probabilities are equal, from memories agreeing on the arguments. -/
theorem draft_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hr : ∀ y : (⟨2, ![2, 64]⟩ : Shape).Idx, BitVec.toNat (w := 32) (m ((c.tc : Thread Cert.KernelIdeal.nD Cert.KernelIdeal.τ).loc Cert.KernelIdeal.main_arg3) y) < 32000
      ∧ BitVec.toNat (w := 32) (m ((c.tc : Thread Cert.KernelIdeal.nD Cert.KernelIdeal.τ).loc Cert.KernelIdeal.main_arg2) y) < 64)
    (i : (⟨2, ![2, 64]⟩ : Shape).Idx) : Cert.ReferenceIdeal.Result.draft m' c i = Cert.KernelIdeal.Run.res1 m c i := by
  have hi : i = ix2 (n0 := 2) (n1 := 64) ⟨(i 0).val, idx2_lt0 i⟩ ⟨(i 1).val, idx2_lt1 i⟩ := Shape.idx_ext₂ rfl rfl
  rw [hi]
  obtain ⟨h3, h2⟩ := hr (ix2 ⟨(i 0).val, idx2_lt0 i⟩ ⟨(i 1).val, idx2_lt1 i⟩)
  rw [Cert.KernelIdeal.Run.res1_apply m c _ _ _ _ (word_of h2) (word_of h3),
    Cert.ReferenceIdeal.Result.draft_eq m' c _ _ _ _ ((congrFun e2 _).trans (word_of h2)) ((congrFun e3 _).trans (word_of h3)), e0, e1, e4, e5]

/-- The value claim: at the reals the two programs' drafted log-probabilities are equal. -/
theorem algebraic [Cert.KernelIdeal.Facts] [Cert.ReferenceIdeal.Facts] [Cert.Pre_tables_in_range.Facts] [Cert.On_only_draft_logp.Facts] :
    Cert.algebraic_KernelIdeal_ReferenceIdeal_on_only_draft_logp_pre_tables_in_range := fun m g m' g' hpre hagree =>
  ⟨fun c => Cert.KernelIdeal.Run.res0 m c, fun c => Cert.KernelIdeal.Run.res1 m c, fun c => Cert.KernelIdeal.Run.res2 m c, fun c => Cert.KernelIdeal.Run.res3 m c,
    (θ_run _ _ _).mono (fun _ h c => ⟨fun i hi => masked hi, fun i _ => congrFun (h c).1.2.1 i, fun i hi => masked hi, fun i hi => masked hi, (h c).2⟩)
      (Cert.KernelIdeal.Run.run m g fun c p => (Cert.Ranges.tables (hpre c) p).1),
    (θ_run _ _ _).mono (fun _ h c => ⟨fun i hi => masked hi,
        fun i _ => (congrFun (h c).1 i).trans (draft_agree m m' c (hagree c).1 (hagree c).2.1 (hagree c).2.2.1 (hagree c).2.2.2.1 (hagree c).2.2.2.2.1
          (hagree c).2.2.2.2.2 (fun y => Cert.Ranges.tables (hpre c) y) i),
        fun i hi => masked hi, fun i hi => masked hi, (h c).2⟩)
      (Cert.ReferenceIdeal.Result.run m' g')⟩

end Cert.Proof

end
-- ==== Proof.Kernel.Safe.lean ====
module

public import proofs.«01_k».proof.Proof.Gen.Kernel.Frame
public import proofs.«01_k».proof.Proof.Gen.Kernel.Skeleton
public import Idealize.ShloMosaic.Lib.WholeRead

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first branch: this is the first vocabulary tile. -/
abbrev AtFirst (i : grid0.Coords) : Prop :=
  (Scalar.cmpi .ne (Scalar.extui (Scalar.cmpi .eq (BitVec.ofNat 32 (i 0).val) 0#32)) 0#32) = 1#1

/-- The condition of the body's second branch: this is the last vocabulary tile. -/
abbrev AtLast (i : grid0.Coords) : Prop := k0_cond2 i = 1#1

/-- A row number below the vocabulary is a row of the score table, one row high and as wide as the table. -/
theorem row_inb (v : BitVec 32) (hv : v.toNat < 32000) :
    ∀ a, (![(Scalar.indexCast v).toNat, 0] : Fin 2 → ℕ) a + S1x128.size a ≤ S32000x128.size a := by
  have e : (Scalar.indexCast v).toNat = v.toNat := by
    simp only [Scalar.indexCast, BitVec.toInt_signExtend, BitVec.toNat_signExtend]
  intro a; fin_cases a
  · show (Scalar.indexCast v).toNat + 1 ≤ 32000; omega
  · show 0 + 128 ≤ 128; omega

section
variable (c : Dev nD) (i : grid0.Coords)
  (arg1 : Memref sig .tc .smem S2x64 .i32) (harg1 : arg1.IsWhole)
  (arg2 : Memref sig .tc .smem S2x64 .i32) (harg2 : arg2.IsWhole)
  (arg3 : Memref sig .tc .vmem S128x4096 .fp8e4m3) (harg3 : arg3.IsWhole)
  (arg4 : Memref sig .tc .vmem S2x64 .f32) (harg4 : arg4.IsWhole)
  (arg5 : Memref sig .tc .vmem S2x64 .i32) (harg5 : arg5.IsWhole)
  (arg6 : Memref sig .tc .vmem S250x128 .f32) (harg6 : arg6.IsWhole)
  (arg7 : Memref sig .tc .vmem S1280x4096 .fp8e4m3) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x64 .f32) (harg10 : arg10.IsWhole)
  (arg11 : Memref sig .tc .vmem S2x64 .f32) (harg11 : arg11.IsWhole)
  (arg12 : Memref sig .tc .vmem S32000x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S8x128 .f32) (harg15 : arg15.IsWhole)
  (arg16 : Memref sig .tc .vmem S128x128 .f32) (harg16 : arg16.IsWhole)
  (arg17 : Memref sig .tc .vmem S128x128 .f32) (harg17 : arg17.IsWhole)

/-- One step of the kernel on whole buffers: from the seven inputs at given contents, the draft table's words all
    below the vocabulary, and every other buffer at any contents, the body runs without fault and hands back the
    inputs as they were and every other buffer at some contents. -/
def BodySafe : Prop :=
  ∀ (x0 : Vec F S2x64 .i32) (x1 : Vec F S2x64 .i32) (x2 : Vec F S128x4096 .fp8e4m3) (x3 : Vec F S2x64 .f32) (x4 : Vec F S2x64 .i32) (x5 : Vec F S250x128 .f32) (x6 : Vec F S1280x4096 .fp8e4m3)
    (hd : ∀ p, BitVec.toNat (w := 32) (x1 p) < 32000) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
          (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E
          (cc0_medusa_accept i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 2704000 in
/-- The first tile: the running values are reset and the one-hot rows written, then the tile is done. -/
theorem safe_first (hc0 : AtFirst i) (hc1 : ¬AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

set_option maxHeartbeats 1200000 in
/-- A tile between the first and the last. -/
theorem safe_middle (hc0 : ¬AtFirst i) (hc1 : ¬AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part69_eq_skeleton, k0_part70_eq_skeleton, k0_part71_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

set_option maxHeartbeats 4376000 in
/-- The last tile: the tile is done, then the 128 draft rows are fetched and the four results stored. -/
theorem safe_last (hc0 : ¬AtFirst i) (hc1 : AtLast i) :
    BodySafe (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  intro x0 x1 x2 x3 x4 x5 x6 hd E K
  simp only [cc0_medusa_accept_eq_skeleton]; unfold cc0_medusa_accept_skel
  simp only [k0_part68_eq_skeleton, k0_part69_eq_skeleton, k0_part70_eq_skeleton, k0_part71_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  have hw : ∀ (R : LoadRect S2x64) p, BitVec.toNat (w := 32) (arg2.view.readAt (Elt F) R (harg2.unread x1) p) < 32000 :=
    fun R p => by rw [harg2.readAt_unread]; exact hd _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | exact fun _ => row_inb _ (hw _ _))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end

end Cert.Kernel.Hand

end
-- ==== Proof.Kernel.Frame.lean ====
module

public import proofs.«01_k».proof.Proof.Kernel.Safe

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the frame needs of the launch: every draft token is a row of the vocabulary. -/
def DraftsBelow : Prop :=
  ∀ (c : Dev nD) (p : S2x64.Idx), BitVec.toNat (w := 32) (m ((c.tc : Thread nD τ).loc main_arg3) p) < 32000

/-- The first branch is taken at the first grid point only. -/
theorem atFirst_iff : ∀ t : Fin cfg0.N, AtFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [AtFirst, e0]
    word_cmp
   : ∀ t : Fin grid0.N, AtFirst (grid0.coords t) ↔ t.val % 25 = 0)

/-- The second branch is taken at the last grid point only. -/
theorem atLast_iff : ∀ t : Fin cfg0.N, AtLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [AtLast, k0_cond2, e0]
    word_cmp
   : ∀ t : Fin grid0.N, AtLast (grid0.coords t) ↔ t.val % 25 = 24)

/-! The buffers a point's body is given: window `w`'s current one, and the six scratch buffers. -/

/-- A window's staging buffer at a point. -/
abbrev stg0 (t : Fin cfg0.N) : Memref sig .tc .smem S2x64 .i32 := win0_0.stage (cfg0.slots t 0)
/-- A window's staging buffer at a point. -/
abbrev stg1 (t : Fin cfg0.N) : Memref sig .tc .smem S2x64 .i32 := win0_1.stage (cfg0.slots t 1)
/-- A window's staging buffer at a point. -/
abbrev stg2 (t : Fin cfg0.N) : Memref sig .tc .vmem S128x4096 .fp8e4m3 := win0_2.stage (cfg0.slots t 2)
/-- A window's staging buffer at a point. -/
abbrev stg3 (t : Fin cfg0.N) : Memref sig .tc .vmem S2x64 .f32 := win0_3.stage (cfg0.slots t 3)
/-- A window's staging buffer at a point. -/
abbrev stg4 (t : Fin cfg0.N) : Memref sig .tc .vmem S2x64 .i32 := win0_4.stage (cfg0.slots t 4)
/-- A window's staging buffer at a point. -/
abbrev stg5 (t : Fin cfg0.N) : Memref sig .tc .vmem S250x128 .f32 := win0_5.stage (cfg0.slots t 5)
/-- A window's staging buffer at a point. -/
abbrev stg6 (t : Fin cfg0.N) : Memref sig .tc .vmem S1280x4096 .fp8e4m3 := win0_6.stage (cfg0.slots t 6)
/-- A window's staging buffer at a point. -/
abbrev stg7 (t : Fin cfg0.N) : Memref sig .tc .vmem S2x64 .f32 := win0_7.stage (cfg0.slots t 7)
/-- A window's staging buffer at a point. -/
abbrev stg8 (t : Fin cfg0.N) : Memref sig .tc .vmem S2x64 .f32 := win0_8.stage (cfg0.slots t 8)
/-- A window's staging buffer at a point. -/
abbrev stg9 (t : Fin cfg0.N) : Memref sig .tc .vmem S2x64 .f32 := win0_9.stage (cfg0.slots t 9)
/-- A window's staging buffer at a point. -/
abbrev stg10 (t : Fin cfg0.N) : Memref sig .tc .vmem S2x64 .f32 := win0_10.stage (cfg0.slots t 10)
/-- A scratch buffer, whole. -/
abbrev scr0 : Memref sig .tc .vmem S32000x128 .f32 := Memref.whole cc0_scratch0
/-- A scratch buffer, whole. -/
abbrev scr1 : Memref sig .tc .vmem S8x128 .f32 := Memref.whole cc0_scratch1
/-- A scratch buffer, whole. -/
abbrev scr2 : Memref sig .tc .vmem S8x128 .f32 := Memref.whole cc0_scratch2
/-- A scratch buffer, whole. -/
abbrev scr3 : Memref sig .tc .vmem S8x128 .f32 := Memref.whole cc0_scratch3
/-- A scratch buffer, whole. -/
abbrev scr4 : Memref sig .tc .vmem S128x128 .f32 := Memref.whole cc0_scratch4
/-- A scratch buffer, whole. -/
abbrev scr5 : Memref sig .tc .vmem S128x128 .f32 := Memref.whole cc0_scratch5

/-- The launch's invariant, the scratch buffers as memrefs owned at some contents. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]
  simp only [scr0, scr1, scr2, scr3, scr4, scr5, owns_whole]; try rfl

/-- The block of draft tokens a point is given holds tokens below the vocabulary. -/
theorem drafts_block (hD : DraftsBelow m) (c : Dev nD) (t : Fin cfg0.N) (p : S2x64.Idx) :
    BitVec.toNat (w := 32) (iblk m c 1 t p) < 32000 := by
  have h : ∀ q : S2x64.Idx, BitVec.toNat (w := 32) (V m c main_arg3 q) < 32000 := fun q => by
    rw [V_main_arg3]; exact hD c q
  exact h _

/-- The windows of which nothing is said: the four results. -/
def forgets : Fin 11 → Bool := fun w => w.val == 7 || w.val == 8 || w.val == 9 || w.val == 10

/-- The pipeline's proof data: inputs stay at their blocks, the results are left unnamed, the scratch buffers hold
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-! Each input's buffer holds its block before the body, and is left holding it. -/

/-- An input window's buffer holds its block before the body. -/
theorem before_0 (c : Dev nD) (t : Fin cfg0.N) (d) : (dats m 0 c).before 0 t d = iblk m c 0 t :=
  before0_0_of m (dats m 0 c) (A_eq m c 0) (fun _ => by dsimp only [dats]) t d
/-- An input window's buffer holds its block before the body. -/
theorem before_1 (c : Dev nD) (t : Fin cfg0.N) (d) : (dats m 0 c).before 1 t d = iblk m c 1 t :=
  before0_1_of m (dats m 0 c) (A_eq m c 1) (fun _ => by dsimp only [dats]) t d
/-- An input window's buffer holds its block before the body. -/
theorem before_2 (c : Dev nD) (t : Fin cfg0.N) (d) : (dats m 0 c).before 2 t d = iblk m c 2 t :=
  before0_2_of m (dats m 0 c) (A_eq m c 2) (fun _ => by dsimp only [dats]) t d
/-- An input window's buffer holds its block before the body. -/
theorem before_3 (c : Dev nD) (t : Fin cfg0.N) (d) : (dats m 0 c).before 3 t d = iblk m c 3 t :=
  before0_3_of m (dats m 0 c) (A_eq m c 3) (fun _ => by dsimp only [dats]) t d
/-- An input window's buffer holds its block before the body. -/
theorem before_4 (c : Dev nD) (t : Fin cfg0.N) (d) : (dats m 0 c).before 4 t d = iblk m c 4 t :=
  before0_4_of m (dats m 0 c) (A_eq m c 4) (fun _ => by dsimp only [dats]) t d
/-- An input window's buffer holds its block before the body. -/
theorem before_5 (c : Dev nD) (t : Fin cfg0.N) (d) : (dats m 0 c).before 5 t d = iblk m c 5 t :=
  before0_5_of m (dats m 0 c) (A_eq m c 5) (fun _ => by dsimp only [dats]) t d
/-- An input window's buffer holds its block before the body. -/
theorem before_6 (c : Dev nD) (t : Fin cfg0.N) (d) : (dats m 0 c).before 6 t d = iblk m c 6 t :=
  before0_6_of m (dats m 0 c) (A_eq m c 6) (fun _ => by dsimp only [dats]) t d
/-- The body leaves an input window's buffer holding its block. -/
theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl]; dsimp only [dats]
/-- The body leaves an input window's buffer holding its block. -/
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl]; dsimp only [dats]
/-- The body leaves an input window's buffer holding its block. -/
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl]; dsimp only [dats]
/-- The body leaves an input window's buffer holding its block. -/
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl]; dsimp only [dats]
/-- The body leaves an input window's buffer holding its block. -/
theorem leaves_4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl]; dsimp only [dats]
/-- The body leaves an input window's buffer holding its block. -/
theorem leaves_5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl]; dsimp only [dats]
/-- The body leaves an input window's buffer holding its block. -/
theorem leaves_6 (c : Dev nD) (t : Fin cfg0.N) :
    (dats m 0 c).leavesExact 6 t = owns (c : Thread nD τ) (stg6 t) fullShare (iblk m c 6 t) := by
  unfold Dat.leavesExact; rw [show cfg0.idle 6 (grid0.coords t) = false from rfl]; dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare d)
    ∗ (∃ d, owns (c : Thread nD τ) (stg8 t) fullShare d)
    ∗ (∃ d, owns (c : Thread nD τ) (stg9 t) fullShare d)
    ∗ (∃ d, owns (c : Thread nD τ) (stg10 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (stg7 t) fullShare d)
    ∗ (∃ d, owns (c : Thread nD τ) (stg8 t) fullShare d)
    ∗ (∃ d, owns (c : Thread nD τ) (stg9 t) fullShare d)
    ∗ (∃ d, owns (c : Thread nD τ) (stg10 t) fullShare d))

/-- The body is safe at every grid point: the three cases together. -/
theorem safe_at (c : Dev nD) (t : Fin cfg0.N) :
    BodySafe (F := F) c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10))
      scr0 (Memref.isWhole_whole _) scr1 (Memref.isWhole_whole _) scr2 (Memref.isWhole_whole _) scr3 (Memref.isWhole_whole _) scr4 (Memref.isWhole_whole _) scr5 (Memref.isWhole_whole _) := by
  have hN : t.val < 25 := lt_of_lt_of_eq t.isLt (show cfg0.N = 25 from N_0)
  by_cases h0 : t.val % 25 = 0
  · exact safe_first c _ _ _ _ _ _ _ _ _ _ _ _ _ _ _ _ _ _ _ _ _ _ _ _ _ _ _ _ _ _ _ _ _ _ _ ((atFirst_iff t).mpr h0)
        (fun h => by have := (atLast_iff t).mp h; omega)
  · by_cases h1 : t.val % 25 = 24
    · exact safe_last c _ _ _ _ _ _ _ _ _ _ _ _ _ _ _ _ _ _ _ _ _ _ _ _ _ _ _ _ _ _ _ _ _ _ _ (fun h => h0 ((atFirst_iff t).mp h))
        ((atLast_iff t).mpr h1)
    · exact safe_middle c _ _ _ _ _ _ _ _ _ _ _ _ _ _ _ _ _ _ _ _ _ _ _ _ _ _ _ _ _ _ _ _ _ _ _ (fun h => h0 ((atFirst_iff t).mp h))
        (fun h => h1 ((atLast_iff t).mp h))

/-- The body at any point, from what the pipeline hands it to what the pipeline takes back. -/
theorem sound_body (hD : DraftsBelow m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, scratch_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (safe_at c t (iblk m c 0 t) (iblk m c 1 t) (iblk m c 2 t) (iblk m c 3 t) (iblk m c 4 t) (iblk m c 5 t) (iblk m c 6 t) (drafts_block m hD c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (hD : DraftsBelow m) (c : Dev nD) :
    BodyObligation (dats (F := F) m 0 c) (defs₀ (F := F)) Variants.none () Set.univ forgets := fun t => by
  rw [bigSep_W0, bigSep_W0, defs₀_row]
  exact triple_restated (sound_body m hD c t) rfl .rfl fun _ => .rfl

set_option backward.isDefEq.respectTransparency.types false in
/-- The launch: every run ends, with the pipeline's input arrays and every other array as they were and every counter
    at zero. -/
theorem run_main (hD : DraftsBelow m) : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m hD c).loose) (hq := fun _ _ _ => rfl)
    (howed := fun _ _ => rfl) (V := V m) (hmain := hmain m Variants.none) (hA := A_eq m)
    (hin := fun _ => .rfl) (hout := fun _ => .rfl)

/-- The frame: with every draft token in the vocabulary, every run of the kernel's program ends without fault, the
    argument arrays unchanged and every counter at zero. -/
theorem frame (hD : DraftsBelow m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      ((hr.1 c).2 main_arg0 (Pipeline.mem_restRefs_of main_arg0 (by decide) (by decide))).trans (V_main_arg0 m c),
      (Pipeline.RDat.FramePost.arr_in hr.1 c 3 rfl).trans ((A_eq m c 3).trans (V_main_arg1 m c)),
      (Pipeline.RDat.FramePost.arr_in hr.1 c 4 rfl).trans ((A_eq m c 4).trans (V_main_arg2 m c)),
      (Pipeline.RDat.FramePost.arr_in hr.1 c 1 rfl).trans ((A_eq m c 1).trans (V_main_arg3 m c)),
      (Pipeline.RDat.FramePost.arr_in hr.1 c 6 rfl).trans ((A_eq m c 6).trans (V_main_arg4 m c)),
      ((hr.1 c).2 main_arg5 (Pipeline.mem_restRefs_of main_arg5 (by decide) (by decide))).trans (V_main_arg5 m c)⟩, hr.2⟩)
    (run_main m ρ hD)

end Cert.Kernel.Hand

end
-- ==== Proof.lean ====
/- The certificate's claims, each from the module that proves it. -/
module

public import proofs.«01_k».proof.Defs
public import proofs.«01_k».proof.Proof.Ranges
public import proofs.«01_k».proof.Proof.Algebraic
public import proofs.«01_k».proof.Proof.Kernel.Frame
public import proofs.«01_k».proof.Proof.KernelIdeal.Frame
public import proofs.«01_k».proof.Proof.Gen.ReferenceIdeal.Frame

@[expose] public section

noncomputable section

namespace Cert.Proof

open Idealize.ShloMosaic Idealize.SL.Sem

/-- Every claim of the certificate. -/
theorem claim : Cert.Claim :=
  haveI := drafts_facts
  haveI := tables_facts
  haveI := mask_facts
  haveI := Cert.KernelIdeal.Gen.facts
  haveI := Cert.ReferenceIdeal.Gen.facts
  ⟨Cert.Kernel.Gen.facts, Cert.KernelIdeal.Gen.facts, Cert.ReferenceIdeal.Gen.facts, drafts_facts, tables_facts, mask_facts,
    fun m ρ h => Cert.Kernel.Hand.frame m ρ fun c p => Cert.Ranges.drafts (h c) p,
    fun m ρ h => Cert.KernelIdeal.Hand.frame m ρ fun c p => Cert.Ranges.drafts (h c) p,
    fun m ρ h => Cert.KernelIdeal.Hand.frame m ρ fun c p => (Cert.Ranges.tables (h c) p).1,
    fun m ρ _ => Cert.ReferenceIdeal.Gen.frame m ρ,
    fun m ρ _ => Cert.ReferenceIdeal.Gen.frame m ρ,
    ⟨IdealRules.named_const.statement Cert.KernelIdeal.κ "log2e_over_t" .f32 0x4003E74F#32 _ rfl,
      IdealRules.named_const.statement Cert.KernelIdeal.κ "log2e" .f32 0x3FB8AA3B#32 _ rfl,
      IdealRules.named_const.statement Cert.KernelIdeal.κ "ln_2" .f32 0x3F317218#32 _ rfl,
      IdealRules.named_const.statement Cert.KernelIdeal.κ "neg_log2e" .f32 0xBFB8AA3B#32 _ rfl⟩,
    algebraic⟩

end Cert.Proof

end
